-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_finite22 [hPre_finite22 : Cert.Pre_finite22.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_finite22.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)) (m ((c.tc : Thread Cert.Kernel22Ideal.nD Cert.Kernel22Ideal.τ).loc Cert.Kernel22Ideal.main_arg4))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_finite22 [hPre_finite22 : Cert.Pre_finite22.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_finite22.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) (m ((c.tc : Thread Cert.Reference22Ideal.nD Cert.Reference22Ideal.τ).loc Cert.Reference22Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Kernel22Ideal_pre_finite22 [hKernel22Ideal : Cert.Kernel22Ideal.Facts] [hPre_finite22 : Cert.Pre_finite22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_finite22 m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Reference22Ideal_pre_finite22 [hReference22Ideal : Cert.Reference22Ideal.Facts] [hPre_finite22 : Cert.Pre_finite22.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_finite22 m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def preserves_Kernel_KernelIdeal : Prop :=
  IdealRules.named_const.Statement Cert.KernelIdeal.κ "scale_log2e" .f32 0x3E16C740#32 (((3424635 / 33554432) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v40_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v40_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v33) = v0 c
          ∧ r.2.mem ((c.tc : Thread Cert.Reference9Ideal.nD Cert.Reference9Ideal.τ).loc Cert.Reference9Ideal.main_v34) = v1 c
          ∧ r.2.mem ((c.tc : Thread Cert.Reference9Ideal.nD Cert.Reference9Ideal.τ).loc Cert.Reference9Ideal.main_v35) = v2 c
          ∧ r.2.mem ((c.tc : Thread Cert.Reference9Ideal.nD Cert.Reference9Ideal.τ).loc Cert.Reference9Ideal.main_v36) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_v10) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_v11) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v18) = v0 c
          ∧ r.2.mem ((c.tc : Thread Cert.Reference13Ideal.nD Cert.Reference13Ideal.τ).loc Cert.Reference13Ideal.main_v19) = v1 c
          ∧ r.2.mem ((c.tc : Thread Cert.Reference13Ideal.nD Cert.Reference13Ideal.τ).loc Cert.Reference13Ideal.main_v27) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v15) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_v16) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v12) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v16) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal_pre_finite22 [hKernel22Ideal : Cert.Kernel22Ideal.Facts] [hReference22Ideal : Cert.Reference22Ideal.Facts] [hPre_finite22 : Cert.Pre_finite22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_finite22 m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v42) = v0 c
          ∧ r.2.mem ((c.tc : Thread Cert.Reference22Ideal.nD Cert.Reference22Ideal.τ).loc Cert.Reference22Ideal.main_v43) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts) (hPre_finite22 : Cert.Pre_finite22.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Kernel22Ideal_pre_finite22 (hKernel22Ideal := hKernel22Ideal) (hPre_finite22 := hPre_finite22)
    ∧ quiescent_Reference22Ideal (hReference22Ideal := hReference22Ideal)
    ∧ quiescent_Reference22Ideal_pre_finite22 (hReference22Ideal := hReference22Ideal) (hPre_finite22 := hPre_finite22)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal_pre_finite22 (hKernel22Ideal := hKernel22Ideal) (hReference22Ideal := hReference22Ideal) (hPre_finite22 := hPre_finite22)
-- ==== Pre_finite.lean ====
abbrev S8192x1024 : Shape := ⟨2, ![8192, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)

variable [Facts]

def fn {F : FTy → Type} [FloatOps F] (main_arg0 : FVec F S8192x1024 .bf16) (main_arg1 : FVec F S8192x1024 .bf16) (main_arg2 : FVec F S8192x1024 .bf16) (main_arg3 : FVec F S8192x1024 .bf16) : IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : IVec S8192x1024 1 := andi main_v3 main_v7
  let main_v9 : FVec F S8192x1024 .f32 := (extf .f32 · bitsLt_bf16_f32) main_arg2
  let main_v10 : FVec F S8192x1024 .f32 := Host.absf main_v9
  let main_cst_1 : FVec F S_ .f32 := constant S_ .f32 0x7F800000#32
  let main_v11 : FVec F S8192x1024 .f32 := broadcastInDim S8192x1024 ![] bcast_S_S8192x1024 main_cst_1
  let main_v12 : IVec S8192x1024 1 := cmpf .olt main_v10 main_v11
  let main_v13 : IVec S8192x1024 1 := andi main_v8 main_v12
  let main_v14 : FVec F S8192x1024 .f32 := (extf .f32 · bitsLt_bf16_f32) main_arg3
  let main_v15 : FVec F S8192x1024 .f32 := Host.absf main_v14
  let main_cst_2 : FVec F S_ .f32 := constant S_ .f32 0x7F800000#32
  let main_v16 : FVec F S8192x1024 .f32 := broadcastInDim S8192x1024 ![] bcast_S_S8192x1024 main_cst_2
  let main_v17 : IVec S8192x1024 1 := cmpf .olt main_v15 main_v16
  let main_v18 : IVec S8192x1024 1 := andi main_v13 main_v17
  main_v18
-- ==== Pre_finite22.lean ====
abbrev S8192x1024 : Shape := ⟨2, ![8192, 1024]⟩
abbrev S1024x1024 : Shape := ⟨2, ![1024, 1024]⟩
abbrev S8192x5120 : Shape := ⟨2, ![8192, 5120]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S8192x5120 : S_.BroadcastsInDim S8192x5120 (![] : Fin 0 → Fin S8192x5120.rank)
  reducesTo_S8192x5120_S_d0_1 : S8192x5120.ReducesTo [0, 1] S_

variable [Facts]

def fn_part1 {F : FTy → Type} [FloatOps F] (main_arg4 : FVec F S8192x5120 .f32) (main_v15 : IVec S_ 1) (main_v16 : FVec F S8192x1024 .f32) (main_cst_4 : FVec F S_ .f32) : IVec S_ 1 :=
  let main_v17 : FVec F S8192x1024 .f32 := broadcastInDim S8192x1024 ![] bcast_S_S8192x1024 main_cst_4
  let main_v18 : IVec S8192x1024 1 := cmpf .olt main_v16 main_v17
  let main_c_5 : IVec S_ 1 := constantI S_ 1 1#1
  let main_v19 : IVec S_ 1 := (fun x v => Host.reduce IntOp.andi x v reducesTo_S8192x1024_S_d0_1 h_S_) main_v18 main_c_5
  let main_v20 : IVec S_ 1 := andi main_v15 main_v19
  let main_v21 : FVec F S8192x5120 .f32 := Host.absf main_arg4
  let main_cst_6 : FVec F S_ .f32 := constant S_ .f32 0x7F800000#32
  let main_v22 : FVec F S8192x5120 .f32 := broadcastInDim S8192x5120 ![] bcast_S_S8192x5120 main_cst_6
  let main_v23 : IVec S8192x5120 1 := cmpf .olt main_v21 main_v22
  let main_c_7 : IVec S_ 1 := constantI S_ 1 1#1
  let main_v24 : IVec S_ 1 := (fun x v => Host.reduce IntOp.andi x v reducesTo_S8192x5120_S_d0_1 h_S_) main_v23 main_c_7
  let main_v25 : IVec S_ 1 := andi main_v20 main_v24
  main_v25

def fn {F : FTy → Type} [FloatOps F] (main_arg0 : FVec F S8192x1024 .bf16) (main_arg1 : FVec F S1024x1024 .bf16) (main_arg2 : FVec F S8192x1024 .f32) (main_arg3 : FVec F S8192x1024 .f32) (main_arg4 : FVec F S8192x5120 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S8192x1024 .f32 := Host.absf main_arg2
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v10 main_v14
  let main_v16 : FVec F S8192x1024 .f32 := Host.absf main_arg3
  let main_cst_4 : FVec F S_ .f32 := constant S_ .f32 0x7F800000#32
  fn_part1 (F := F) main_arg4 main_v15 main_v16 main_cst_4
-- ==== Kernel.lean ====
abbrev S8192x1024 : Shape := ⟨2, ![8192, 1024]⟩
abbrev S8192x8x128 : Shape := ⟨3, ![8192, 8, 128]⟩
abbrev S8x8192x128 : Shape := ⟨3, ![8, 8192, 128]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8192x128 : Shape := ⟨2, ![8192, 128]⟩
abbrev S512x128 : Shape := ⟨2, ![512, 128]⟩
abbrev S512x512 : Shape := ⟨2, ![512, 512]⟩
abbrev S32x128 : Shape := ⟨2, ![32, 128]⟩

abbrev nBuf : Space → Nat
  | .hbm => 52
  | .vmem => 26
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S8192x8x128, .f32⟩
  | .hbm, ⟨6, _⟩ => ⟨S8x8192x128, .f32⟩
  | .hbm, ⟨7, _⟩ => ⟨S8192x1024, .f32⟩
  | .hbm, ⟨8, _⟩ => ⟨S8192x8x128, .f32⟩
  | .hbm, ⟨9, _⟩ => ⟨S8x8192x128, .f32⟩
  | .hbm, ⟨10, _⟩ => ⟨S8192x1024, .f32⟩
  | .hbm, ⟨11, _⟩ => ⟨S8192x8x128, .f32⟩
  | .hbm, ⟨12, _⟩ => ⟨S8x8192x128, .f32⟩
  | .hbm, ⟨13, _⟩ => ⟨S8192x1024, .f32⟩
  | .hbm, ⟨14, _⟩ => ⟨S8192x8x128, .f32⟩
  | .hbm, ⟨15, _⟩ => ⟨S8x8192x128, .f32⟩
  | .hbm, ⟨16, _⟩ => ⟨S8x8192x8192, .f32⟩
  | .hbm, ⟨17, _⟩ => ⟨S_, .f32⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192, .f32⟩
  | .hbm, ⟨22, _⟩ => ⟨S8x8192x1, .f32⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192, .f32⟩
  | .hbm, ⟨28, _⟩ => ⟨S8x8192x1, .f32⟩
  | .hbm, ⟨29, _⟩ => ⟨S8x8192x8192, .f32⟩
  | .hbm, ⟨30, _⟩ => ⟨S8x8192x8192, .f32⟩
  | .hbm, ⟨31, _⟩ => ⟨S8x8192x128, .f32⟩
  | .hbm, ⟨32, _⟩ => ⟨S8x8192x1, .f32⟩
  | .hbm, ⟨33, _⟩ => ⟨S8x8192x1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S8x8192x1, .f32⟩
  | .hbm, ⟨38, _⟩ => ⟨S8x8192x1, .f32⟩
  | .hbm, ⟨39, _⟩ => ⟨S8x8192x128, .f32⟩
  | .hbm, ⟨40, _⟩ => ⟨S_, .f32⟩
  | .hbm, ⟨41, _⟩ => ⟨S8x8192, .f32⟩
  | .hbm, ⟨42, _⟩ => ⟨S8x8192x1, .f32⟩
  | .hbm, ⟨43, _⟩ => ⟨S8x8192x128, .f32⟩
  | .hbm, ⟨44, _⟩ => ⟨S8192x8x128, .f32⟩
  | .hbm, ⟨45, _⟩ => ⟨S8192x1024, .f32⟩
  | .hbm, ⟨46, _⟩ => ⟨S8x8192x128, .f32⟩
  | .hbm, ⟨47, _⟩ => ⟨S8192x8x128, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .local _ .vmem, ⟨0, _⟩ => ⟨S8192x128, .bf16⟩
  | .local _ .vmem, ⟨1, _⟩ => ⟨S8192x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S8192x128, .bf16⟩
  | .local _ .vmem, ⟨7, _⟩ => ⟨S8192x128, .bf16⟩
  | .local _ .vmem, ⟨8, _⟩ => ⟨S8192x128, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | .local _ .vmem, ⟨13, _⟩ => ⟨S8192x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x512, .f32⟩
  | .local _ .vmem, ⟨19, _⟩ => ⟨S512x512, .f32⟩
  | .local _ .vmem, ⟨20, _⟩ => ⟨S512x512, .bf16⟩
  | .local _ .vmem, ⟨21, _⟩ => ⟨S512x512, .bf16⟩
  | .local _ .vmem, ⟨22, _⟩ => ⟨S512x512, .f32⟩
  | .local _ .vmem, ⟨23, _⟩ => ⟨S512x512, .f32⟩
  | .local _ .vmem, ⟨24, _⟩ => ⟨S512x512, .bf16⟩
  | .local _ .vmem, ⟨25, _⟩ => ⟨S512x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40_0 : Ref sig .tc := ⟨.hbm, 49, rfl⟩
abbrev main_v40_1 : Ref sig .tc := ⟨.hbm, 50, rfl⟩
abbrev main_v40_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

def k0_mult1 : BitVec 32 :=
  let c0_i32_9 : BitVec 32 := 0#32
  c0_i32_9
@[reducible] def k0_t1_loop : Scf.Loop 32 :=
  let c0_i32_18 : BitVec 32 := 0#32
  let c8_i32 : BitVec 32 := 8#32
  let v22 : BitVec 32 := Scalar.addi c0_i32_18 c8_i32
  let c1_i32 : BitVec 32 := 1#32
  ⟨c0_i32_18, v22, c1_i32⟩
def k0_mult2 (k0_t1 : Fin k0_t1_loop.trips) : BitVec 32 :=
  let c2_i32 : BitVec 32 := 2#32
  let c0_i32_18 : BitVec 32 := 0#32
  let c1_i32 : BitVec 32 := 1#32
  let arg19 : BitVec 32 := Scf.iv c0_i32_18 c1_i32 k0_t1
  let v23 : BitVec 32 := Scalar.muli c2_i32 arg19
  let c1_i32_20 : BitVec 32 := 1#32
  let v24 : BitVec 32 := Scalar.addi v23 c1_i32_20
  let c15_i32 : BitVec 32 := 15#32
  let v25 : BitVec 32 := Scalar.minsi v24 c15_i32
  let c512_i32 : BitVec 32 := 512#32
  let v26 : BitVec 32 := Scalar.muli v25 c512_i32
  v26
def k0_off1 (k0_t1 : Fin k0_t1_loop.trips) : Fin 2 → Nat :=
  let c2_i32 : BitVec 32 := 2#32
  let c0_i32_18 : BitVec 32 := 0#32
  let c1_i32 : BitVec 32 := 1#32
  let arg19 : BitVec 32 := Scf.iv c0_i32_18 c1_i32 k0_t1
  let v23 : BitVec 32 := Scalar.muli c2_i32 arg19
  let c1_i32_20 : BitVec 32 := 1#32
  let v24 : BitVec 32 := Scalar.addi v23 c1_i32_20
  let c15_i32 : BitVec 32 := 15#32
  let v25 : BitVec 32 := Scalar.minsi v24 c15_i32
  let c512_i32 : BitVec 32 := 512#32
  let v26 : BitVec 32 := Scalar.muli v25 c512_i32
  let v27 : BitVec 32 := v26
  let v28 : Index := Scalar.indexCast v27
  let c0_21 : Index := 0#32
  ![v28.toNat, 0]
def k0_mult3 (k0_t1 : Fin k0_t1_loop.trips) : BitVec 32 :=
  let c2_i32 : BitVec 32 := 2#32
  let c0_i32_18 : BitVec 32 := 0#32
  let c1_i32 : BitVec 32 := 1#32
  let arg19 : BitVec 32 := Scf.iv c0_i32_18 c1_i32 k0_t1
  let v23 : BitVec 32 := Scalar.muli c2_i32 arg19
  let c512_i32_29 : BitVec 32 := 512#32
  let v40 : BitVec 32 := Scalar.muli v23 c512_i32_29
  let c0_i32_30 : BitVec 32 := 0#32
  let v41 : BitVec 32 := Scalar.addi v40 c0_i32_30
  v41
def k0_off2 (k0_t1 : Fin k0_t1_loop.trips) (c0_i32_30 : BitVec 32) : Fin 2 → Nat :=
  let c2_i32 : BitVec 32 := 2#32
  let c0_i32_18 : BitVec 32 := 0#32
  let c1_i32 : BitVec 32 := 1#32
  let arg19 : BitVec 32 := Scf.iv c0_i32_18 c1_i32 k0_t1
  let v23 : BitVec 32 := Scalar.muli c2_i32 arg19
  let c512_i32_29 : BitVec 32 := 512#32
  let v40 : BitVec 32 := Scalar.muli v23 c512_i32_29
  let v41 : BitVec 32 := Scalar.addi v40 c0_i32_30
  let v42 : BitVec 32 := v41
  let v43 : Index := Scalar.indexCast v42
  let c0_31 : Index := 0#32
  ![v43.toNat, 0]
def k0_mult4 (k0_t1 : Fin k0_t1_loop.trips) : BitVec 32 :=
  let c2_i32 : BitVec 32 := 2#32
  let c0_i32_18 : BitVec 32 := 0#32
  let c1_i32 : BitVec 32 := 1#32
  let arg19 : BitVec 32 := Scf.iv c0_i32_18 c1_i32 k0_t1
  let v23 : BitVec 32 := Scalar.muli c2_i32 arg19
  let c512_i32_70 : BitVec 32 := 512#32
  let v121 : BitVec 32 := Scalar.muli v23 c512_i32_70
  let c32_i32 : BitVec 32 := 32#32
  let v122 : BitVec 32 := Scalar.addi v121 c32_i32
  v122
def k0_mult5 (k0_t1 : Fin k0_t1_loop.trips) : BitVec 32 :=
  let c2_i32 : BitVec 32 := 2#32
  let c0_i32_18 : BitVec 32 := 0#32
  let c1_i32 : BitVec 32 := 1#32
  let arg19 : BitVec 32 := Scf.iv c0_i32_18 c1_i32 k0_t1
  let v23 : BitVec 32 := Scalar.muli c2_i32 arg19
  let c512_i32_112 : BitVec 32 := 512#32
  let v202 : BitVec 32 := Scalar.muli v23 c512_i32_112
  let c64_i32 : BitVec 32 := 64#32
  let v203 : BitVec 32 := Scalar.addi v202 c64_i32
  v203
def k0_mult6 (k0_t1 : Fin k0_t1_loop.trips) : BitVec 32 :=
  let c2_i32 : BitVec 32 := 2#32
  let c0_i32_18 : BitVec 32 := 0#32
  let c1_i32 : BitVec 32 := 1#32
  let arg19 : BitVec 32 := Scf.iv c0_i32_18 c1_i32 k0_t1
  let v23 : BitVec 32 := Scalar.muli c2_i32 arg19
  let c512_i32_154 : BitVec 32 := 512#32
  let v283 : BitVec 32 := Scalar.muli v23 c512_i32_154
  let c96_i32 : BitVec 32 := 96#32
  let v284 : BitVec 32 := Scalar.addi v283 c96_i32
  v284
def k0_mult7 (k0_t1 : Fin k0_t1_loop.trips) : BitVec 32 :=
  let c2_i32 : BitVec 32 := 2#32
  let c0_i32_18 : BitVec 32 := 0#32
  let c1_i32 : BitVec 32 := 1#32
  let arg19 : BitVec 32 := Scf.iv c0_i32_18 c1_i32 k0_t1
  let v23 : BitVec 32 := Scalar.muli c2_i32 arg19
  let c512_i32_196 : BitVec 32 := 512#32
  let v364 : BitVec 32 := Scalar.muli v23 c512_i32_196
  let c128_i32 : BitVec 32 := 128#32
  let v365 : BitVec 32 := Scalar.addi v364 c128_i32
  v365
def k0_mult8 (k0_t1 : Fin k0_t1_loop.trips) : BitVec 32 :=
  let c2_i32 : BitVec 32 := 2#32
  let c0_i32_18 : BitVec 32 := 0#32
  let c1_i32 : BitVec 32 := 1#32
  let arg19 : BitVec 32 := Scf.iv c0_i32_18 c1_i32 k0_t1
  let v23 : BitVec 32 := Scalar.muli c2_i32 arg19
  let c512_i32_239 : BitVec 32 := 512#32
  let v445 : BitVec 32 := Scalar.muli v23 c512_i32_239
  let c160_i32 : BitVec 32 := 160#32
  let v446 : BitVec 32 := Scalar.addi v445 c160_i32
  v446
def k0_mult9 (k0_t1 : Fin k0_t1_loop.trips) : BitVec 32 :=
  let c2_i32 : BitVec 32 := 2#32
  let c0_i32_18 : BitVec 32 := 0#32
  let c1_i32 : BitVec 32 := 1#32
  let arg19 : BitVec 32 := Scf.iv c0_i32_18 c1_i32 k0_t1
  let v23 : BitVec 32 := Scalar.muli c2_i32 arg19
  let c512_i32_281 : BitVec 32 := 512#32
  let v526 : BitVec 32 := Scalar.muli v23 c512_i32_281
  let c192_i32 : BitVec 32 := 192#32
  let v527 : BitVec 32 := Scalar.addi v526 c192_i32
  v527
def k0_mult10 (k0_t1 : Fin k0_t1_loop.trips) : BitVec 32 :=
  let c2_i32 : BitVec 32 := 2#32
  let c0_i32_18 : BitVec 32 := 0#32
  let c1_i32 : BitVec 32 := 1#32
  let arg19 : BitVec 32 := Scf.iv c0_i32_18 c1_i32 k0_t1
  let v23 : BitVec 32 := Scalar.muli c2_i32 arg19
  let c512_i32_323 : BitVec 32 := 512#32
  let v607 : BitVec 32 := Scalar.muli v23 c512_i32_323
  let c224_i32 : BitVec 32 := 224#32
  let v608 : BitVec 32 := Scalar.addi v607 c224_i32
  v608
def k0_mult11 (k0_t1 : Fin k0_t1_loop.trips) : BitVec 32 :=
  let c2_i32 : BitVec 32 := 2#32
  let c0_i32_18 : BitVec 32 := 0#32
  let c1_i32 : BitVec 32 := 1#32
  let arg19 : BitVec 32 := Scf.iv c0_i32_18 c1_i32 k0_t1
  let v23 : BitVec 32 := Scalar.muli c2_i32 arg19
  let c512_i32_365 : BitVec 32 := 512#32
  let v688 : BitVec 32 := Scalar.muli v23 c512_i32_365
  let c256_i32 : BitVec 32 := 256#32
  let v689 : BitVec 32 := Scalar.addi v688 c256_i32
  v689
def k0_mult12 (k0_t1 : Fin k0_t1_loop.trips) : BitVec 32 :=
  let c2_i32 : BitVec 32 := 2#32
  let c0_i32_18 : BitVec 32 := 0#32
  let c1_i32 : BitVec 32 := 1#32
  let arg19 : BitVec 32 := Scf.iv c0_i32_18 c1_i32 k0_t1
  let v23 : BitVec 32 := Scalar.muli c2_i32 arg19
  let c512_i32_408 : BitVec 32 := 512#32
  let v769 : BitVec 32 := Scalar.muli v23 c512_i32_408
  let c288_i32 : BitVec 32 := 288#32
  let v770 : BitVec 32 := Scalar.addi v769 c288_i32
  v770
def k0_mult13 (k0_t1 : Fin k0_t1_loop.trips) : BitVec 32 :=
  let c2_i32 : BitVec 32 := 2#32
  let c0_i32_18 : BitVec 32 := 0#32
  let c1_i32 : BitVec 32 := 1#32
  let arg19 : BitVec 32 := Scf.iv c0_i32_18 c1_i32 k0_t1
  let v23 : BitVec 32 := Scalar.muli c2_i32 arg19
  let c512_i32_450 : BitVec 32 := 512#32
  let v850 : BitVec 32 := Scalar.muli v23 c512_i32_450
  let c320_i32 : BitVec 32 := 320#32
  let v851 : BitVec 32 := Scalar.addi v850 c320_i32
  v851
def k0_mult14 (k0_t1 : Fin k0_t1_loop.trips) : BitVec 32 :=
  let c2_i32 : BitVec 32 := 2#32
  let c0_i32_18 : BitVec 32 := 0#32
  let c1_i32 : BitVec 32 := 1#32
  let arg19 : BitVec 32 := Scf.iv c0_i32_18 c1_i32 k0_t1
  let v23 : BitVec 32 := Scalar.muli c2_i32 arg19
  let c512_i32_492 : BitVec 32 := 512#32
  let v931 : BitVec 32 := Scalar.muli v23 c512_i32_492
  let c352_i32 : BitVec 32 := 352#32
  let v932 : BitVec 32 := Scalar.addi v931 c352_i32
  v932
def k0_mult15 (k0_t1 : Fin k0_t1_loop.trips) : BitVec 32 :=
  let c2_i32 : BitVec 32 := 2#32
  let c0_i32_18 : BitVec 32 := 0#32
  let c1_i32 : BitVec 32 := 1#32
  let arg19 : BitVec 32 := Scf.iv c0_i32_18 c1_i32 k0_t1
  let v23 : BitVec 32 := Scalar.muli c2_i32 arg19
  let c512_i32_534 : BitVec 32 := 512#32
  let v1012 : BitVec 32 := Scalar.muli v23 c512_i32_534
  let c384_i32 : BitVec 32 := 384#32
  let v1013 : BitVec 32 := Scalar.addi v1012 c384_i32
  v1013
def k0_mult16 (k0_t1 : Fin k0_t1_loop.trips) : BitVec 32 :=
  let c2_i32 : BitVec 32 := 2#32
  let c0_i32_18 : BitVec 32 := 0#32
  let c1_i32 : BitVec 32 := 1#32
  let arg19 : BitVec 32 := Scf.iv c0_i32_18 c1_i32 k0_t1
  let v23 : BitVec 32 := Scalar.muli c2_i32 arg19
  let c512_i32_577 : BitVec 32 := 512#32
  let v1093 : BitVec 32 := Scalar.muli v23 c512_i32_577
  let c416_i32 : BitVec 32 := 416#32
  let v1094 : BitVec 32 := Scalar.addi v1093 c416_i32
  v1094
def k0_mult17 (k0_t1 : Fin k0_t1_loop.trips) : BitVec 32 :=
  let c2_i32 : BitVec 32 := 2#32
  let c0_i32_18 : BitVec 32 := 0#32
  let c1_i32 : BitVec 32 := 1#32
  let arg19 : BitVec 32 := Scf.iv c0_i32_18 c1_i32 k0_t1
  let v23 : BitVec 32 := Scalar.muli c2_i32 arg19
  let c512_i32_619 : BitVec 32 := 512#32
  let v1174 : BitVec 32 := Scalar.muli v23 c512_i32_619
  let c448_i32 : BitVec 32 := 448#32
  let v1175 : BitVec 32 := Scalar.addi v1174 c448_i32
  v1175
def k0_mult18 (k0_t1 : Fin k0_t1_loop.trips) : BitVec 32 :=
  let c2_i32 : BitVec 32 := 2#32
  let c0_i32_18 : BitVec 32 := 0#32
  let c1_i32 : BitVec 32 := 1#32
  let arg19 : BitVec 32 := Scf.iv c0_i32_18 c1_i32 k0_t1
  let v23 : BitVec 32 := Scalar.muli c2_i32 arg19
  let c512_i32_661 : BitVec 32 := 512#32
  let v1255 : BitVec 32 := Scalar.muli v23 c512_i32_661
  let c480_i32 : BitVec 32 := 480#32
  let v1256 : BitVec 32 := Scalar.addi v1255 c480_i32
  v1256
def k0_mult19 (k0_t1 : Fin k0_t1_loop.trips) : BitVec 32 :=
  let c2_i32 : BitVec 32 := 2#32
  let c0_i32_18 : BitVec 32 := 0#32
  let c1_i32 : BitVec 32 := 1#32
  let arg19 : BitVec 32 := Scf.iv c0_i32_18 c1_i32 k0_t1
  let v23 : BitVec 32 := Scalar.muli c2_i32 arg19
  let c512_i32_703 : BitVec 32 := 512#32
  let v1336 : BitVec 32 := Scalar.muli v23 c512_i32_703
  v1336
def k0_off3 (k0_t1 : Fin k0_t1_loop.trips) : Fin 2 → Nat :=
  let c2_i32 : BitVec 32 := 2#32
  let c0_i32_18 : BitVec 32 := 0#32
  let c1_i32 : BitVec 32 := 1#32
  let arg19 : BitVec 32 := Scf.iv c0_i32_18 c1_i32 k0_t1
  let v23 : BitVec 32 := Scalar.muli c2_i32 arg19
  let c512_i32_703 : BitVec 32 := 512#32
  let v1336 : BitVec 32 := Scalar.muli v23 c512_i32_703
  let v1337 : BitVec 32 := v1336
  let v1341 : Index := Scalar.indexCast v1337
  let c0_708 : Index := 0#32
  ![v1341.toNat, 0]
def k0_mult20 (k0_t1 : Fin k0_t1_loop.trips) : BitVec 32 :=
  let c2_i32_725 : BitVec 32 := 2#32
  let c0_i32_18 : BitVec 32 := 0#32
  let c1_i32 : BitVec 32 := 1#32
  let arg19 : BitVec 32 := Scf.iv c0_i32_18 c1_i32 k0_t1
  let v1362 : BitVec 32 := Scalar.muli c2_i32_725 arg19
  let c1_i32_726 : BitVec 32 := 1#32
  let v1363 : BitVec 32 := Scalar.addi v1362 c1_i32_726
  let c1_i32_727 : BitVec 32 := 1#32
  let v1364 : BitVec 32 := Scalar.addi v1363 c1_i32_727
  let c15_i32_728 : BitVec 32 := 15#32
  let v1365 : BitVec 32 := Scalar.minsi v1364 c15_i32_728
  let c512_i32_729 : BitVec 32 := 512#32
  let v1366 : BitVec 32 := Scalar.muli v1365 c512_i32_729
  v1366
def k0_off4 (k0_t1 : Fin k0_t1_loop.trips) : Fin 2 → Nat :=
  let c2_i32_725 : BitVec 32 := 2#32
  let c0_i32_18 : BitVec 32 := 0#32
  let c1_i32 : BitVec 32 := 1#32
  let arg19 : BitVec 32 := Scf.iv c0_i32_18 c1_i32 k0_t1
  let v1362 : BitVec 32 := Scalar.muli c2_i32_725 arg19
  let c1_i32_726 : BitVec 32 := 1#32
  let v1363 : BitVec 32 := Scalar.addi v1362 c1_i32_726
  let c1_i32_727 : BitVec 32 := 1#32
  let v1364 : BitVec 32 := Scalar.addi v1363 c1_i32_727
  let c15_i32_728 : BitVec 32 := 15#32
  let v1365 : BitVec 32 := Scalar.minsi v1364 c15_i32_728
  let c512_i32_729 : BitVec 32 := 512#32
  let v1366 : BitVec 32 := Scalar.muli v1365 c512_i32_729
  let v1367 : BitVec 32 := v1366
  let v1368 : Index := Scalar.indexCast v1367
  let c0_730 : Index := 0#32
  ![v1368.toNat, 0]
def k0_mult21 (k0_t1 : Fin k0_t1_loop.trips) : BitVec 32 :=
  let c2_i32_725 : BitVec 32 := 2#32
  let c0_i32_18 : BitVec 32 := 0#32
  let c1_i32 : BitVec 32 := 1#32
  let arg19 : BitVec 32 := Scf.iv c0_i32_18 c1_i32 k0_t1
  let v1362 : BitVec 32 := Scalar.muli c2_i32_725 arg19
  let c1_i32_726 : BitVec 32 := 1#32
  let v1363 : BitVec 32 := Scalar.addi v1362 c1_i32_726
  let c512_i32_738 : BitVec 32 := 512#32
  let v1380 : BitVec 32 := Scalar.muli v1363 c512_i32_738
  let c0_i32_739 : BitVec 32 := 0#32
  let v1381 : BitVec 32 := Scalar.addi v1380 c0_i32_739
  v1381
def k0_off5 (k0_t1 : Fin k0_t1_loop.trips) (c0_i32_739 : BitVec 32) : Fin 2 → Nat :=
  let c2_i32_725 : BitVec 32 := 2#32
  let c0_i32_18 : BitVec 32 := 0#32
  let c1_i32 : BitVec 32 := 1#32
  let arg19 : BitVec 32 := Scf.iv c0_i32_18 c1_i32 k0_t1
  let v1362 : BitVec 32 := Scalar.muli c2_i32_725 arg19
  let c1_i32_726 : BitVec 32 := 1#32
  let v1363 : BitVec 32 := Scalar.addi v1362 c1_i32_726
  let c512_i32_738 : BitVec 32 := 512#32
  let v1380 : BitVec 32 := Scalar.muli v1363 c512_i32_738
  let v1381 : BitVec 32 := Scalar.addi v1380 c0_i32_739
  let v1382 : BitVec 32 := v1381
  let v1383 : Index := Scalar.indexCast v1382
  let c0_740 : Index := 0#32
  ![v1383.toNat, 0]
def k0_mult22 (k0_t1 : Fin k0_t1_loop.trips) : BitVec 32 :=
  let c2_i32_725 : BitVec 32 := 2#32
  let c0_i32_18 : BitVec 32 := 0#32
  let c1_i32 : BitVec 32 := 1#32
  let arg19 : BitVec 32 := Scf.iv c0_i32_18 c1_i32 k0_t1
  let v1362 : BitVec 32 := Scalar.muli c2_i32_725 arg19
  let c1_i32_726 : BitVec 32 := 1#32
  let v1363 : BitVec 32 := Scalar.addi v1362 c1_i32_726
  let c512_i32_782 : BitVec 32 := 512#32
  let v1461 : BitVec 32 := Scalar.muli v1363 c512_i32_782
  let c32_i32_783 : BitVec 32 := 32#32
  let v1462 : BitVec 32 := Scalar.addi v1461 c32_i32_783
  v1462
def k0_mult23 (k0_t1 : Fin k0_t1_loop.trips) : BitVec 32 :=
  let c2_i32_725 : BitVec 32 := 2#32
  let c0_i32_18 : BitVec 32 := 0#32
  let c1_i32 : BitVec 32 := 1#32
  let arg19 : BitVec 32 := Scf.iv c0_i32_18 c1_i32 k0_t1
  let v1362 : BitVec 32 := Scalar.muli c2_i32_725 arg19
  let c1_i32_726 : BitVec 32 := 1#32
  let v1363 : BitVec 32 := Scalar.addi v1362 c1_i32_726
  let c512_i32_826 : BitVec 32 := 512#32
  let v1542 : BitVec 32 := Scalar.muli v1363 c512_i32_826
  let c64_i32_827 : BitVec 32 := 64#32
  let v1543 : BitVec 32 := Scalar.addi v1542 c64_i32_827
  v1543
def k0_mult24 (k0_t1 : Fin k0_t1_loop.trips) : BitVec 32 :=
  let c2_i32_725 : BitVec 32 := 2#32
  let c0_i32_18 : BitVec 32 := 0#32
  let c1_i32 : BitVec 32 := 1#32
  let arg19 : BitVec 32 := Scf.iv c0_i32_18 c1_i32 k0_t1
  let v1362 : BitVec 32 := Scalar.muli c2_i32_725 arg19
  let c1_i32_726 : BitVec 32 := 1#32
  let v1363 : BitVec 32 := Scalar.addi v1362 c1_i32_726
  let c512_i32_870 : BitVec 32 := 512#32
  let v1623 : BitVec 32 := Scalar.muli v1363 c512_i32_870
  let c96_i32_871 : BitVec 32 := 96#32
  let v1624 : BitVec 32 := Scalar.addi v1623 c96_i32_871
  v1624
def k0_mult25 (k0_t1 : Fin k0_t1_loop.trips) : BitVec 32 :=
  let c2_i32_725 : BitVec 32 := 2#32
  let c0_i32_18 : BitVec 32 := 0#32
  let c1_i32 : BitVec 32 := 1#32
  let arg19 : BitVec 32 := Scf.iv c0_i32_18 c1_i32 k0_t1
  let v1362 : BitVec 32 := Scalar.muli c2_i32_725 arg19
  let c1_i32_726 : BitVec 32 := 1#32
  let v1363 : BitVec 32 := Scalar.addi v1362 c1_i32_726
  let c512_i32_914 : BitVec 32 := 512#32
  let v1704 : BitVec 32 := Scalar.muli v1363 c512_i32_914
  let c128_i32_915 : BitVec 32 := 128#32
  let v1705 : BitVec 32 := Scalar.addi v1704 c128_i32_915
  v1705
def k0_mult26 (k0_t1 : Fin k0_t1_loop.trips) : BitVec 32 :=
  let c2_i32_725 : BitVec 32 := 2#32
  let c0_i32_18 : BitVec 32 := 0#32
  let c1_i32 : BitVec 32 := 1#32
  let arg19 : BitVec 32 := Scf.iv c0_i32_18 c1_i32 k0_t1
  let v1362 : BitVec 32 := Scalar.muli c2_i32_725 arg19
  let c1_i32_726 : BitVec 32 := 1#32
  let v1363 : BitVec 32 := Scalar.addi v1362 c1_i32_726
  let c512_i32_958 : BitVec 32 := 512#32
  let v1785 : BitVec 32 := Scalar.muli v1363 c512_i32_958
  let c160_i32_959 : BitVec 32 := 160#32
  let v1786 : BitVec 32 := Scalar.addi v1785 c160_i32_959
  v1786
def k0_mult27 (k0_t1 : Fin k0_t1_loop.trips) : BitVec 32 :=
  let c2_i32_725 : BitVec 32 := 2#32
  let c0_i32_18 : BitVec 32 := 0#32
  let c1_i32 : BitVec 32 := 1#32
  let arg19 : BitVec 32 := Scf.iv c0_i32_18 c1_i32 k0_t1
  let v1362 : BitVec 32 := Scalar.muli c2_i32_725 arg19
  let c1_i32_726 : BitVec 32 := 1#32
  let v1363 : BitVec 32 := Scalar.addi v1362 c1_i32_726
  let c512_i32_1002 : BitVec 32 := 512#32
  let v1866 : BitVec 32 := Scalar.muli v1363 c512_i32_1002
  let c192_i32_1003 : BitVec 32 := 192#32
  let v1867 : BitVec 32 := Scalar.addi v1866 c192_i32_1003
  v1867
def k0_mult28 (k0_t1 : Fin k0_t1_loop.trips) : BitVec 32 :=
  let c2_i32_725 : BitVec 32 := 2#32
  let c0_i32_18 : BitVec 32 := 0#32
  let c1_i32 : BitVec 32 := 1#32
  let arg19 : BitVec 32 := Scf.iv c0_i32_18 c1_i32 k0_t1
  let v1362 : BitVec 32 := Scalar.muli c2_i32_725 arg19
  let c1_i32_726 : BitVec 32 := 1#32
  let v1363 : BitVec 32 := Scalar.addi v1362 c1_i32_726
  let c512_i32_1046 : BitVec 32 := 512#32
  let v1947 : BitVec 32 := Scalar.muli v1363 c512_i32_1046
  let c224_i32_1047 : BitVec 32 := 224#32
  let v1948 : BitVec 32 := Scalar.addi v1947 c224_i32_1047
  v1948
def k0_mult29 (k0_t1 : Fin k0_t1_loop.trips) : BitVec 32 :=
  let c2_i32_725 : BitVec 32 := 2#32
  let c0_i32_18 : BitVec 32 := 0#32
  let c1_i32 : BitVec 32 := 1#32
  let arg19 : BitVec 32 := Scf.iv c0_i32_18 c1_i32 k0_t1
  let v1362 : BitVec 32 := Scalar.muli c2_i32_725 arg19
  let c1_i32_726 : BitVec 32 := 1#32
  let v1363 : BitVec 32 := Scalar.addi v1362 c1_i32_726
  let c512_i32_1090 : BitVec 32 := 512#32
  let v2028 : BitVec 32 := Scalar.muli v1363 c512_i32_1090
  let c256_i32_1091 : BitVec 32 := 256#32
  let v2029 : BitVec 32 := Scalar.addi v2028 c256_i32_1091
  v2029
def k0_mult30 (k0_t1 : Fin k0_t1_loop.trips) : BitVec 32 :=
  let c2_i32_725 : BitVec 32 := 2#32
  let c0_i32_18 : BitVec 32 := 0#32
  let c1_i32 : BitVec 32 := 1#32
  let arg19 : BitVec 32 := Scf.iv c0_i32_18 c1_i32 k0_t1
  let v1362 : BitVec 32 := Scalar.muli c2_i32_725 arg19
  let c1_i32_726 : BitVec 32 := 1#32
  let v1363 : BitVec 32 := Scalar.addi v1362 c1_i32_726
  let c512_i32_1134 : BitVec 32 := 512#32
  let v2109 : BitVec 32 := Scalar.muli v1363 c512_i32_1134
  let c288_i32_1135 : BitVec 32 := 288#32
  let v2110 : BitVec 32 := Scalar.addi v2109 c288_i32_1135
  v2110
def k0_mult31 (k0_t1 : Fin k0_t1_loop.trips) : BitVec 32 :=
  let c2_i32_725 : BitVec 32 := 2#32
  let c0_i32_18 : BitVec 32 := 0#32
  let c1_i32 : BitVec 32 := 1#32
  let arg19 : BitVec 32 := Scf.iv c0_i32_18 c1_i32 k0_t1
  let v1362 : BitVec 32 := Scalar.muli c2_i32_725 arg19
  let c1_i32_726 : BitVec 32 := 1#32
  let v1363 : BitVec 32 := Scalar.addi v1362 c1_i32_726
  let c512_i32_1178 : BitVec 32 := 512#32
  let v2190 : BitVec 32 := Scalar.muli v1363 c512_i32_1178
  let c320_i32_1179 : BitVec 32 := 320#32
  let v2191 : BitVec 32 := Scalar.addi v2190 c320_i32_1179
  v2191
def k0_mult32 (k0_t1 : Fin k0_t1_loop.trips) : BitVec 32 :=
  let c2_i32_725 : BitVec 32 := 2#32
  let c0_i32_18 : BitVec 32 := 0#32
  let c1_i32 : BitVec 32 := 1#32
  let arg19 : BitVec 32 := Scf.iv c0_i32_18 c1_i32 k0_t1
  let v1362 : BitVec 32 := Scalar.muli c2_i32_725 arg19
  let c1_i32_726 : BitVec 32 := 1#32
  let v1363 : BitVec 32 := Scalar.addi v1362 c1_i32_726
  let c512_i32_1222 : BitVec 32 := 512#32
  let v2271 : BitVec 32 := Scalar.muli v1363 c512_i32_1222
  let c352_i32_1223 : BitVec 32 := 352#32
  let v2272 : BitVec 32 := Scalar.addi v2271 c352_i32_1223
  v2272
def k0_mult33 (k0_t1 : Fin k0_t1_loop.trips) : BitVec 32 :=
  let c2_i32_725 : BitVec 32 := 2#32
  let c0_i32_18 : BitVec 32 := 0#32
  let c1_i32 : BitVec 32 := 1#32
  let arg19 : BitVec 32 := Scf.iv c0_i32_18 c1_i32 k0_t1
  let v1362 : BitVec 32 := Scalar.muli c2_i32_725 arg19
  let c1_i32_726 : BitVec 32 := 1#32
  let v1363 : BitVec 32 := Scalar.addi v1362 c1_i32_726
  let c512_i32_1266 : BitVec 32 := 512#32
  let v2352 : BitVec 32 := Scalar.muli v1363 c512_i32_1266
  let c384_i32_1267 : BitVec 32 := 384#32
  let v2353 : BitVec 32 := Scalar.addi v2352 c384_i32_1267
  v2353
def k0_mult34 (k0_t1 : Fin k0_t1_loop.trips) : BitVec 32 :=
  let c2_i32_725 : BitVec 32 := 2#32
  let c0_i32_18 : BitVec 32 := 0#32
  let c1_i32 : BitVec 32 := 1#32
  let arg19 : BitVec 32 := Scf.iv c0_i32_18 c1_i32 k0_t1
  let v1362 : BitVec 32 := Scalar.muli c2_i32_725 arg19
  let c1_i32_726 : BitVec 32 := 1#32
  let v1363 : BitVec 32 := Scalar.addi v1362 c1_i32_726
  let c512_i32_1310 : BitVec 32 := 512#32
  let v2433 : BitVec 32 := Scalar.muli v1363 c512_i32_1310
  let c416_i32_1311 : BitVec 32 := 416#32
  let v2434 : BitVec 32 := Scalar.addi v2433 c416_i32_1311
  v2434
def k0_mult35 (k0_t1 : Fin k0_t1_loop.trips) : BitVec 32 :=
  let c2_i32_725 : BitVec 32 := 2#32
  let c0_i32_18 : BitVec 32 := 0#32
  let c1_i32 : BitVec 32 := 1#32
  let arg19 : BitVec 32 := Scf.iv c0_i32_18 c1_i32 k0_t1
  let v1362 : BitVec 32 := Scalar.muli c2_i32_725 arg19
  let c1_i32_726 : BitVec 32 := 1#32
  let v1363 : BitVec 32 := Scalar.addi v1362 c1_i32_726
  let c512_i32_1354 : BitVec 32 := 512#32
  let v2514 : BitVec 32 := Scalar.muli v1363 c512_i32_1354
  let c448_i32_1355 : BitVec 32 := 448#32
  let v2515 : BitVec 32 := Scalar.addi v2514 c448_i32_1355
  v2515
def k0_mult36 (k0_t1 : Fin k0_t1_loop.trips) : BitVec 32 :=
  let c2_i32_725 : BitVec 32 := 2#32
  let c0_i32_18 : BitVec 32 := 0#32
  let c1_i32 : BitVec 32 := 1#32
  let arg19 : BitVec 32 := Scf.iv c0_i32_18 c1_i32 k0_t1
  let v1362 : BitVec 32 := Scalar.muli c2_i32_725 arg19
  let c1_i32_726 : BitVec 32 := 1#32
  let v1363 : BitVec 32 := Scalar.addi v1362 c1_i32_726
  let c512_i32_1398 : BitVec 32 := 512#32
  let v2595 : BitVec 32 := Scalar.muli v1363 c512_i32_1398
  let c480_i32_1399 : BitVec 32 := 480#32
  let v2596 : BitVec 32 := Scalar.addi v2595 c480_i32_1399
  v2596
def k0_mult37 (k0_t1 : Fin k0_t1_loop.trips) : BitVec 32 :=
  let c2_i32_725 : BitVec 32 := 2#32
  let c0_i32_18 : BitVec 32 := 0#32
  let c1_i32 : BitVec 32 := 1#32
  let arg19 : BitVec 32 := Scf.iv c0_i32_18 c1_i32 k0_t1
  let v1362 : BitVec 32 := Scalar.muli c2_i32_725 arg19
  let c1_i32_726 : BitVec 32 := 1#32
  let v1363 : BitVec 32 := Scalar.addi v1362 c1_i32_726
  let c512_i32_1442 : BitVec 32 := 512#32
  let v2676 : BitVec 32 := Scalar.muli v1363 c512_i32_1442
  v2676
def k0_off6 (k0_t1 : Fin k0_t1_loop.trips) : Fin 2 → Nat :=
  let c2_i32_725 : BitVec 32 := 2#32
  let c0_i32_18 : BitVec 32 := 0#32
  let c1_i32 : BitVec 32 := 1#32
  let arg19 : BitVec 32 := Scf.iv c0_i32_18 c1_i32 k0_t1
  let v1362 : BitVec 32 := Scalar.muli c2_i32_725 arg19
  let c1_i32_726 : BitVec 32 := 1#32
  let v1363 : BitVec 32 := Scalar.addi v1362 c1_i32_726
  let c512_i32_1442 : BitVec 32 := 512#32
  let v2676 : BitVec 32 := Scalar.muli v1363 c512_i32_1442
  let v2677 : BitVec 32 := v2676
  let v2681 : Index := Scalar.indexCast v2677
  let c0_1447 : Index := 0#32
  ![v2681.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "scale_log2e" => some (((3424635 / 33554432) * (Real.log 2)⁻¹ : ℝ) : EReal)
  | _ => none
-- ==== ReferenceIdeal.lean ====
abbrev S8192x1024 : Shape := ⟨2, ![8192, 1024]⟩
abbrev S8192x8x128 : Shape := ⟨3, ![8192, 8, 128]⟩
abbrev S8x8192x128 : Shape := ⟨3, ![8, 8192, 128]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩

abbrev nBuf : Space → Nat
  | .hbm => 89
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x8x128, .f32⟩
  | .hbm, ⟨9, _⟩ => ⟨S8x8192x128, .f32⟩
  | .hbm, ⟨10, _⟩ => ⟨S8192x8x128, .f32⟩
  | .hbm, ⟨11, _⟩ => ⟨S8x8192x128, .f32⟩
  | .hbm, ⟨12, _⟩ => ⟨S8192x8x128, .f32⟩
  | .hbm, ⟨13, _⟩ => ⟨S8x8192x128, .f32⟩
  | .hbm, ⟨14, _⟩ => ⟨S8x8192x8192, .f32⟩
  | .hbm, ⟨15, _⟩ => ⟨S_, .f32⟩
  | .hbm, ⟨16, _⟩ => ⟨S8x8192x8192, .f32⟩
  | .hbm, ⟨17, _⟩ => ⟨S8x8192x8192, .f32⟩
  | .hbm, ⟨18, _⟩ => ⟨S_, .f32⟩
  | .hbm, ⟨19, _⟩ => ⟨S8x8192, .f32⟩
  | .hbm, ⟨20, _⟩ => ⟨S8x8192x1, .f32⟩
  | .hbm, ⟨21, _⟩ => ⟨S8x8192x8192, .f32⟩
  | .hbm, ⟨22, _⟩ => ⟨S8x8192x8192, .i1⟩
  | .hbm, ⟨23, _⟩ => ⟨S8x8192x8192, .f32⟩
  | .hbm, ⟨24, _⟩ => ⟨S_, .f32⟩
  | .hbm, ⟨25, _⟩ => ⟨S8x8192, .f32⟩
  | .hbm, ⟨26, _⟩ => ⟨S_, .f32⟩
  | .hbm, ⟨27, _⟩ => ⟨S8x8192, .f32⟩
  | .hbm, ⟨28, _⟩ => ⟨S8x8192, .f32⟩
  | .hbm, ⟨29, _⟩ => ⟨S_, .f32⟩
  | .hbm, ⟨30, _⟩ => ⟨S8x8192, .f32⟩
  | .hbm, ⟨31, _⟩ => ⟨S8x8192, .i1⟩
  | .hbm, ⟨32, _⟩ => ⟨S_, .f32⟩
  | .hbm, ⟨33, _⟩ => ⟨S8x8192, .f32⟩
  | .hbm, ⟨34, _⟩ => ⟨S8x8192, .i1⟩
  | .hbm, ⟨35, _⟩ => ⟨S_, .f32⟩
  | .hbm, ⟨36, _⟩ => ⟨S8x8192, .f32⟩
  | .hbm, ⟨37, _⟩ => ⟨S_, .f32⟩
  | .hbm, ⟨38, _⟩ => ⟨S8x8192, .f32⟩
  | .hbm, ⟨39, _⟩ => ⟨S_, .f32⟩
  | .hbm, ⟨40, _⟩ => ⟨S8x8192, .f32⟩
  | .hbm, ⟨41, _⟩ => ⟨S8x8192, .f32⟩
  | .hbm, ⟨42, _⟩ => ⟨S8x8192, .f32⟩
  | .hbm, ⟨43, _⟩ => ⟨S8x8192x1, .f32⟩
  | .hbm, ⟨44, _⟩ => ⟨S8x8192x8192, .f32⟩
  | .hbm, ⟨45, _⟩ => ⟨S8x8192x8192, .f32⟩
  | .hbm, ⟨46, _⟩ => ⟨S8x8192x8192, .f32⟩
  | .hbm, ⟨47, _⟩ => ⟨S_, .f32⟩
  | .hbm, ⟨48, _⟩ => ⟨S8x8192, .f32⟩
  | .hbm, ⟨49, _⟩ => ⟨S8x8192x1, .f32⟩
  | .hbm, ⟨50, _⟩ => ⟨S8x8192x8192, .f32⟩
  | .hbm, ⟨51, _⟩ => ⟨S8x8192x8192, .f32⟩
  | .hbm, ⟨52, _⟩ => ⟨S8x8192x1, .f32⟩
  | .hbm, ⟨53, _⟩ => ⟨S_, .f32⟩
  | .hbm, ⟨54, _⟩ => ⟨S8x8192x1, .f32⟩
  | .hbm, ⟨55, _⟩ => ⟨S8x8192x1, .f32⟩
  | .hbm, ⟨56, _⟩ => ⟨S8x8192x128, .f32⟩
  | .hbm, ⟨57, _⟩ => ⟨S8192x8x128, .f32⟩
  | .hbm, ⟨58, _⟩ => ⟨S8192x1024, .f32⟩
  | .hbm, ⟨59, _⟩ => ⟨S8192x8x128, .f32⟩
  | .hbm, ⟨60, _⟩ => ⟨S8x8192x128, .f32⟩
  | .hbm, ⟨61, _⟩ => ⟨S8x128x8192, .f32⟩
  | .hbm, ⟨62, _⟩ => ⟨S8x8192x128, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S8x8192x8192, .f32⟩
  | .hbm, ⟨67, _⟩ => ⟨S_, .f32⟩
  | .hbm, ⟨68, _⟩ => ⟨S8x8192, .f32⟩
  | .hbm, ⟨69, _⟩ => ⟨S8x8192x1, .f32⟩
  | .hbm, ⟨70, _⟩ => ⟨S8x8192x1, .f32⟩
  | .hbm, ⟨71, _⟩ => ⟨S8x8192x8192, .f32⟩
  | .hbm, ⟨72, _⟩ => ⟨S8x8192x8192, .f32⟩
  | .hbm, ⟨73, _⟩ => ⟨S_, .f32⟩
  | .hbm, ⟨74, _⟩ => ⟨S8x8192, .f32⟩
  | .hbm, ⟨75, _⟩ => ⟨S8x8192x8192, .f32⟩
  | .hbm, ⟨76, _⟩ => ⟨S8x8192x8192, .f32⟩
  | .hbm, ⟨77, _⟩ => ⟨S8x8192x8192, .f32⟩
  | .hbm, ⟨78, _⟩ => ⟨S_, .f32⟩
  | .hbm, ⟨79, _⟩ => ⟨S8x8192x8192, .f32⟩
  | .hbm, ⟨80, _⟩ => ⟨S8x8192x8192, .f32⟩
  | .hbm, ⟨81, _⟩ => ⟨S8x8192x128, .f32⟩
  | .hbm, ⟨82, _⟩ => ⟨S8x8192x128, .f32⟩
  | .hbm, ⟨83, _⟩ => ⟨S8192x8x128, .f32⟩
  | .hbm, ⟨84, _⟩ => ⟨S8192x1024, .f32⟩
  | .hbm, ⟨85, _⟩ => ⟨S8192x8x128, .f32⟩
  | .hbm, ⟨86, _⟩ => ⟨S8192x1024, .f32⟩
  | .hbm, ⟨87, _⟩ => ⟨S8192x8x128, .f32⟩
  | .hbm, ⟨88, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Kernel2.lean ====
abbrev S8192x1024 : Shape := ⟨2, ![8192, 1024]⟩
abbrev S2816x1024 : Shape := ⟨2, ![2816, 1024]⟩
abbrev S2x8192x2816 : Shape := ⟨3, ![2, 8192, 2816]⟩
abbrev S1024x1024 : Shape := ⟨2, ![1024, 1024]⟩
abbrev S1408x1024 : Shape := ⟨2, ![1408, 1024]⟩
abbrev S2x1024x1408 : Shape := ⟨3, ![2, 1024, 1408]⟩
abbrev S1024x1408 : Shape := ⟨2, ![1024, 1408]⟩
abbrev S1x1024x1408 : Shape := ⟨3, ![1, 1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2x8192x2816, .bf16⟩
  | .hbm, ⟨3, _⟩ => ⟨S2x8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x1024x1408, .bf16⟩
  | .local _ .vmem, ⟨5, _⟩ => ⟨S2x1024x1408, .bf16⟩
  | .local _ .vmem, ⟨6, _⟩ => ⟨S2x1024x1408, .bf16⟩
  | .local _ .vmem, ⟨7, _⟩ => ⟨S2x1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x1024 : Shape := ⟨2, ![8192, 1024]⟩
abbrev S2816x1024 : Shape := ⟨2, ![2816, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2x8192x2816, .bf16⟩
  | .hbm, ⟨3, _⟩ => ⟨S8192x1024, .f32⟩
  | .hbm, ⟨4, _⟩ => ⟨S2816x1024, .f32⟩
  | .hbm, ⟨5, _⟩ => ⟨S2x8192x2816, .f32⟩
  | .hbm, ⟨6, _⟩ => ⟨S1x8192x2816, .f32⟩
  | .hbm, ⟨7, _⟩ => ⟨S8192x2816, .f32⟩
  | .hbm, ⟨8, _⟩ => ⟨S1x8192x2816, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S1x8192x2816, .f32⟩
  | .hbm, ⟨33, _⟩ => ⟨S1x8192x2816, .f32⟩
  | .hbm, ⟨34, _⟩ => ⟨S2x8192x2816, .f32⟩
  | .hbm, ⟨35, _⟩ => ⟨S2x8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩

abbrev nD : Nat := 1
abbrev τ : Topo := Topo.v7x

variable {F : FTy → Type} [FloatOps F]
-- ==== Kernel3.lean ====
abbrev S8192x1024 : Shape := ⟨2, ![8192, 1024]⟩
abbrev S2x8192x2816 : Shape := ⟨3, ![2, 8192, 2816]⟩
abbrev S1024x5632 : Shape := ⟨2, ![1024, 5632]⟩
abbrev S2048x1024 : Shape := ⟨2, ![2048, 1024]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S8192x1024, .f32⟩
  | .hbm, ⟨3, _⟩ => ⟨S2x8192x2816, .f32⟩
  | .hbm, ⟨4, _⟩ => ⟨S1x8192x2816, .f32⟩
  | .hbm, ⟨5, _⟩ => ⟨S8192x2816, .f32⟩
  | .hbm, ⟨6, _⟩ => ⟨S1x8192x2816, .f32⟩
  | .hbm, ⟨7, _⟩ => ⟨S8192x2816, .f32⟩
  | .hbm, ⟨8, _⟩ => ⟨S8192x5632, .f32⟩
  | .hbm, ⟨9, _⟩ => ⟨S_, .f32⟩
  | .hbm, ⟨10, _⟩ => ⟨S1024x5632, .f32⟩
  | .hbm, ⟨11, _⟩ => ⟨S8192x5632, .f32⟩
  | .hbm, ⟨12, _⟩ => ⟨S5632x1024, .f32⟩
  | .hbm, ⟨13, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel4.lean ====
abbrev S2x8192x2816 : Shape := ⟨3, ![2, 8192, 2816]⟩
abbrev S1024x5632 : Shape := ⟨2, ![1024, 5632]⟩
abbrev S8192x1024 : Shape := ⟨2, ![8192, 1024]⟩
abbrev S1x1024x2816 : Shape := ⟨3, ![1, 1024, 2816]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S8192x1024, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2x8192x2816 : Shape := ⟨3, ![2, 8192, 2816]⟩
abbrev S1024x5632 : Shape := ⟨2, ![1024, 5632]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S8192x1024 : Shape := ⟨2, ![8192, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S2x8192x2816, .f32⟩
  | .hbm, ⟨3, _⟩ => ⟨S1024x5632, .f32⟩
  | .hbm, ⟨4, _⟩ => ⟨S1x8192x2816, .f32⟩
  | .hbm, ⟨5, _⟩ => ⟨S8192x2816, .f32⟩
  | .hbm, ⟨6, _⟩ => ⟨S1x8192x2816, .f32⟩
  | .hbm, ⟨7, _⟩ => ⟨S8192x2816, .f32⟩
  | .hbm, ⟨8, _⟩ => ⟨S8192x5632, .f32⟩
  | .hbm, ⟨9, _⟩ => ⟨S_, .f32⟩
  | .hbm, ⟨10, _⟩ => ⟨S8192x1024, .f32⟩
  | .hbm, ⟨11, _⟩ => ⟨S8192x5632, .f32⟩
  | .hbm, ⟨12, _⟩ => ⟨S8192x1024, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S8192x5632, .f32⟩
  | .hbm, ⟨4, _⟩ => ⟨S_, .f32⟩
  | .hbm, ⟨5, _⟩ => ⟨S1024x5632, .f32⟩
  | .hbm, ⟨6, _⟩ => ⟨S8192x5632, .f32⟩
  | .hbm, ⟨7, _⟩ => ⟨S5632x1024, .f32⟩
  | .hbm, ⟨8, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x5632 : Shape := ⟨2, ![8192, 5632]⟩
abbrev S1024x5632 : Shape := ⟨2, ![1024, 5632]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x5632 : Shape := ⟨2, ![8192, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x5632, .f32⟩
  | .hbm, ⟨3, _⟩ => ⟨S1024x5632, .f32⟩
  | .hbm, ⟨4, _⟩ => ⟨S_, .f32⟩
  | .hbm, ⟨5, _⟩ => ⟨S8192x1024, .f32⟩
  | .hbm, ⟨6, _⟩ => ⟨S8192x5632, .f32⟩
  | .hbm, ⟨7, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S8192x5120 : Shape := ⟨2, ![8192, 5120]⟩
abbrev S512x1024 : Shape := ⟨2, ![512, 1024]⟩

abbrev nBuf : Space → Nat
  | .hbm => 9
  | .vmem => 19
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x5120, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference9Ideal.lean ====
abbrev S8192x1024 : Shape := ⟨2, ![8192, 1024]⟩
abbrev S1024x1024 : Shape := ⟨2, ![1024, 1024]⟩
abbrev S8192x5120 : Shape := ⟨2, ![8192, 5120]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x5120, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .bf16⟩
  | .hbm, ⟨45, _⟩ => ⟨S8192x1024, .bf16⟩
  | .hbm, ⟨46, _⟩ => ⟨S8192x1024, .bf16⟩
  | .hbm, ⟨47, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .bf16⟩
  | .hbm, ⟨4, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S8192x1024 : Shape := ⟨2, ![8192, 1024]⟩
abbrev S1024x1024 : Shape := ⟨2, ![1024, 1024]⟩
abbrev S8192x8x128 : Shape := ⟨3, ![8192, 8, 128]⟩
abbrev S_ : Shape := ⟨0, ![]⟩
abbrev S8192x8 : Shape := ⟨2, ![8192, 8]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x8x128, .f32⟩
  | .hbm, ⟨10, _⟩ => ⟨S_, .f32⟩
  | .hbm, ⟨11, _⟩ => ⟨S8192x8, .f32⟩
  | .hbm, ⟨12, _⟩ => ⟨S8192x1024, .bf16⟩
  | .hbm, ⟨13, _⟩ => ⟨S8192x8x128, .f32⟩
  | .hbm, ⟨14, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel11.lean ====
abbrev S8192x1024 : Shape := ⟨2, ![8192, 1024]⟩
abbrev S1024x5632 : Shape := ⟨2, ![1024, 5632]⟩
abbrev S2x8192x2816 : Shape := ⟨3, ![2, 8192, 2816]⟩
abbrev S8192x2816 : Shape := ⟨2, ![8192, 2816]⟩
abbrev S1024x1024 : Shape := ⟨2, ![1024, 1024]⟩
abbrev S1024x1408 : Shape := ⟨2, ![1024, 1408]⟩
abbrev S2x1024x1408 : Shape := ⟨3, ![2, 1024, 1408]⟩
abbrev S1x1024x1408 : Shape := ⟨3, ![1, 1024, 1408]⟩

abbrev nBuf : Space → Nat
  | .hbm => 4
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S2x8192x2816, .bf16⟩
  | .hbm, ⟨3, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S2x1024x1408, .bf16⟩
  | .local _ .vmem, ⟨7, _⟩ => ⟨S2x1024x1408, .bf16⟩
  | .local _ .vmem, ⟨8, _⟩ => ⟨S1024x1408, .bf16⟩
  | .local _ .vmem, ⟨9, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S1x8192x2816, .f32⟩
  | .hbm, ⟨8, _⟩ => ⟨S1x8192x2816, .f32⟩
  | .hbm, ⟨9, _⟩ => ⟨S2x8192x2816, .f32⟩
  | .hbm, ⟨10, _⟩ => ⟨S2x8192x2816, .bf16⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Kernel12.lean ====
abbrev S8192x1024 : Shape := ⟨2, ![8192, 1024]⟩
abbrev S1024x5632 : Shape := ⟨2, ![1024, 5632]⟩
abbrev S1024x5120 : Shape := ⟨2, ![1024, 5120]⟩
abbrev S8192x5120 : Shape := ⟨2, ![8192, 5120]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S1024x5120, .bf16⟩
  | .hbm, ⟨3, _⟩ => ⟨S8192x5120, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x5632 : Shape := ⟨2, ![1024, 5632]⟩
abbrev S8192x5632 : Shape := ⟨2, ![8192, 5632]⟩
abbrev S8192x5120 : Shape := ⟨2, ![8192, 5120]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x5120, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference13Ideal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S8192 : Shape := ⟨1, ![8192]⟩
abbrev S1024 : Shape := ⟨1, ![1024]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1024, .f32⟩
  | .hbm, ⟨30, _⟩ => ⟨S8192x1024, .f32⟩
  | .hbm, ⟨31, _⟩ => ⟨S8192x1024, .bf16⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S_, .f32⟩
  | .hbm, ⟨41, _⟩ => ⟨S1x1024, .f32⟩
  | .hbm, ⟨42, _⟩ => ⟨S1x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩
abbrev S8192x5120 : Shape := ⟨2, ![8192, 5120]⟩
abbrev S512x1024 : Shape := ⟨2, ![512, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x5120, .f32⟩
  | .hbm, ⟨3, _⟩ => ⟨S8192x1024, .f32⟩
  | .hbm, ⟨4, _⟩ => ⟨S8192x1024, .f32⟩
  | .hbm, ⟨5, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S8192x1024 : Shape := ⟨2, ![8192, 1024]⟩
abbrev S1024x1024 : Shape := ⟨2, ![1024, 1024]⟩
abbrev S8192x5120 : Shape := ⟨2, ![8192, 5120]⟩
abbrev S8192x2048 : Shape := ⟨2, ![8192, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x5120, .f32⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference16Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel18.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x1024, .f32⟩
  | .hbm, ⟨3, _⟩ => ⟨S1024x512, .f32⟩
  | .hbm, ⟨4, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference20Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel21.lean ====
abbrev S8192x1024 : Shape := ⟨2, ![8192, 1024]⟩
abbrev S8192x5120 : Shape := ⟨2, ![8192, 5120]⟩
abbrev S512x1024 : Shape := ⟨2, ![512, 1024]⟩
abbrev S512x128 : Shape := ⟨2, ![512, 128]⟩
abbrev S128x128 : Shape := ⟨2, ![128, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x5120, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference21Ideal.lean ====
abbrev S8192x1024 : Shape := ⟨2, ![8192, 1024]⟩
abbrev S8192x5120 : Shape := ⟨2, ![8192, 5120]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x5120, .f32⟩
  | .hbm, ⟨3, _⟩ => ⟨S8192x1024, .f32⟩
  | .hbm, ⟨4, _⟩ => ⟨S8192x8x128, .f32⟩
  | .hbm, ⟨5, _⟩ => ⟨S8192x8x128, .f32⟩
  | .hbm, ⟨6, _⟩ => ⟨S_, .f32⟩
  | .hbm, ⟨7, _⟩ => ⟨S8192x8, .f32⟩
  | .hbm, ⟨8, _⟩ => ⟨S8192x8x1, .f32⟩
  | .hbm, ⟨9, _⟩ => ⟨S_, .f32⟩
  | .hbm, ⟨10, _⟩ => ⟨S8192x8x1, .f32⟩
  | .hbm, ⟨11, _⟩ => ⟨S8192x8x1, .f32⟩
  | .hbm, ⟨12, _⟩ => ⟨S_, .f32⟩
  | .hbm, ⟨13, _⟩ => ⟨S8192x8x1, .f32⟩
  | .hbm, ⟨14, _⟩ => ⟨S8192x8x1, .f32⟩
  | .hbm, ⟨15, _⟩ => ⟨S8192x8x1, .f32⟩
  | .hbm, ⟨16, _⟩ => ⟨S8192x8x128, .f32⟩
  | .hbm, ⟨17, _⟩ => ⟨S8192x8x128, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]
-- ==== Kernel22.lean ====
abbrev S8192x1024 : Shape := ⟨2, ![8192, 1024]⟩
abbrev S1024x1024 : Shape := ⟨2, ![1024, 1024]⟩
abbrev S8192x5120 : Shape := ⟨2, ![8192, 5120]⟩
abbrev S512x1024 : Shape := ⟨2, ![512, 1024]⟩
abbrev S512x128 : Shape := ⟨2, ![512, 128]⟩
abbrev S128x128 : Shape := ⟨2, ![128, 128]⟩
abbrev S512x896 : Shape := ⟨2, ![512, 896]⟩
abbrev S512x768 : Shape := ⟨2, ![512, 768]⟩
abbrev S512x640 : Shape := ⟨2, ![512, 640]⟩
abbrev S512x256 : Shape := ⟨2, ![512, 256]⟩
abbrev S512x512 : Shape := ⟨2, ![512, 512]⟩
abbrev S512x384 : Shape := ⟨2, ![512, 384]⟩

abbrev nBuf : Space → Nat
  | .hbm => 7
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S8192x5120, .f32⟩
  | .hbm, ⟨5, _⟩ => ⟨S8192x1024, .bf16⟩
  | .hbm, ⟨6, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S8192x1024 : Shape := ⟨2, ![8192, 1024]⟩
abbrev S1024x1024 : Shape := ⟨2, ![1024, 1024]⟩
abbrev S8192x5120 : Shape := ⟨2, ![8192, 5120]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S8192x5120, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x8x128, .f32⟩
  | .hbm, ⟨10, _⟩ => ⟨S8192x8x128, .f32⟩
  | .hbm, ⟨11, _⟩ => ⟨S_, .f32⟩
  | .hbm, ⟨12, _⟩ => ⟨S8192x8, .f32⟩
  | .hbm, ⟨13, _⟩ => ⟨S8192x8x1, .f32⟩
  | .hbm, ⟨14, _⟩ => ⟨S_, .f32⟩
  | .hbm, ⟨15, _⟩ => ⟨S8192x8x1, .f32⟩
  | .hbm, ⟨16, _⟩ => ⟨S8192x8x1, .f32⟩
  | .hbm, ⟨17, _⟩ => ⟨S_, .f32⟩
  | .hbm, ⟨18, _⟩ => ⟨S8192x8x1, .f32⟩
  | .hbm, ⟨19, _⟩ => ⟨S8192x8x1, .f32⟩
  | .hbm, ⟨20, _⟩ => ⟨S8192x8x1, .f32⟩
  | .hbm, ⟨21, _⟩ => ⟨S8192x8x1, .f32⟩
  | .hbm, ⟨22, _⟩ => ⟨S_, .f32⟩
  | .hbm, ⟨23, _⟩ => ⟨S8192x8x1, .f32⟩
  | .hbm, ⟨24, _⟩ => ⟨S8192x8x1, .f32⟩
  | .hbm, ⟨25, _⟩ => ⟨S8192x8x128, .f32⟩
  | .hbm, ⟨26, _⟩ => ⟨S8192x8x128, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x8x128, .f32⟩
  | .hbm, ⟨51, _⟩ => ⟨S8192x8x128, .f32⟩
  | .hbm, ⟨52, _⟩ => ⟨S_, .f32⟩
  | .hbm, ⟨53, _⟩ => ⟨S8192x8, .f32⟩
  | .hbm, ⟨54, _⟩ => ⟨S8192x8x1, .f32⟩
  | .hbm, ⟨55, _⟩ => ⟨S8192x8x128, .f32⟩
  | .hbm, ⟨56, _⟩ => ⟨S8192x8x128, .f32⟩
  | .hbm, ⟨57, _⟩ => ⟨S8192x8x1, .f32⟩
  | .hbm, ⟨58, _⟩ => ⟨S_, .f32⟩
  | .hbm, ⟨59, _⟩ => ⟨S8192x8x1, .f32⟩
  | .hbm, ⟨60, _⟩ => ⟨S8192x8x1, .f32⟩
  | .hbm, ⟨61, _⟩ => ⟨S_, .f32⟩
  | .hbm, ⟨62, _⟩ => ⟨S8192x8, .f32⟩
  | .hbm, ⟨63, _⟩ => ⟨S8192x8x128, .f32⟩
  | .hbm, ⟨64, _⟩ => ⟨S8192x8x128, .f32⟩
  | .hbm, ⟨65, _⟩ => ⟨S8192x8x128, .f32⟩
  | .hbm, ⟨66, _⟩ => ⟨S8192x8x128, .f32⟩
  | .hbm, ⟨67, _⟩ => ⟨S8192x8x128, .f32⟩
  | .hbm, ⟨68, _⟩ => ⟨S8192x1024, .f32⟩
  | .hbm, ⟨69, _⟩ => ⟨S8192x1024, .bf16⟩
  | .hbm, ⟨70, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩

abbrev nD : Nat := 1
abbrev τ : Topo := Topo.v7x

variable {F : FTy → Type} [FloatOps F]
-- ==== Proof.Trip.lean ====
module

public import proofs.«01_k».proof.Proof.Gen.KernelIdeal.Skeleton
public import proofs.«01_k».proof.Proof.Gen.KernelIdeal.Loops
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Ring
public import Idealize.ShloMosaic.Lib.WordCmp

@[expose] public section

set_option maxRecDepth 16384

noncomputable section

namespace Cert.Proof.Trip

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU (nD : Nat) (τ : Topo) : Type := UR sig nD τ
abbrev 𝒱₀ : Variants := Variants.none
local notation "𝕄" => MT nD τ sig Unit (Elt F) ℕ (UU nD τ) ℕ

variable (c : Dev nD) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S8192x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .bf16) (harg17 : arg17.IsWhole) (arg18 : Memref sig .tc .vmem S512x512 .bf16) (harg18 : arg18.IsWhole)
  (kb vb : Vec F S512x128 .bf16) (q d : Vec F S8192x128 .bf16) (l t g : Vec F S8192x128 .f32)
  (gk gv : Vec F S512x128 .f32) (s p : Vec F S512x512 .f32)

set_option maxHeartbeats 16000000 in
set_option backward.proofsInPublic true in
/-- One trip at a symbolic trip number `k`. -/
def tripRun (k : Fin k0_t1_loop.trips) :
    Σ' (L8 : List (View.Piece (Elt F) S8192x128 .f32)) (L9 : List (View.Piece (Elt F) S512x128 .f32)) (L10 : List (View.Piece (Elt F) S512x128 .f32)) (L11 : List (View.Piece (Elt F) S512x512 .f32)),
    { L12 : List (View.Piece (Elt F) S512x512 .f32) //
      (iprop(owns (c : Thread nD τ) arg2 fullShare q ∗ owns (c : Thread nD τ) arg5 fullShare d ∗ owns (c : Thread nD τ) arg6 fullShare l ∗ owns (c : Thread nD τ) arg7 fullShare t ∗ owns (c : Thread nD τ) arg8 fullShare g ∗ owns (c : Thread nD τ) arg9 fullShare gk ∗ owns (c : Thread nD τ) arg10 fullShare gv ∗ owns (c : Thread nD τ) arg11 fullShare s ∗ owns (c : Thread nD τ) arg12 fullShare p ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) : sProp 𝕄)
      ⊢ wp frame (wpE (defs₀ (F := F)) 𝒱₀ (c : Thread nD τ) none) Set.univ
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kb vb k ())
          (fun _ => iprop(owns (c : Thread nD τ) arg2 fullShare q ∗ owns (c : Thread nD τ) arg5 fullShare d ∗ owns (c : Thread nD τ) arg6 fullShare l ∗ owns (c : Thread nD τ) arg7 fullShare t ∗ (arg8.view.loc (c : Thread nD τ) ↦[arg8.view.set]{fullShare} arg8.view.writes (Elt F) (harg8.unread g) L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d))) } := by
  refine ⟨?_, ?_, ?_, ?_, ?_, ?run⟩
  case run =>
    unfold owns
    iintro ⟨⟨%f2, %hf2, H2⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩⟩
    obtain rfl := harg2.eq_unread hf2; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    unfold k0_t1_body
    sl_exec_parts
    sl_step
    isplitl [H2]
    · iexists _; isplitr; · ipureintro; exact harg2.read_unread _
      iexact H2
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexact H8
    isplitl [H9]; · iexists _; iexact H9
    isplitl [H10]; · iexists _; iexact H10
    isplitl [H11]; · iexists _; iexact H11
    isplitl [H12]; · iexists _; iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl

end Cert.Proof.Trip

end
-- ==== Proof.Tile.lean ====
module

public import proofs.«01_k».proof.Proof.Trip
public import Idealize.ShloMosaic.Lib.Pipeline.Value
public import Idealize.ShloMosaic.Lib.WholeRead

@[expose] public section

set_option maxRecDepth 16384

noncomputable section

namespace Cert.Proof.Tile

open Cert.KernelIdeal Cert.KernelIdeal.Gen
open Idealize.ShloMosaic Idealize.ShloMosaic.TcCoe

variable {F : FTy → Type} [FloatOps F] [Named F]

/-- Row `y 0` of the `n`-th block of 512 rows. -/
def rix (n : ℕ) (y : S512x128.Idx) : S8192x128.Idx := fun a => match a with
  | ⟨0, _⟩ => ⟨(512 * n + (y 0).val) % 8192, Nat.mod_lt _ (by norm_num)⟩
  | ⟨1, _⟩ => ⟨(y 1).val, (y 1).isLt⟩

/-- Row `y 0` of the `n`-th block of 512 rows, the column taken within its group of 128. -/
def lix (n : ℕ) (y : S512x512.Idx) : S8192x128.Idx := fun a => match a with
  | ⟨0, _⟩ => ⟨(512 * n + (y 0).val) % 8192, Nat.mod_lt _ (by norm_num)⟩
  | ⟨1, _⟩ => ⟨(y 1).val % 128, Nat.mod_lt _ (by norm_num)⟩

/-- The `n`-th block of 512 rows. -/
def rows {φ : EltTy} (X : Vec F S8192x128 φ) (n : ℕ) : Vec F S512x128 φ := fun y => X (rix n y)

/-- The tile of weights from a tile of scores `s` and the rows' log-sums `l`. -/
def pT (l : Vec F S8192x128 .f32) (n : ℕ) (s : Vec F S512x512 .f32) : Vec F S512x512 .bf16 :=
  truncf .bf16 (exp2 (subf (mulf s (broadcast S512x512 (Named.named κ "scale_log2e" 0x3E16C740#32))) (fun y => l (lix n y)))) bitsLt_bf16_f32

/-- The tile of score gradients from the scores `s`, the products `p` and the rows' `l` and `t`. -/
def dsT (l t : Vec F S8192x128 .f32) (n : ℕ) (s p : Vec F S512x512 .f32) : Vec F S512x512 .bf16 :=
  truncf .bf16 (mulf (mulf (exp2 (subf (mulf s (broadcast S512x512 (Named.named κ "scale_log2e" 0x3E16C740#32))) (fun y => l (lix n y))))
    (subf p (fun y => t (lix n y)))) (broadcast S512x512 (Scalar.ofBits .f32 0x3DD105EC#32))) bitsLt_bf16_f32

/-- One unit of the weights, as the kernel computes it. -/
def uP (v44 v49 : Vec F S32x128 .f32) : FVec F S32x128 .bf16 :=
  shapeCast S32x128 (truncf .bf16 (exp2 (subf (mulf v49 (broadcast S32x128 (Named.named κ "scale_log2e" 0x3E16C740#32)))
    (shapeCast S32x128 v44 shapeCasts_S32x128_S32x128))) bitsLt_bf16_f32) shapeCasts_S32x128_S32x128

/-- One unit of the score gradients, as the kernel computes it. -/
def uD (v44 v47 v49 v58 : Vec F S32x128 .f32) : FVec F S32x128 .bf16 :=
  shapeCast S32x128 (truncf .bf16 (mulf (mulf (exp2 (subf (mulf v49 (broadcast S32x128 (Named.named κ "scale_log2e" 0x3E16C740#32)))
    (shapeCast S32x128 v44 shapeCasts_S32x128_S32x128))) (subf v58 (shapeCast S32x128 v47 shapeCasts_S32x128_S32x128)))
    (broadcast S32x128 (Scalar.ofBits .f32 0x3DD105EC#32))) bitsLt_bf16_f32) shapeCasts_S32x128_S32x128

theorem off1_eq : ∀ k : Fin k0_t1_loop.trips, k0_off1 k = ![1024 * k.val + 512, 0] := by decide +kernel
theorem off3_eq : ∀ k : Fin k0_t1_loop.trips, k0_off3 k = ![1024 * k.val, 0] := by decide +kernel
theorem off4_eq : ∀ k : Fin k0_t1_loop.trips, k0_off4 k = ![512 * min (2 * (k.val + 1)) 15, 0] := by decide +kernel
theorem off6_eq : ∀ k : Fin k0_t1_loop.trips, k0_off6 k = ![1024 * k.val + 512, 0] := by decide +kernel
theorem off2_fin : ∀ (k : Fin k0_t1_loop.trips) (r : Fin 16), k0_off2 k (BitVec.ofNat 32 (32 * r.val)) = ![1024 * k.val + 32 * r.val, 0] := by decide +kernel
theorem off5_fin : ∀ (k : Fin k0_t1_loop.trips) (r : Fin 16), k0_off5 k (BitVec.ofNat 32 (32 * r.val)) = ![1024 * k.val + 512 + 32 * r.val, 0] := by decide +kernel
theorem trips_lt (k : Fin k0_t1_loop.trips) : k.val < 8 := k.isLt

/-- A row offset inside a tile. -/
def Row (r : ℕ) : Prop := r % 32 = 0 ∧ r < 512
instance (r : ℕ) : Decidable (Row r) := inferInstanceAs (Decidable (_ ∧ _))
/-- A column offset inside a tile. -/
def Col (b : ℕ) : Prop := b % 128 = 0 ∧ b < 512
instance (b : ℕ) : Decidable (Col b) := inferInstanceAs (Decidable (_ ∧ _))

theorem off2_eq (k : Fin k0_t1_loop.trips) {r : ℕ} (hr : Row r) : k0_off2 k (BitVec.ofNat 32 r) = ![1024 * k.val + r, 0] := by
  have h := off2_fin k ⟨r / 32, by have := hr.2; omega⟩
  have e : 32 * (r / 32) = r := by have := hr.1; omega
  simpa only [e] using h
theorem off5_eq (k : Fin k0_t1_loop.trips) {r : ℕ} (hr : Row r) : k0_off5 k (BitVec.ofNat 32 r) = ![1024 * k.val + 512 + r, 0] := by
  have h := off5_fin k ⟨r / 32, by have := hr.2; omega⟩
  have e : 32 * (r / 32) = r := by have := hr.1; omega
  simpa only [e] using h

theorem inb2 (k : Fin k0_t1_loop.trips) {r : ℕ} (hr : Row r) : ∀ a, k0_off2 k (BitVec.ofNat 32 r) a + S32x128.size a ≤ S8192x128.size a := by
  rw [off2_eq k hr]; have := trips_lt k; have := hr.1; have := hr.2
  refine Fin.forall_fin_two.mpr ⟨?_, ?_⟩
  · show 1024 * k.val + r + 32 ≤ 8192; omega
  · show 0 + 128 ≤ 128; omega
theorem inb5 (k : Fin k0_t1_loop.trips) {r : ℕ} (hr : Row r) : ∀ a, k0_off5 k (BitVec.ofNat 32 r) a + S32x128.size a ≤ S8192x128.size a := by
  rw [off5_eq k hr]; have := trips_lt k; have := hr.1; have := hr.2
  refine Fin.forall_fin_two.mpr ⟨?_, ?_⟩
  · show 1024 * k.val + 512 + r + 32 ≤ 8192; omega
  · show 0 + 128 ≤ 128; omega
theorem inbU {r b : ℕ} (hr : Row r) (hb : Col b) : ∀ a, (![r, b] : Fin 2 → ℕ) a + S32x128.size a ≤ S512x512.size a := by
  have := hr.1; have := hr.2; have := hb.1; have := hb.2
  refine Fin.forall_fin_two.mpr ⟨?_, ?_⟩
  · show r + 32 ≤ 512; omega
  · show b + 128 ≤ 512; omega

/-- The stores `L` are units of the function `G`, at the offsets `os`. -/
def Tiles {e : EltTy} (G : Vec F S512x512 e) (os : List (ℕ × ℕ)) (L : List (View.Piece (Elt F) S512x512 e)) : Prop :=
  List.Forall₂ (fun o p => (∀ x, p.2 x = G (p.1.emb x)) ∧
    (∀ y : S512x512.Idx, o.1 ≤ (y 0).val → (y 0).val < o.1 + 32 → o.2 ≤ (y 1).val → (y 1).val < o.2 + 128 → y ∈ p.1.set)) os L

theorem Tiles.nil {e : EltTy} (G : Vec F S512x512 e) : Tiles G [] [] := List.Forall₂.nil

theorem Tiles.cons {e : EltTy} {G : Vec F S512x512 e} {os : List (ℕ × ℕ)} {L : List (View.Piece (Elt F) S512x512 e)} {r b : ℕ}
    {inb : ∀ a, (![r, b] : Fin 2 → ℕ) a + S32x128.size a ≤ S512x512.size a} {V : (Rect.unit (s := S512x512) ![r, b] S32x128.size inb).shape.Idx → Elt F e}
    (hV : ∀ x, V x = G ((Rect.unit (s := S512x512) ![r, b] S32x128.size inb).emb x)) (h : Tiles G os L) :
    Tiles G ((r, b) :: os) (⟨Rect.unit (s := S512x512) ![r, b] S32x128.size inb, V⟩ :: L) := by
  refine List.Forall₂.cons ⟨hV, fun y h1 h2 h3 h4 => (Rect.mem_set_unit (inb := inb) (i := y)).mpr (Fin.forall_fin_two.mpr ⟨⟨h1, h2⟩, ⟨h3, h4⟩⟩)⟩ h

theorem Tiles.canon {e : EltTy} {G : Vec F S512x512 e} {os : List (ℕ × ℕ)} {L : List (View.Piece (Elt F) S512x512 e)}
    (h : Tiles G os L) (hc : ∀ (a : Fin 16) (b : Fin 4), (32 * a.val, 128 * b.val) ∈ os) [∀ e, Nonempty (Elt F e)] : View.canon L = G := by
  funext y
  refine View.canon_apply_of_pieces G L ?_ y ?_
  · intro p hp
    obtain ⟨n, hn, rfl⟩ := List.getElem_of_mem hp
    exact ((List.forall₂_iff_get.mp h).2 n (by rw [(List.forall₂_iff_get.mp h).1]; exact hn) hn).1
  · have h0 : (y 0).val < 512 := (y 0).isLt
    have h1 : (y 1).val < 512 := (y 1).isLt
    obtain ⟨n, hn, e⟩ := List.getElem_of_mem (hc ⟨(y 0).val / 32, by omega⟩ ⟨(y 1).val / 128, by omega⟩)
    have hn' : n < L.length := by rw [← (List.forall₂_iff_get.mp h).1]; exact hn
    refine ⟨L[n], List.getElem_mem hn', ?_⟩
    have hh := ((List.forall₂_iff_get.mp h).2 n hn hn').2 y
    simp only [List.get_eq_getElem, e] at hh
    exact hh (by omega) (by omega) (by omega) (by omega)

theorem emb_lix {off : Fin 2 → ℕ} (inb : ∀ a, off a + S32x128.size a ≤ S8192x128.size a) {n r b : ℕ} (hb : Col b)
    (h : off = ![512 * n + r, 0]) (inb' : ∀ a, (![r, b] : Fin 2 → ℕ) a + S32x128.size a ≤ S512x512.size a) (x : S32x128.Idx) :
    (Rect.unit (s := S8192x128) off S32x128.size inb).emb x = lix n ((Rect.unit (s := S512x512) ![r, b] S32x128.size inb').emb x) := by
  subst h
  have h0 : (x 0).val < 32 := (x 0).isLt
  have h1 : (x 1).val < 128 := (x 1).isLt
  have i0 : 512 * n + r + 32 ≤ 8192 := inb 0
  have := hb.1
  funext a
  refine Fin.ext ?_
  fin_cases a
  · show 512 * n + r + 1 * (x 0).val = (512 * n + (r + 1 * (x 0).val)) % 8192
    rw [Nat.mod_eq_of_lt (by omega)]; omega
  · show 0 + 1 * (x 1).val = (b + 1 * (x 1).val) % 128
    omega

theorem uP_eq (v44 v49 : Vec F S32x128 .f32) (l : Vec F S8192x128 .f32) (s : Vec F S512x512 .f32) (n : ℕ) (e : S32x128.Idx → S512x512.Idx)
    (h44 : ∀ x, v44 x = l (lix n (e x))) (h49 : ∀ x, v49 x = s (e x)) (x : S32x128.Idx) : uP v44 v49 x = pT l n s (e x) := by
  unfold uP pT
  rw [shapeCast_self, shapeCast_self]
  have a : v44 = fun x => l (lix n (e x)) := funext h44
  have b : v49 = fun x => s (e x) := funext h49
  subst a b; rfl

theorem uD_eq (v44 v47 v49 v58 : Vec F S32x128 .f32) (l t : Vec F S8192x128 .f32) (s p : Vec F S512x512 .f32) (n : ℕ) (e : S32x128.Idx → S512x512.Idx)
    (h44 : ∀ x, v44 x = l (lix n (e x))) (h47 : ∀ x, v47 x = t (lix n (e x))) (h49 : ∀ x, v49 x = s (e x)) (h58 : ∀ x, v58 x = p (e x))
    (x : S32x128.Idx) : uD v44 v47 v49 v58 x = dsT l t n s p (e x) := by
  unfold uD dsT
  rw [shapeCast_self, shapeCast_self, shapeCast_self]
  have a : v44 = fun x => l (lix n (e x)) := funext h44
  have b : v49 = fun x => s (e x) := funext h49
  have c : v47 = fun x => t (lix n (e x)) := funext h47
  have d : v58 = fun x => p (e x) := funext h58
  subst a b c d; rfl

variable {arg6 arg7 arg8 : Memref sig .tc .vmem S8192x128 .f32} {harg6 : arg6.IsWhole} {harg7 : arg7.IsWhole}
  {arg11 arg12 : Memref sig .tc .vmem S512x512 .f32} {harg11 : arg11.IsWhole} {harg12 : arg12.IsWhole}
  {l t : Vec F S8192x128 .f32} {s p : Vec F S512x512 .f32} {k : Fin k0_t1_loop.trips}

/-- A load through a unit rectangle of a whole buffer reads the buffer's contents there. -/
theorem readU {S : Shape} {e : EltTy} {m : Memref sig .tc .vmem S e} (h : m.IsWhole) (X : Vec F S e) {off size : Fin S.rank → ℕ}
    (inb : ∀ a, off a + size a ≤ S.size a) (x : (Rect.unit (s := S) off size inb).shape.Idx) :
    View.readAt (Elt F) m.view (Rect.unit (s := S) off size inb).toLoadRect (h.unread X) x = X ((Rect.unit (s := S) off size inb).emb x) :=
  h.readAt_unread X _ x

/-- One unit of the first stage's weights. -/
theorem consPa {os : List (ℕ × ℕ)} {L : List (View.Piece (Elt F) S512x512 .bf16)} {r b : ℕ} (hr : Row r) (hb : Col b)
    {inb : ∀ a, (![r, b] : Fin 2 → ℕ) a + S32x128.size a ≤ S512x512.size a} {V : FVec F S32x128 .bf16}
    (hV : V = uP (View.readAt (Elt F) arg6.view (Rect.unit (s := S8192x128) (k0_off2 k (BitVec.ofNat 32 r)) S32x128.size (inb2 k hr)).toLoadRect (harg6.unread l))
      (View.readAt (Elt F) arg11.view (Rect.unit (s := S512x512) ![r, b] S32x128.size (inbU hr hb)).toLoadRect (harg11.unread s)))
    (h : Tiles (pT l (2 * k.val) s) os L) :
    Tiles (pT l (2 * k.val) s) ((r, b) :: os) (⟨Rect.unit (s := S512x512) ![r, b] S32x128.size inb, V⟩ :: L) := by
  subst hV
  refine Tiles.cons (fun x => uP_eq _ _ l s (2 * k.val) (fun x => (Rect.unit (s := S512x512) ![r, b] S32x128.size inb).emb x) (fun x => ?_) (fun x => ?_) x) h
  · exact (readU harg6 l (inb2 k hr) x).trans (congrArg l (emb_lix (inb2 k hr) hb (n := 2 * k.val) (by rw [off2_eq k hr]; congr 1; omega) inb x))
  · exact readU harg11 s (inbU hr hb) x

/-- One unit of the first stage's score gradients. -/
theorem consDa {os : List (ℕ × ℕ)} {L : List (View.Piece (Elt F) S512x512 .bf16)} {r b : ℕ} (hr : Row r) (hb : Col b)
    {inb : ∀ a, (![r, b] : Fin 2 → ℕ) a + S32x128.size a ≤ S512x512.size a} {V : FVec F S32x128 .bf16}
    (hV : V = uD (View.readAt (Elt F) arg6.view (Rect.unit (s := S8192x128) (k0_off2 k (BitVec.ofNat 32 r)) S32x128.size (inb2 k hr)).toLoadRect (harg6.unread l))
      (View.readAt (Elt F) arg7.view (Rect.unit (s := S8192x128) (k0_off2 k (BitVec.ofNat 32 r)) S32x128.size (inb2 k hr)).toLoadRect (harg7.unread t))
      (View.readAt (Elt F) arg11.view (Rect.unit (s := S512x512) ![r, b] S32x128.size (inbU hr hb)).toLoadRect (harg11.unread s))
      (View.readAt (Elt F) arg12.view (Rect.unit (s := S512x512) ![r, b] S32x128.size (inbU hr hb)).toLoadRect (harg12.unread p)))
    (h : Tiles (dsT l t (2 * k.val) s p) os L) :
    Tiles (dsT l t (2 * k.val) s p) ((r, b) :: os) (⟨Rect.unit (s := S512x512) ![r, b] S32x128.size inb, V⟩ :: L) := by
  subst hV
  refine Tiles.cons (fun x => uD_eq _ _ _ _ l t s p (2 * k.val) (fun x => (Rect.unit (s := S512x512) ![r, b] S32x128.size inb).emb x)
    (fun x => ?_) (fun x => ?_) (fun x => ?_) (fun x => ?_) x) h
  · exact (readU harg6 l (inb2 k hr) x).trans (congrArg l (emb_lix (inb2 k hr) hb (n := 2 * k.val) (by rw [off2_eq k hr]; congr 1; omega) inb x))
  · exact (readU harg7 t (inb2 k hr) x).trans (congrArg t (emb_lix (inb2 k hr) hb (n := 2 * k.val) (by rw [off2_eq k hr]; congr 1; omega) inb x))
  · exact readU harg11 s (inbU hr hb) x
  · exact readU harg12 p (inbU hr hb) x

variable [∀ e, Nonempty (Elt F e)]

theorem readCov_unit (v : View sig .tc .vmem S512x512 .f32) (s : Vec F S512x512 .f32) {r b : ℕ}
    (inb0 : ∀ a, (![0, 0] : Fin 2 → ℕ) a + S512x512.size a ≤ S512x512.size a)
    (inb : ∀ a, (![r, b] : Fin 2 → ℕ) a + S32x128.size a ≤ S512x512.size a) (x : S32x128.Idx) :
    v.readCov (Val := Elt F) [⟨Rect.unit (s := S512x512) ![0, 0] S512x512.size inb0, s⟩] (Rect.unit (s := S512x512) ![r, b] S32x128.size inb).toLoadRect x
      = s ((Rect.unit (s := S512x512) ![r, b] S32x128.size inb).emb x) := by
  rw [View.readCov_eq_canon', View.canon_unit_zero (S := S512x512) (by funext a; fin_cases a <;> rfl)]
  rfl

/-- One unit of the second stage's weights. -/
theorem consPb {v15 : View sig .tc .vmem S512x512 .f32} {os : List (ℕ × ℕ)} {L : List (View.Piece (Elt F) S512x512 .bf16)} {r b : ℕ} (hr : Row r) (hb : Col b)
    {inb : ∀ a, (![r, b] : Fin 2 → ℕ) a + S32x128.size a ≤ S512x512.size a} {V : FVec F S32x128 .bf16}
    (hV : V = uP (View.readAt (Elt F) arg6.view (Rect.unit (s := S8192x128) (k0_off5 k (BitVec.ofNat 32 r)) S32x128.size (inb5 k hr)).toLoadRect (harg6.unread l))
      (v15.readCov (Val := Elt F) [⟨Rect.unit (s := S512x512) ![0, 0] S512x512.size inb_S512x512_S512x512_0_0, s⟩] (Rect.unit (s := S512x512) ![r, b] S32x128.size (inbU hr hb)).toLoadRect))
    (h : Tiles (pT l (2 * k.val + 1) s) os L) :
    Tiles (pT l (2 * k.val + 1) s) ((r, b) :: os) (⟨Rect.unit (s := S512x512) ![r, b] S32x128.size inb, V⟩ :: L) := by
  subst hV
  refine Tiles.cons (fun x => uP_eq _ _ l s (2 * k.val + 1) (fun x => (Rect.unit (s := S512x512) ![r, b] S32x128.size inb).emb x) (fun x => ?_) (fun x => ?_) x) h
  · exact (readU harg6 l (inb5 k hr) x).trans (congrArg l (emb_lix (inb5 k hr) hb (n := 2 * k.val + 1) (by rw [off5_eq k hr]; congr 1; omega) inb x))
  · exact readCov_unit _ s _ _ x

/-- One unit of the second stage's score gradients. -/
theorem consDb {v15 v16 : View sig .tc .vmem S512x512 .f32} {os : List (ℕ × ℕ)} {L : List (View.Piece (Elt F) S512x512 .bf16)} {r b : ℕ} (hr : Row r) (hb : Col b)
    {inb : ∀ a, (![r, b] : Fin 2 → ℕ) a + S32x128.size a ≤ S512x512.size a} {V : FVec F S32x128 .bf16}
    (hV : V = uD (View.readAt (Elt F) arg6.view (Rect.unit (s := S8192x128) (k0_off5 k (BitVec.ofNat 32 r)) S32x128.size (inb5 k hr)).toLoadRect (harg6.unread l))
      (View.readAt (Elt F) arg7.view (Rect.unit (s := S8192x128) (k0_off5 k (BitVec.ofNat 32 r)) S32x128.size (inb5 k hr)).toLoadRect (harg7.unread t))
      (v15.readCov (Val := Elt F) [⟨Rect.unit (s := S512x512) ![0, 0] S512x512.size inb_S512x512_S512x512_0_0, s⟩] (Rect.unit (s := S512x512) ![r, b] S32x128.size (inbU hr hb)).toLoadRect)
      (v16.readCov (Val := Elt F) [⟨Rect.unit (s := S512x512) ![0, 0] S512x512.size inb_S512x512_S512x512_0_0, p⟩] (Rect.unit (s := S512x512) ![r, b] S32x128.size (inbU hr hb)).toLoadRect))
    (h : Tiles (dsT l t (2 * k.val + 1) s p) os L) :
    Tiles (dsT l t (2 * k.val + 1) s p) ((r, b) :: os) (⟨Rect.unit (s := S512x512) ![r, b] S32x128.size inb, V⟩ :: L) := by
  subst hV
  refine Tiles.cons (fun x => uD_eq _ _ _ _ l t s p (2 * k.val + 1) (fun x => (Rect.unit (s := S512x512) ![r, b] S32x128.size inb).emb x)
    (fun x => ?_) (fun x => ?_) (fun x => ?_) (fun x => ?_) x) h
  · exact (readU harg6 l (inb5 k hr) x).trans (congrArg l (emb_lix (inb5 k hr) hb (n := 2 * k.val + 1) (by rw [off5_eq k hr]; congr 1; omega) inb x))
  · exact (readU harg7 t (inb5 k hr) x).trans (congrArg t (emb_lix (inb5 k hr) hb (n := 2 * k.val + 1) (by rw [off5_eq k hr]; congr 1; omega) inb x))
  · exact readCov_unit _ s _ _ x
  · exact readCov_unit _ p _ _ x

end Cert.Proof.Tile

end
-- ==== Proof.TripVal.lean ====
module

public import proofs.«01_k».proof.Proof.Tile
public import Idealize.ShloMosaic.Lib.WritesUnit

@[expose] public section

set_option maxRecDepth 16384

noncomputable section

namespace Cert.Proof.Trip

open Cert.KernelIdeal Cert.KernelIdeal.Gen Cert.Proof.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

theorem inbQ (k : Fin k0_t1_loop.trips) : ∀ a, k0_off1 k a + S512x128.size a ≤ S8192x128.size a := by
  rw [off1_eq k]; have := trips_lt k
  refine Fin.forall_fin_two.mpr ⟨?_, ?_⟩
  · show 1024 * k.val + 512 + 512 ≤ 8192; omega
  · show 0 + 128 ≤ 128; omega

variable (c : Dev nD) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S8192x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .bf16) (harg17 : arg17.IsWhole) (arg18 : Memref sig .tc .vmem S512x512 .bf16) (harg18 : arg18.IsWhole)
  (kb vb : Vec F S512x128 .bf16) (q d : Vec F S8192x128 .bf16) (l t g : Vec F S8192x128 .f32)
  (gk gv : Vec F S512x128 .f32) (s p : Vec F S512x512 .f32)

/-- The first stage's 64 stores of weights are the units of one tile. -/
theorem tiles13 (k : Fin k0_t1_loop.trips) : ∃ os, Tiles (pT l (2 * k.val) s) os (tripRun.sl.H13_64 c arg6 harg6 arg11 harg11 l s k)
    ∧ ∀ (a : Fin 16) (b : Fin 4), (32 * a.val, 128 * b.val) ∈ os := by
  refine ⟨?os, ?walk, ?cov⟩
  case walk =>
    iterate 64
      refine consPa (F := F) (os := ?_) (harg6 := harg6) (harg11 := harg11) (l := l) (s := s) (k := k) ?_ ?_ ?_ ?_
      rotate_left
      · decide
      · decide
      · rfl
    exact Tiles.nil (F := F) _
  case cov => decide

/-- The first stage's 64 stores of score gradients are the units of one tile. -/
theorem tiles14 (k : Fin k0_t1_loop.trips) : ∃ os, Tiles (dsT l t (2 * k.val) s p) os (tripRun.sl.H14_64 c arg6 harg6 arg7 harg7 arg11 harg11 arg12 harg12 l t s p k)
    ∧ ∀ (a : Fin 16) (b : Fin 4), (32 * a.val, 128 * b.val) ∈ os := by
  refine ⟨?os, ?walk, ?cov⟩
  case walk =>
    iterate 64
      refine consDa (F := F) (os := ?_) (harg6 := harg6) (harg7 := harg7) (harg11 := harg11) (harg12 := harg12) (l := l) (t := t) (s := s) (p := p) (k := k) ?_ ?_ ?_ ?_
      rotate_left
      · decide
      · decide
      · rfl
    exact Tiles.nil (F := F) _
  case cov => decide

/-- The scores of the second stage, as the first stage leaves them. -/
abbrev s15 (k : Fin k0_t1_loop.trips) : Vec F S512x512 .f32 :=
  k0_pay9 kb (View.readAt (Elt F) arg2.view (Rect.unit (s := S8192x128) (k0_off1 k) S512x128.size (inbQ k)).toLoadRect (harg2.unread q))
/-- The products of the second stage, as the first stage leaves them. -/
abbrev p16 (k : Fin k0_t1_loop.trips) : Vec F S512x512 .f32 :=
  k0_pay10 vb (View.readAt (Elt F) arg5.view (Rect.unit (s := S8192x128) (k0_off1 k) S512x128.size (inbQ k)).toLoadRect (harg5.unread d))

/-- The second stage's 64 stores of weights are the units of one tile. -/
theorem tiles17 (k : Fin k0_t1_loop.trips) : ∃ os, Tiles (pT l (2 * k.val + 1) (s15 arg2 harg2 kb q k)) os (tripRun.sl.H17_64 c arg2 harg2 arg6 harg6 arg15 kb q l k)
    ∧ ∀ (a : Fin 16) (b : Fin 4), (32 * a.val, 128 * b.val) ∈ os := by
  refine ⟨?os, ?walk, ?cov⟩
  case walk =>
    iterate 64
      refine consPb (F := F) (os := ?_) (harg6 := harg6) (l := l) (s := s15 arg2 harg2 kb q k) (k := k) (v15 := arg15.view) ?_ ?_ ?_ ?_
      rotate_left
      · decide
      · decide
      · rfl
    exact Tiles.nil (F := F) _
  case cov => decide

/-- The second stage's 64 stores of score gradients are the units of one tile. -/
theorem tiles18 (k : Fin k0_t1_loop.trips) : ∃ os, Tiles (dsT l t (2 * k.val + 1) (s15 arg2 harg2 kb q k) (p16 arg5 harg5 vb d k)) os
      (tripRun.sl.H18_64 c arg2 harg2 arg5 harg5 arg6 harg6 arg7 harg7 arg15 arg16 kb vb q d l t k)
    ∧ ∀ (a : Fin 16) (b : Fin 4), (32 * a.val, 128 * b.val) ∈ os := by
  refine ⟨?os, ?walk, ?cov⟩
  case walk =>
    iterate 64
      refine consDb (F := F) (os := ?_) (harg6 := harg6) (harg7 := harg7) (l := l) (t := t) (s := s15 arg2 harg2 kb q k) (p := p16 arg5 harg5 vb d k) (k := k) (v15 := arg15.view) (v16 := arg16.view) ?_ ?_ ?_ ?_
      rotate_left
      · decide
      · decide
      · rfl
    exact Tiles.nil (F := F) _
  case cov => decide

/-- Scores of a block of rows against the key block. -/
abbrev scT (b x : Vec F S512x128 .bf16) : FVec F S512x512 .f32 :=
  matmul dot_S512x128_S512x128_S512x512_1_1_0_0_n_n none x b (constant S512x512 .f32 0x00000000#32)
/-- A tile's transpose times a block of rows. -/
abbrev mmT (w : FVec F S512x512 .bf16) (x : Vec F S512x128 .bf16) : FVec F S512x128 .f32 :=
  matmul dot_S512x512_S512x128_S512x128_0_0_1_1_n_n none w x (constant S512x128 .f32 0x00000000#32)
/-- A tile times the key block. -/
abbrev mmN (w : FVec F S512x512 .bf16) (x : Vec F S512x128 .bf16) : FVec F S512x128 .f32 :=
  matmul dot_S512x512_S512x128_S512x128_1_0_0_1_n_n none w x (constant S512x128 .f32 0x00000000#32)

theorem zero2 : (![0, 0] : Fin 2 → ℕ) = fun _ => 0 := by funext a; fin_cases a <;> rfl

theorem emb_rix {off : Fin 2 → ℕ} (inb : ∀ a, off a + S512x128.size a ≤ S8192x128.size a) {n : ℕ}
    (h : off = ![512 * n, 0]) (x : S512x128.Idx) : (Rect.unit (s := S8192x128) off S512x128.size inb).emb x = rix n x := by
  subst h
  have h0 : (x 0).val < 512 := (x 0).isLt
  have i0 : 512 * n + 512 ≤ 8192 := inb 0
  funext a
  refine Fin.ext ?_
  fin_cases a
  · show 512 * n + 1 * (x 0).val = (512 * n + (x 0).val) % 8192
    rw [Nat.mod_eq_of_lt (by omega)]; omega
  · show 0 + 1 * (x 1).val = (x 1).val
    omega

/-- A load of the `n`-th block of rows. -/
theorem rd_rows {e : EltTy} {m : Memref sig .tc .vmem S8192x128 e} (h : m.IsWhole) (X : Vec F S8192x128 e) {off : Fin 2 → ℕ}
    (inb : ∀ a, off a + S512x128.size a ≤ S8192x128.size a) {n : ℕ} (ho : off = ![512 * n, 0]) :
    View.readAt (Elt F) m.view (Rect.unit (s := S8192x128) off S512x128.size inb).toLoadRect (h.unread X) = rows X n := by
  funext x
  exact (readU h X inb x).trans (congrArg X (emb_rix inb ho x))

/-- A load of a whole buffer. -/
theorem rd_whole {S : Shape} {e : EltTy} {m : Memref sig .tc .vmem S e} (h : m.IsWhole) (X : Vec F S e) {off : Fin S.rank → ℕ}
    (h0 : off = fun _ => 0) (inb : ∀ a, off a + S.size a ≤ S.size a) :
    View.readAt (Elt F) m.view (Rect.unit (s := S) off S.size inb).toLoadRect (h.unread X) = X := by
  subst h0
  funext x
  refine (readU h X inb x).trans (congrArg X ?_)
  show (Rect.whole S).emb x = x
  rw [Rect.emb_whole_apply]

theorem rd_canon {S : Shape} {e : EltTy} (v : View sig .tc .vmem S e) (L : List (View.Piece (Elt F) S e)) {off : Fin S.rank → ℕ}
    (h0 : off = fun _ => 0) (inb : ∀ a, off a + S.size a ≤ S.size a) :
    v.readCov L (Rect.unit (s := S) off S.size inb).toLoadRect = View.canon L := by
  subst h0
  rw [View.readCov_eq_canon']
  funext x
  refine congrArg (View.canon L) ?_
  show (Rect.whole S).emb x = x
  rw [Rect.emb_whole_apply]

theorem v1340_eq (k : Fin k0_t1_loop.trips) : tripRun.sl.v1340 c arg6 harg6 arg11 harg11 arg13 l s k = pT l (2 * k.val) s := by
  obtain ⟨os, h, hc⟩ := tiles13 c arg6 harg6 arg11 harg11 l s k
  exact (rd_canon _ _ zero2 _).trans (h.canon hc)
theorem v1348_eq (k : Fin k0_t1_loop.trips) : tripRun.sl.v1348 c arg6 harg6 arg7 harg7 arg11 harg11 arg12 harg12 arg14 l t s p k = dsT l t (2 * k.val) s p := by
  obtain ⟨os, h, hc⟩ := tiles14 c arg6 harg6 arg7 harg7 arg11 harg11 arg12 harg12 l t s p k
  exact (rd_canon _ _ zero2 _).trans (h.canon hc)
theorem s15_eq (k : Fin k0_t1_loop.trips) : s15 arg2 harg2 kb q k = scT kb (rows q (2 * k.val + 1)) := by
  unfold s15 k0_pay9
  rw [rd_rows harg2 q (inbQ k) (n := 2 * k.val + 1) (by rw [off1_eq k]; congr 1; omega)]
  exact shapeCast_self _ _
theorem p16_eq (k : Fin k0_t1_loop.trips) : p16 arg5 harg5 vb d k = scT vb (rows d (2 * k.val + 1)) := by
  unfold p16 k0_pay10
  rw [rd_rows harg5 d (inbQ k) (n := 2 * k.val + 1) (by rw [off1_eq k]; congr 1; omega)]
  exact shapeCast_self _ _
theorem v2680_eq (k : Fin k0_t1_loop.trips) : tripRun.sl.v2680 c arg2 harg2 arg6 harg6 arg15 arg17 kb q l k
    = pT l (2 * k.val + 1) (scT kb (rows q (2 * k.val + 1))) := by
  obtain ⟨os, h, hc⟩ := tiles17 c arg2 harg2 arg6 harg6 arg15 kb q l k
  rw [← s15_eq arg2 harg2 kb q k]
  exact (rd_canon _ _ zero2 _).trans (h.canon hc)
theorem v2688_eq (k : Fin k0_t1_loop.trips) : tripRun.sl.v2688 c arg2 harg2 arg5 harg5 arg6 harg6 arg7 harg7 arg15 arg16 arg18 kb vb q d l t k
    = dsT l t (2 * k.val + 1) (scT kb (rows q (2 * k.val + 1))) (scT vb (rows d (2 * k.val + 1))) := by
  obtain ⟨os, h, hc⟩ := tiles18 c arg2 harg2 arg5 harg5 arg6 harg6 arg7 harg7 arg15 arg16 kb vb q d l t k
  rw [← s15_eq arg2 harg2 kb q k, ← p16_eq arg5 harg5 vb d k]
  exact (rd_canon _ _ zero2 _).trans (h.canon hc)

theorem inb3 (k : Fin k0_t1_loop.trips) : ∀ a, k0_off3 k a + S512x128.size a ≤ S8192x128.size a := by
  rw [off3_eq k]; have := trips_lt k
  refine Fin.forall_fin_two.mpr ⟨?_, ?_⟩
  · show 1024 * k.val + 512 ≤ 8192; omega
  · show 0 + 128 ≤ 128; omega
theorem inb4 (k : Fin k0_t1_loop.trips) : ∀ a, k0_off4 k a + S512x128.size a ≤ S8192x128.size a := by
  rw [off4_eq k]; have := trips_lt k
  refine Fin.forall_fin_two.mpr ⟨?_, ?_⟩
  · show 512 * min (2 * (k.val + 1)) 15 + 512 ≤ 8192; omega
  · show 0 + 128 ≤ 128; omega
theorem inb6 (k : Fin k0_t1_loop.trips) : ∀ a, k0_off6 k a + S512x128.size a ≤ S8192x128.size a := by
  rw [off6_eq k]; have := trips_lt k
  refine Fin.forall_fin_two.mpr ⟨?_, ?_⟩
  · show 1024 * k.val + 512 + 512 ≤ 8192; omega
  · show 0 + 128 ≤ 128; omega

theorem v2678_eq (k : Fin k0_t1_loop.trips) : tripRun.sl.v2678 c arg5 harg5 arg6 harg6 arg10 harg10 arg11 harg11 arg13 d l gv s k
    = addf gv (mmT (pT l (2 * k.val) s) (rows d (2 * k.val))) := by
  refine (rd_canon _ _ zero2 _).trans ((View.canon_unit_zero (S := S512x128) zero2 _ _).trans ?_)
  unfold tripRun.sl.v1344 tripRun.sl.v1343 tripRun.sl.v1339 tripRun.sl.cst_709
  rw [v1340_eq, shapeCast_self]
  congr 1
  · exact rd_whole harg10 gv zero2 _
  · exact congrArg (mmT _) (rd_rows harg5 d (inb3 k) (n := 2 * k.val) (by rw [off3_eq k]; congr 1; omega))

theorem v2686_eq (k : Fin k0_t1_loop.trips) : tripRun.sl.v2686 c arg2 harg2 arg6 harg6 arg7 harg7 arg9 harg9 arg11 harg11 arg12 harg12 arg14 q l t gk s p k
    = addf gk (mmT (dsT l t (2 * k.val) s p) (rows q (2 * k.val))) := by
  refine (rd_canon _ _ zero2 _).trans ((View.canon_unit_zero (S := S512x128) zero2 _ _).trans ?_)
  unfold tripRun.sl.v1352 tripRun.sl.v1351 tripRun.sl.v1347 tripRun.sl.cst_709
  rw [v1348_eq, shapeCast_self]
  congr 1
  · exact rd_whole harg9 gk zero2 _
  · exact congrArg (mmT _) (rd_rows harg2 q (inb3 k) (n := 2 * k.val) (by rw [off3_eq k]; congr 1; omega))

theorem v1359_eq (k : Fin k0_t1_loop.trips) : tripRun.sl.v1359 c arg6 harg6 arg7 harg7 arg8 harg8 arg11 harg11 arg12 harg12 arg14 kb l t g s p k
    = addf (rows g (2 * k.val)) (mmN (dsT l t (2 * k.val) s p) kb) := by
  unfold tripRun.sl.v1359 tripRun.sl.v1358 tripRun.sl.v1356 tripRun.sl.cst_709
  rw [v1348_eq, shapeCast_self]
  congr 1
  exact rd_rows harg8 g (inb3 k) (n := 2 * k.val) (by rw [off3_eq k]; congr 1; omega)

/-- The running sum for the value gradient after one trip. -/
theorem canon10 (k : Fin k0_t1_loop.trips) : View.canon (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kb vb q d l t g gk gv s p k).2.2.1
    = addf (addf gv (mmT (pT l (2 * k.val) s) (rows d (2 * k.val)))) (mmT (pT l (2 * k.val + 1) (scT kb (rows q (2 * k.val + 1)))) (rows d (2 * k.val + 1))) := by
  refine (View.canon_cons_unit_zero (S := S512x128) zero2 _ _ _).trans ?_
  unfold k0_pay6
  dsimp only
  rw [v2680_eq]
  congr 1
  · exact (shapeCast_self _ _).trans (v2678_eq ..)
  · exact congrArg (mmT _) (rd_rows harg5 d (inb6 k) (n := 2 * k.val + 1) (by rw [off6_eq k]; congr 1; omega))

/-- The running sum for the key gradient after one trip. -/
theorem canon9 (k : Fin k0_t1_loop.trips) : View.canon (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kb vb q d l t g gk gv s p k).2.1
    = addf (addf gk (mmT (dsT l t (2 * k.val) s p) (rows q (2 * k.val)))) (mmT (dsT l t (2 * k.val + 1) (scT kb (rows q (2 * k.val + 1))) (scT vb (rows d (2 * k.val + 1)))) (rows q (2 * k.val + 1))) := by
  refine (View.canon_cons_unit_zero (S := S512x128) zero2 _ _ _).trans ?_
  unfold k0_pay7
  dsimp only
  rw [v2686_eq, v2688_eq, shapeCast_self]
  congr 1
  exact congrArg (mmT _) (rd_rows harg2 q (inb6 k) (n := 2 * k.val + 1) (by rw [off6_eq k]; congr 1; omega))

/-- The scores the next trip starts from. -/
theorem canon11 (k : Fin k0_t1_loop.trips) : View.canon (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kb vb q d l t g gk gv s p k).2.2.2.1 = scT kb (rows q (min (2 * (k.val + 1)) 15)) := by
  refine (View.canon_cons_unit_zero (S := S512x512) zero2 _ _ _).trans ?_
  unfold k0_pay260
  dsimp only
  rw [shapeCast_self]
  exact congrArg (scT kb) (rd_rows harg2 q (inb4 k) (off4_eq k))

/-- The products the next trip starts from. -/
theorem canon12 (k : Fin k0_t1_loop.trips) : View.canon (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kb vb q d l t g gk gv s p k).2.2.2.2.1 = scT vb (rows d (min (2 * (k.val + 1)) 15)) := by
  refine (View.canon_cons_unit_zero (S := S512x512) zero2 _ _ _).trans ?_
  unfold k0_pay261
  dsimp only
  rw [shapeCast_self]
  exact congrArg (scT vb) (rd_rows harg5 d (inb4 k) (off4_eq k))

/-- `g` with the `n`-th block of rows replaced by `w`. -/
def setRows (g : Vec F S8192x128 .f32) (n : ℕ) (w : FVec F S512x128 .f32) : Vec F S8192x128 .f32 := fun y =>
  if h : 512 * n ≤ (y 0).val ∧ (y 0).val < 512 * n + 512 then
    w (fun a => match a with | ⟨0, _⟩ => ⟨(y 0).val - 512 * n, by have := h.2; have := h.1; show _ < 512; omega⟩ | ⟨1, _⟩ => ⟨(y 1).val, (y 1).isLt⟩)
  else g y

theorem read_setRows (v : View sig .tc .vmem S8192x128 .f32) (f : v.ty.Contents (Elt F)) (L : List (View.Piece (Elt F) S8192x128 .f32)) (X : Vec F S8192x128 .f32)
    (hX : v.read (Elt F) (v.writes (Elt F) f L) = X) {off : Fin 2 → ℕ} (inb : ∀ a, off a + S512x128.size a ≤ S8192x128.size a) {n : ℕ} (ho : off = ![512 * n, 0])
    (w : FVec F S512x128 .f32) : v.read (Elt F) (v.writes (Elt F) f (⟨Rect.unit (s := S8192x128) off S512x128.size inb, w⟩ :: L)) = setRows X n w := by
  funext y
  unfold setRows
  split
  · rename_i h
    exact View.read_writes_cons_rows_of_mem v f inb w L y _ ho (by show (y 0).val = 512 * n + ((y 0).val - 512 * n); omega) rfl
  · rename_i h
    rw [← hX]
    exact View.read_writes_cons_rows_of_not_mem v f inb w L y ho (W := 512) rfl (by show (y 0).val < 512 * n ∨ 512 * n + 512 ≤ (y 0).val; omega)

/-- The query gradient's rows after one trip. -/
theorem read8 (k : Fin k0_t1_loop.trips) : arg8.view.read (Elt F) (arg8.view.writes (Elt F) (harg8.unread g) (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kb vb q d l t g gk gv s p k).1)
    = setRows (setRows g (2 * k.val) (addf (rows g (2 * k.val)) (mmN (dsT l t (2 * k.val) s p) kb))) (2 * k.val + 1)
        (addf (rows g (2 * k.val + 1)) (mmN (dsT l t (2 * k.val + 1) (scT kb (rows q (2 * k.val + 1))) (scT vb (rows d (2 * k.val + 1)))) kb)) := by
  have e1 : k0_pay8 kb (tripRun.sl.v2695 c arg8 harg8 g k) (tripRun.sl.v2688 c arg2 harg2 arg5 harg5 arg6 harg6 arg7 harg7 arg15 arg16 arg18 kb vb q d l t k)
      = addf (rows g (2 * k.val + 1)) (mmN (dsT l t (2 * k.val + 1) (scT kb (rows q (2 * k.val + 1))) (scT vb (rows d (2 * k.val + 1)))) kb) := by
    unfold k0_pay8
    dsimp only
    rw [v2688_eq, shapeCast_self]
    congr 1
    exact rd_rows harg8 g (inb6 k) (n := 2 * k.val + 1) (by rw [off6_eq k]; congr 1; omega)
  rw [← e1, ← v1359_eq c arg6 harg6 arg7 harg7 arg8 harg8 arg11 harg11 arg12 harg12 arg14 kb l t g s p k]
  refine read_setRows arg8.view (harg8.unread g) _ _ ?_ (inb6 k) (by rw [off6_eq k]; congr 1; omega) _
  refine read_setRows arg8.view (harg8.unread g) [] _ ?_ (inb3 k) (by rw [off3_eq k]; congr 1; omega) _
  exact harg8.read_unread g

end Cert.Proof.Trip

end
-- ==== Proof.TripSpec.lean ====
module

public import proofs.«01_k».proof.Proof.TripVal

@[expose] public section

set_option maxRecDepth 16384

noncomputable section

namespace Cert.Proof.Trip

open Cert.KernelIdeal Cert.KernelIdeal.Gen Cert.Proof.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]
local notation "𝕄" => MT nD τ sig Unit (Elt F) ℕ (UU nD τ) ℕ

/-- The weights of block `n`: the tile of exponentials of the scores of the `n`-th block of rows. -/
def pAt (kb : Vec F S512x128 .bf16) (q : Vec F S8192x128 .bf16) (l : Vec F S8192x128 .f32) (n : ℕ) : FVec F S512x512 .bf16 :=
  pT l n (scT kb (rows q n))
/-- The gradient of the scores of block `n`. -/
def dsAt (kb vb : Vec F S512x128 .bf16) (q d : Vec F S8192x128 .bf16) (l t : Vec F S8192x128 .f32) (n : ℕ) : FVec F S512x512 .bf16 :=
  dsT l t n (scT kb (rows q n)) (scT vb (rows d n))
/-- The value gradient after the first `n` blocks. -/
def dvAt (kb : Vec F S512x128 .bf16) (q d : Vec F S8192x128 .bf16) (l : Vec F S8192x128 .f32) (g0 : Vec F S512x128 .f32) : ℕ → Vec F S512x128 .f32
  | 0 => g0
  | n + 1 => addf (dvAt kb q d l g0 n) (mmT (pAt kb q l n) (rows d n))
/-- The key gradient after the first `n` blocks. -/
def dkAt (kb vb : Vec F S512x128 .bf16) (q d : Vec F S8192x128 .bf16) (l t : Vec F S8192x128 .f32) (g0 : Vec F S512x128 .f32) : ℕ → Vec F S512x128 .f32
  | 0 => g0
  | n + 1 => addf (dkAt kb vb q d l t g0 n) (mmT (dsAt kb vb q d l t n) (rows q n))
/-- The query gradient after the first `n` blocks. -/
def dqAt (kb vb : Vec F S512x128 .bf16) (q d : Vec F S8192x128 .bf16) (l t : Vec F S8192x128 .f32) (g0 : Vec F S8192x128 .f32) : ℕ → Vec F S8192x128 .f32
  | 0 => g0
  | n + 1 => setRows (dqAt kb vb q d l t g0 n) n (addf (rows (dqAt kb vb q d l t g0 n) n) (mmN (dsAt kb vb q d l t n) kb))

theorem rows_setRows_succ (g : Vec F S8192x128 .f32) (n : ℕ) (w : FVec F S512x128 .f32) (hn : n + 1 < 16) : rows (setRows g n w) (n + 1) = rows g (n + 1) := by
  funext x
  show setRows g n w (rix (n + 1) x) = g (rix (n + 1) x)
  unfold setRows
  have h0 : (x 0).val < 512 := (x 0).isLt
  refine dif_neg ?_
  have : ((rix (n + 1) x) 0).val = (512 * (n + 1) + (x 0).val) % 8192 := rfl
  rw [this, Nat.mod_eq_of_lt (by omega)]
  omega

variable (c : Dev nD) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S8192x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .bf16) (harg17 : arg17.IsWhole) (arg18 : Memref sig .tc .vmem S512x512 .bf16) (harg18 : arg18.IsWhole)
  (kb vb : Vec F S512x128 .bf16) (q d : Vec F S8192x128 .bf16) (l t g : Vec F S8192x128 .f32)
  (gk gv : Vec F S512x128 .f32) (s p : Vec F S512x512 .f32)

omit [FloatOps F] [Named F] in
theorem owns_of_canon {S : Shape} {e : EltTy} (c : Dev nD) (m : Memref sig .tc .vmem S e) (L : List (View.Piece (Elt F) S e)) (X : Vec F S e)
    (hc : View.canon L = X) (hcov : ∀ y, ∃ p ∈ L, y ∈ p.1.set) :
    (iprop(∃ f, m.view.loc (c : Thread nD τ) ↦[m.view.set]{fullShare} m.view.writes (Elt F) f L) : sProp 𝕄) ⊢ owns (c : Thread nD τ) m fullShare X := by
  unfold owns
  iintro ⟨%f, H⟩
  iexists _; isplitr
  swap; · iexact H
  ipureintro
  rw [← hc]
  exact View.read_writes_eq_canon m.view f L hcov

/-- One trip at named contents: what each buffer holds afterwards. -/
theorem tripSpec (k : Fin k0_t1_loop.trips) :
    (iprop(owns (c : Thread nD τ) arg2 fullShare q ∗ owns (c : Thread nD τ) arg5 fullShare d ∗ owns (c : Thread nD τ) arg6 fullShare l ∗ owns (c : Thread nD τ) arg7 fullShare t ∗ owns (c : Thread nD τ) arg8 fullShare g ∗ owns (c : Thread nD τ) arg9 fullShare gk ∗ owns (c : Thread nD τ) arg10 fullShare gv ∗ owns (c : Thread nD τ) arg11 fullShare s ∗ owns (c : Thread nD τ) arg12 fullShare p ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) : sProp 𝕄)
      ⊢ wp frame (wpE (defs₀ (F := F)) 𝒱₀ (c : Thread nD τ) none) Set.univ
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kb vb k ())
          (fun _ => iprop(owns (c : Thread nD τ) arg2 fullShare q ∗ owns (c : Thread nD τ) arg5 fullShare d ∗ owns (c : Thread nD τ) arg6 fullShare l ∗ owns (c : Thread nD τ) arg7 fullShare t ∗ owns (c : Thread nD τ) arg8 fullShare (setRows (setRows g (2 * k.val) (addf (rows g (2 * k.val)) (mmN (dsT l t (2 * k.val) s p) kb))) (2 * k.val + 1) (addf (rows g (2 * k.val + 1)) (mmN (dsAt kb vb q d l t (2 * k.val + 1)) kb))) ∗ owns (c : Thread nD τ) arg9 fullShare (addf (addf gk (mmT (dsT l t (2 * k.val) s p) (rows q (2 * k.val)))) (mmT (dsAt kb vb q d l t (2 * k.val + 1)) (rows q (2 * k.val + 1)))) ∗ owns (c : Thread nD τ) arg10 fullShare (addf (addf gv (mmT (pT l (2 * k.val) s) (rows d (2 * k.val)))) (mmT (pAt kb q l (2 * k.val + 1)) (rows d (2 * k.val + 1)))) ∗ owns (c : Thread nD τ) arg11 fullShare (scT kb (rows q (min (2 * (k.val + 1)) 15))) ∗ owns (c : Thread nD τ) arg12 fullShare (scT vb (rows d (min (2 * (k.val + 1)) 15))) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d))) := by
  iintro H
  iapply (wp_wand_r Idealize.ShloMosaic.frame (wpE (defs₀ (F := F)) 𝒱₀ (c : Thread nD τ) none) Set.univ)
  isplitl [H]
  · iapply (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kb vb q d l t g gk gv s p k).2.2.2.2.2
    iexact H
  iintro %_ ⟨H2, H5, H6, H7, H8, H9, H10, H11, H12, HR⟩
  isplitl [H2]; · iexact H2
  isplitl [H5]; · iexact H5
  isplitl [H6]; · iexact H6
  isplitl [H7]; · iexact H7
  isplitl [H8]
  · unfold owns; iexists _; isplitr
    swap; · iexact H8
    ipureintro; exact read8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kb vb q d l t g gk gv s p k
  isplitl [H9]
  · iapply (owns_of_canon c arg9 _ _ (canon9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kb vb q d l t g gk gv s p k) (fun y => ⟨_, List.mem_cons_self .., View.mem_set_unit_zero (S := S512x128) zero2 inb_S512x128_S512x128_0_0 y⟩))
    iexact H9
  isplitl [H10]
  · iapply (owns_of_canon c arg10 _ _ (canon10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kb vb q d l t g gk gv s p k) (fun y => ⟨_, List.mem_cons_self .., View.mem_set_unit_zero (S := S512x128) zero2 inb_S512x128_S512x128_0_0 y⟩))
    iexact H10
  isplitl [H11]
  · iapply (owns_of_canon c arg11 _ _ (canon11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kb vb q d l t g gk gv s p k) (fun y => ⟨_, List.mem_cons_self .., View.mem_set_unit_zero (S := S512x512) zero2 inb_S512x512_S512x512_0_0 y⟩))
    iexact H11
  isplitl [H12]
  · iapply (owns_of_canon c arg12 _ _ (canon12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kb vb q d l t g gk gv s p k) (fun y => ⟨_, List.mem_cons_self .., View.mem_set_unit_zero (S := S512x512) zero2 inb_S512x512_S512x512_0_0 y⟩))
    iexact H12
  iexact HR

/-- What the loop's buffers hold before trip `k`. -/
def invAt (k : ℕ) : sProp 𝕄 :=
  iprop(owns (c : Thread nD τ) arg2 fullShare q ∗ owns (c : Thread nD τ) arg5 fullShare d ∗ owns (c : Thread nD τ) arg6 fullShare l ∗ owns (c : Thread nD τ) arg7 fullShare t ∗ owns (c : Thread nD τ) arg8 fullShare (dqAt kb vb q d l t g (2 * k)) ∗ owns (c : Thread nD τ) arg9 fullShare (dkAt kb vb q d l t gk (2 * k)) ∗ owns (c : Thread nD τ) arg10 fullShare (dvAt kb q d l gv (2 * k)) ∗ owns (c : Thread nD τ) arg11 fullShare (scT kb (rows q (min (2 * k) 15))) ∗ owns (c : Thread nD τ) arg12 fullShare (scT vb (rows d (min (2 * k) 15))) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d))

theorem inv_step (k : Fin k0_t1_loop.trips) :
    invAt c arg2 arg5 arg6 arg7 arg8 arg9 arg10 arg11 arg12 arg13 arg14 arg15 arg16 arg17 arg18 kb vb q d l t g gk gv k.val
      ⊢ wp frame (wpE (defs₀ (F := F)) 𝒱₀ (c : Thread nD τ) none) Set.univ
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kb vb k ())
          (fun _ => invAt c arg2 arg5 arg6 arg7 arg8 arg9 arg10 arg11 arg12 arg13 arg14 arg15 arg16 arg17 arg18 kb vb q d l t g gk gv (k.val + 1)) := by
  have hk := trips_lt k
  have e0 : min (2 * k.val) 15 = 2 * k.val := by omega
  have E := tripSpec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kb vb q d l t (dqAt kb vb q d l t g (2 * k.val)) (dkAt kb vb q d l t gk (2 * k.val)) (dvAt kb q d l gv (2 * k.val)) (scT kb (rows q (2 * k.val))) (scT vb (rows d (2 * k.val))) k
  rw [← rows_setRows_succ _ (2 * k.val) (addf (rows (dqAt kb vb q d l t g (2 * k.val)) (2 * k.val)) (mmN (dsT l t (2 * k.val) (scT kb (rows q (2 * k.val))) (scT vb (rows d (2 * k.val)))) kb)) (by omega)] at E
  have e1 : dqAt kb vb q d l t g (2 * (k.val + 1)) = setRows (dqAt kb vb q d l t g (2 * k.val + 1)) (2 * k.val + 1) (addf (rows (dqAt kb vb q d l t g (2 * k.val + 1)) (2 * k.val + 1)) (mmN (dsAt kb vb q d l t (2 * k.val + 1)) kb)) := rfl
  have e2 : dqAt kb vb q d l t g (2 * k.val + 1) = setRows (dqAt kb vb q d l t g (2 * k.val)) (2 * k.val) (addf (rows (dqAt kb vb q d l t g (2 * k.val)) (2 * k.val)) (mmN (dsT l t (2 * k.val) (scT kb (rows q (2 * k.val))) (scT vb (rows d (2 * k.val)))) kb)) := rfl
  have e3 : dkAt kb vb q d l t gk (2 * (k.val + 1)) = addf (addf (dkAt kb vb q d l t gk (2 * k.val)) (mmT (dsT l t (2 * k.val) (scT kb (rows q (2 * k.val))) (scT vb (rows d (2 * k.val)))) (rows q (2 * k.val)))) (mmT (dsAt kb vb q d l t (2 * k.val + 1)) (rows q (2 * k.val + 1))) := rfl
  have e4 : dvAt kb q d l gv (2 * (k.val + 1)) = addf (addf (dvAt kb q d l gv (2 * k.val)) (mmT (pT l (2 * k.val) (scT kb (rows q (2 * k.val)))) (rows d (2 * k.val)))) (mmT (pAt kb q l (2 * k.val + 1)) (rows d (2 * k.val + 1))) := rfl
  unfold invAt
  rw [e0, e1, e2, e3, e4]
  convert E using 3

set_option warn.classDefReducibility false in
/-- The loop's invariant: the running sums after `2 k` blocks, and the scores of the block the trip starts from. -/
@[sl_loop] def loopInv : LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kb vb where
  inv k _ := invAt c arg2 arg5 arg6 arg7 arg8 arg9 arg10 arg11 arg12 arg13 arg14 arg15 arg16 arg17 arg18 kb vb q d l t g gk gv k
  step k _ := by
    convert inv_step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kb vb q d l t g gk gv k using 2

end Cert.Proof.Trip

end
-- ==== Proof.Body.lean ====
module

public import proofs.«01_k».proof.Proof.TripSpec

@[expose] public section

set_option maxRecDepth 16384

noncomputable section

namespace Cert.Proof.Trip

open Cert.KernelIdeal Cert.KernelIdeal.Gen Cert.Proof.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]
local notation "𝕄" => MT nD τ sig Unit (Elt F) ℕ (UU nD τ) ℕ

variable (c : Dev nD) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S8192x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .bf16) (harg17 : arg17.IsWhole) (arg18 : Memref sig .tc .vmem S512x512 .bf16) (harg18 : arg18.IsWhole)
  (kb vb : Vec F S512x128 .bf16) (q d : Vec F S8192x128 .bf16) (l t g : Vec F S8192x128 .f32)

theorem read_full {S : Shape} {e : EltTy} (v : View sig .tc .vmem S e) (f : v.ty.Contents (Elt F)) (w : Vec F S e) {off : Fin S.rank → ℕ}
    (h0 : off = fun _ => 0) (inb : ∀ a, off a + S.size a ≤ S.size a) :
    v.read (Elt F) (v.writes (Elt F) f [⟨Rect.unit (s := S) off S.size inb, w⟩]) = w := by
  rw [View.read_writes_eq_canon v f _ (fun y => ⟨_, List.mem_cons_self .., View.mem_set_unit_zero h0 inb y⟩)]
  exact View.canon_unit_zero h0 inb w

/-- The scores of the first block, as the body stores them before its loop. -/
theorem first_scores {mx : Memref sig .tc .vmem S8192x128 .bf16} (hx : mx.IsWhole) {mb : Memref sig .tc .vmem S512x128 .bf16} (hb : mb.IsWhole)
    (ms : Memref sig .tc .vmem S512x512 .f32) (x : Vec F S8192x128 .bf16) (b : Vec F S512x128 .bf16) :
    View.read (Elt F) ms.view (ms.view.writes (Elt F) ms.view.junk [⟨Rect.unit (s := S512x512) ![0, 0] S512x512.size inb_S512x512_S512x512_0_0, k0_pay4 (View.readAt (Elt F) mb.view (Rect.unit (s := S512x128) ![0, 0] S512x128.size inb_S512x128_S512x128_0_0).toLoadRect (hb.unread b)) (View.readAt (Elt F) mx.view (Rect.unit (s := S8192x128) ![0, 0] S512x128.size inb_S8192x128_S512x128_0_0).toLoadRect (hx.unread x))⟩])
      = scT (View.readAt (Elt F) mb.view (Rect.unit (s := S512x128) ![0, 0] S512x128.size inb_S512x128_S512x128_0_0).toLoadRect (hb.unread b)) (rows (View.read (Elt F) mx.view (hx.unread x)) (min (2 * 0) 15)) := by
  refine (read_full ms.view _ _ zero2 _).trans ?_
  unfold k0_pay4
  dsimp only
  rw [shapeCast_self, hx.read_unread]
  exact congrArg (scT _) (rd_rows hx x _ (n := 0) rfl)

set_option maxHeartbeats 8000000 in
/-- The body at a point: what each window's buffer holds afterwards. At the first point of a head the query gradient
    starts from zeros, elsewhere from what the buffer holds. -/
theorem bodyRun :
    (iprop(owns (c : Thread nD τ) arg2 fullShare q ∗ owns (c : Thread nD τ) arg3 fullShare kb ∗ owns (c : Thread nD τ) arg4 fullShare vb ∗ owns (c : Thread nD τ) arg5 fullShare d ∗ owns (c : Thread nD τ) arg6 fullShare l ∗ owns (c : Thread nD τ) arg7 fullShare t ∗ owns (c : Thread nD τ) arg8 fullShare g ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) : sProp 𝕄)
      ⊢ wp frame (wpE (defs₀ (F := F)) 𝒱₀ (c : Thread nD τ) none) Set.univ
          (cc0_flash_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop(owns (c : Thread nD τ) arg2 fullShare q ∗ owns (c : Thread nD τ) arg3 fullShare kb ∗ owns (c : Thread nD τ) arg4 fullShare vb ∗ owns (c : Thread nD τ) arg5 fullShare d ∗ owns (c : Thread nD τ) arg6 fullShare l ∗ owns (c : Thread nD τ) arg7 fullShare t ∗ owns (c : Thread nD τ) arg8 fullShare (dqAt kb vb q d l t (if Scalar.cmpi .ne (Scalar.extui (Scalar.cmpi .eq (BitVec.ofNat 32 (i 1).val) 0#32)) 0#32 = 1#1 then k0_pay1 (F := F) else g) 16) ∗ owns (c : Thread nD τ) arg9 fullShare (dkAt kb vb q d l t (k0_pay2 (F := F)) 16) ∗ owns (c : Thread nD τ) arg10 fullShare (dvAt kb q d l (k0_pay3 (F := F)) 16) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d))) := by
  rw [cc0_flash_bwd_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  have h11 : View.read (Elt F) arg11.view (arg11.view.writes (Elt F) arg11.view.junk [⟨Rect.unit (s := S512x512) ![0, 0] S512x512.size inb_S512x512_S512x512_0_0, k0_pay4 (View.readAt (Elt F) arg3.view (Rect.unit (s := S512x128) ![0, 0] S512x128.size inb_S512x128_S512x128_0_0).toLoadRect (harg3.unread kb)) (View.readAt (Elt F) arg2.view (Rect.unit (s := S8192x128) ![0, 0] S512x128.size inb_S8192x128_S512x128_0_0).toLoadRect (harg2.unread q))⟩])
      = scT (View.readAt (Elt F) arg3.view (Rect.unit (s := S512x128) ![0, 0] S512x128.size inb_S512x128_S512x128_0_0).toLoadRect (harg3.unread kb)) (rows (View.read (Elt F) arg2.view (harg2.unread q)) (min (2 * 0) 15)) := first_scores harg2 harg3 arg11 q kb
  have h12 : View.read (Elt F) arg12.view (arg12.view.writes (Elt F) arg12.view.junk [⟨Rect.unit (s := S512x512) ![0, 0] S512x512.size inb_S512x512_S512x512_0_0, k0_pay5 (View.readAt (Elt F) arg4.view (Rect.unit (s := S512x128) ![0, 0] S512x128.size inb_S512x128_S512x128_0_0).toLoadRect (harg4.unread vb)) (View.readAt (Elt F) arg5.view (Rect.unit (s := S8192x128) ![0, 0] S512x128.size inb_S8192x128_S512x128_0_0).toLoadRect (harg5.unread d))⟩])
      = scT (View.readAt (Elt F) arg4.view (Rect.unit (s := S512x128) ![0, 0] S512x128.size inb_S512x128_S512x128_0_0).toLoadRect (harg4.unread vb)) (rows (View.read (Elt F) arg5.view (harg5.unread d)) (min (2 * 0) 15)) := first_scores harg5 harg4 arg12 d vb
  unfold cc0_flash_bwd_skel
  by_cases hc : Scalar.cmpi .ne (Scalar.extui (Scalar.cmpi .eq (BitVec.ofNat 32 (i 1).val) 0#32)) 0#32 = 1#1
  all_goals sl_exec
  all_goals sl_step
  all_goals have e3 := rd_whole harg3 kb zero2 inb_S512x128_S512x128_0_0
  all_goals have e4 := rd_whole harg4 vb zero2 inb_S512x128_S512x128_0_0
  all_goals have eT : Scf.trips k0_t1_loop.lb k0_t1_loop.ub k0_t1_loop.st = 8 := by decide
  all_goals have z8 := read_full arg8.view arg8.view.junk (k0_pay1 (F := F)) zero2 inb_S8192x128_S8192x128_0_0
  all_goals have z9 := read_full arg9.view arg9.view.junk (k0_pay2 (F := F)) zero2 inb_S512x128_S512x128_0_0
  all_goals have z10 := read_full arg10.view arg10.view.junk (k0_pay3 (F := F)) zero2 inb_S512x128_S512x128_0_0
  all_goals rw [e3, e4, hf2, hf5, hf6, hf7, eT] at hL8
  all_goals rw [e3, e4, hf2, hf5, hf6, hf7, eT] at hL10
  all_goals rw [e3, hf2, hf5, hf6, eT] at hL12
  have k8 : View.read (Elt F) arg8.view fL4 = dqAt kb vb q d l t (if Scalar.cmpi .ne (Scalar.extui (Scalar.cmpi .eq (BitVec.ofNat 32 (i 1).val) 0#32)) 0#32 = 1#1 then k0_pay1 (F := F) else g) 16 := by
    rw [if_pos hc]; exact hL8.trans (congrArg (fun g => dqAt kb vb q d l t g 16) z8)
  swap
  have k8 : View.read (Elt F) arg8.view fL4 = dqAt kb vb q d l t (if Scalar.cmpi .ne (Scalar.extui (Scalar.cmpi .eq (BitVec.ofNat 32 (i 1).val) 0#32)) 0#32 = 1#1 then k0_pay1 (F := F) else g) 16 := by
    rw [if_neg hc]; exact hL8.trans (congrArg (fun g => dqAt kb vb q d l t g 16) hf8)
  all_goals have k9 := hL10.trans (congrArg (fun g => dkAt kb vb q d l t g 16) z9)
  all_goals have k10 := hL12.trans (congrArg (fun g => dvAt kb q d l g 16) z10)
  all_goals (
    isplitl [H2]
    · iexists _; isplitr; swap; · iexact H2
      ipureintro; exact hL0.trans hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hL2.trans hf5
    isplitl [H6]
    · iexists _; isplitr; swap; · iexact H6
      ipureintro; exact hL4.trans hf6
    isplitl [H7]
    · iexists _; isplitr; swap; · iexact H7
      ipureintro; exact hL6.trans hf7
    isplitl [H8]
    · iexists _; isplitr; swap; · iexact H8
      ipureintro; exact k8
    isplitl [H9]
    · iexists _; isplitr; swap; · iexact H9
      ipureintro; exact k9
    isplitl [H10]
    · iexists _; isplitr; swap; · iexact H10
      ipureintro; exact k10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl)

end Cert.Proof.Trip

end
-- ==== Proof.Run.lean ====
module

public import proofs.«01_k».proof.Proof.Body
public import proofs.«01_k».proof.Proof.Gen.KernelIdeal.Frame
public import Idealize.ShloMosaic.Lib.Claim

@[expose] public section

set_option maxRecDepth 16384

noncomputable section

namespace Cert.Proof.Run

open Cert.KernelIdeal Cert.KernelIdeal.Gen Cert.Proof.Tile Cert.Proof.Trip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F] [∀ e, Nonempty (Elt F e)]
local notation "𝕄" => MT nD τ sig Unit (Elt F) ℕ (UR sig nD τ) ℕ

variable (m : (ℓ : Loc nD τ sig) → Buf (Elt F) ℓ) (ρ : Dev nD → PrngReg)

/-- The point numbered `n`. -/
def pt (n : ℕ) : Fin cfg0.N := ⟨n % 128, lt_of_lt_of_eq (Nat.mod_lt _ (by decide)) N_0.symm⟩
theorem pt_val (t : Fin cfg0.N) : pt t.val = t := Fin.ext (Nat.mod_eq_of_lt (lt_of_lt_of_eq t.isLt N_0))

/-- The query gradient's block after point `t`, from what the block held. -/
def dqStep (c : Dev nD) (t : Fin cfg0.N) (g : Vec F S8192x128 .f32) : Vec F S8192x128 .f32 :=
  dqAt (iblk m c 1 t) (iblk m c 2 t) (iblk m c 0 t) (iblk m c 3 t) (iblk m c 4 t) (iblk m c 5 t) g 16
/-- The query gradient's block after point `n`: sixteen points of a head add to one block, which starts at zeros. -/
def dqOut (c : Dev nD) : ℕ → Vec F S8192x128 .f32
  | 0 => dqStep m c (pt 0) (k0_pay1 (F := F))
  | n + 1 => dqStep m c (pt (n + 1)) (if (n + 1) % 16 = 0 then k0_pay1 (F := F) else dqOut c n)
/-- The key gradient's block after point `t`. -/
def dkOut (c : Dev nD) (t : Fin cfg0.N) : Vec F S512x128 .f32 :=
  dkAt (iblk m c 1 t) (iblk m c 2 t) (iblk m c 0 t) (iblk m c 3 t) (iblk m c 4 t) (iblk m c 5 t) (k0_pay2 (F := F)) 16
/-- The value gradient's block after point `t`. -/
def dvOut (c : Dev nD) (t : Fin cfg0.N) : Vec F S512x128 .f32 :=
  dvAt (iblk m c 1 t) (iblk m c 0 t) (iblk m c 3 t) (iblk m c 4 t) (k0_pay3 (F := F)) 16

/-- What each window's buffer holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqOut m c t.val
    | ⟨7, _⟩ => dkOut m c t
    | ⟨8, _⟩ => dvOut m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = dqOut m c t.val := by dsimp only [dats]
theorem after_7 (c : Dev nD) (t : Fin cfg0.N) : (dats m 0 c).after 7 t = dkOut m c t := by dsimp only [dats]
theorem after_8 (c : Dev nD) (t : Fin cfg0.N) : (dats m 0 c).after 8 t = dvOut m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

theorem live (w : Fin cfg0.W) (t : Fin cfg0.N) : cfg0.idle w (grid0.coords t) = false := by
  have h : ∀ w : Fin 9, ∀ i : grid0.Coords, cfg0.idle w i = false := fun w i => rfl
  exact h w _

/-- The word the body branches on is one exactly at the first point of a head. -/
theorem hcond (t : Fin cfg0.N) : (Scalar.cmpi .ne (Scalar.extui (Scalar.cmpi .eq (BitVec.ofNat 32 (grid0.coords t 1).val) 0#32)) 0#32 = 1#1) ↔ t.val % 16 = 0 := by
  have ht : t.val < 128 := Nat.lt_of_lt_of_eq t.isLt N_0
  have e1 : (grid0.coords t 1).val = t.val / 1 % 16 := Pipeline.Grid.coords_val t 1 (by decide) rfl
  simp only [e1]
  word_cmp

theorem dq_next (c : Dev nD) (t : Fin cfg0.N) (d) :
    dqStep m c t (if Scalar.cmpi .ne (Scalar.extui (Scalar.cmpi .eq (BitVec.ofNat 32 (grid0.coords t 1).val) 0#32)) 0#32 = 1#1 then k0_pay1 (F := F) else (dats m 0 c).before 6 t d) = dqOut m c t.val := by
  have ht : t.val < 128 := Nat.lt_of_lt_of_eq t.isLt N_0
  obtain ⟨n, hn⟩ : ∃ n, n = t.val := ⟨_, rfl⟩
  by_cases h : t.val % 16 = 0
  · rw [if_pos ((hcond t).mpr h), ← hn]
    rw [← hn] at h
    cases n with
    | zero => unfold dqOut; rw [show pt 0 = t from by rw [hn]; exact pt_val t]
    | succ n => unfold dqOut; rw [if_pos h, show pt (n + 1) = t from by rw [hn]; exact pt_val t]
  · rw [if_neg (fun e => h ((hcond t).mp e)), ← hn]
    have hz : t.val ≠ 0 := fun e => h (by rw [e])
    have hfl : (cfg0.win 6).flush ⟨t.val - 1, Nat.lt_of_le_of_lt (Nat.sub_le _ _) t.isLt⟩ = false := by
      rw [← Bool.not_eq_true, flush0_6]
      show ¬ (t.val - 1) % 16 = 15
      omega
    rw [(dats m 0 c).before_out_kept 6 rfl t hz hfl (fun _ => rfl) (fun _ _ => rfl) d, after_6]
    rw [← hn] at h
    cases n with
    | zero => exact absurd rfl h
    | succ n =>
      show dqStep m c t (dqOut m c (t.val - 1)) = _
      rw [← hn, show n + 1 - 1 = n from rfl]
      conv_rhs => unfold dqOut
      rw [if_neg h, show pt (n + 1) = t from by rw [hn]; exact pt_val t]

theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA; rw [scopedRest0_eq]; simp only [owns_whole]; try rfl

theorem leaves_0 (c : Dev nD) (t : Fin cfg0.N) : (dats m 0 c).leavesExact 0 t = owns (c : Thread nD τ) (win0_0.stage (cfg0.slots t 0)) fullShare (iblk m c 0 t) := by
  unfold Dat.leavesExact; rw [live 0 t, after_0]
theorem leaves_1 (c : Dev nD) (t : Fin cfg0.N) : (dats m 0 c).leavesExact 1 t = owns (c : Thread nD τ) (win0_1.stage (cfg0.slots t 1)) fullShare (iblk m c 1 t) := by
  unfold Dat.leavesExact; rw [live 1 t, after_1]
theorem leaves_2 (c : Dev nD) (t : Fin cfg0.N) : (dats m 0 c).leavesExact 2 t = owns (c : Thread nD τ) (win0_2.stage (cfg0.slots t 2)) fullShare (iblk m c 2 t) := by
  unfold Dat.leavesExact; rw [live 2 t, after_2]
theorem leaves_3 (c : Dev nD) (t : Fin cfg0.N) : (dats m 0 c).leavesExact 3 t = owns (c : Thread nD τ) (win0_3.stage (cfg0.slots t 3)) fullShare (iblk m c 3 t) := by
  unfold Dat.leavesExact; rw [live 3 t, after_3]
theorem leaves_4 (c : Dev nD) (t : Fin cfg0.N) : (dats m 0 c).leavesExact 4 t = owns (c : Thread nD τ) (win0_4.stage (cfg0.slots t 4)) fullShare (iblk m c 4 t) := by
  unfold Dat.leavesExact; rw [live 4 t, after_4]
theorem leaves_5 (c : Dev nD) (t : Fin cfg0.N) : (dats m 0 c).leavesExact 5 t = owns (c : Thread nD τ) (win0_5.stage (cfg0.slots t 5)) fullShare (iblk m c 5 t) := by
  unfold Dat.leavesExact; rw [live 5 t, after_5]
theorem leaves_6 (c : Dev nD) (t : Fin cfg0.N) : (dats m 0 c).leavesExact 6 t = owns (c : Thread nD τ) (win0_6.stage (cfg0.slots t 6)) fullShare (dqOut m c t.val) := by
  unfold Dat.leavesExact; rw [live 6 t, after_6]
theorem leaves_7 (c : Dev nD) (t : Fin cfg0.N) : (dats m 0 c).leavesExact 7 t = owns (c : Thread nD τ) (win0_7.stage (cfg0.slots t 7)) fullShare (dkOut m c t) := by
  unfold Dat.leavesExact; rw [live 7 t, after_7]
theorem leaves_8 (c : Dev nD) (t : Fin cfg0.N) : (dats m 0 c).leavesExact 8 t = owns (c : Thread nD τ) (win0_8.stage (cfg0.slots t 8)) fullShare (dvOut m c t) := by
  unfold Dat.leavesExact; rw [live 8 t, after_8]

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)))
/-- and what it returns. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t)

set_option maxHeartbeats 4000000 in
/-- The body at any point takes each window's buffer from what it holds before the point to what `dats` states after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, leaves_0, leaves_1, leaves_2, leaves_3, leaves_4, leaves_5, leaves_6, leaves_7, leaves_8]
  rw [show (dats m 0 c).owesAt () t.succ = (dats m 0 c).owesAt () t.castSucc from rfl]
  rw [show (dats m 0 c).Φ t.castSucc = Pipeline.ΦA spec0 c from rfl, show (dats m 0 c).Φ t.succ = Pipeline.ΦA spec0 c from rfl, PhiA_eq]
  iintro ⟨⟨⟨S0, S1, S2, S3, S4, S5, S6, S7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (wp_wand_r Idealize.ShloMosaic.frame (wpE (defs₀ (F := F)) Variants.none (c : Thread nD τ) none) Set.univ)
  isplitl [S0 S1 S2 S3 S4 S5 S6 S7 H0 H1 H2 H3 H4 H5 H6 H7 H8]
  · iapply (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 1 t) (iblk m c 2 t) (iblk m c 0 t) (iblk m c 3 t) (iblk m c 4 t) (iblk m c 5 t) ((dats m 0 c).before 6 t d6))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iintro %_ ⟨H0, H1, H2, H3, H4, H5, H6, H7, H8, S0, S1, S2, S3, S4, S5, S6, S7⟩
  isplitl [S0 S1 S2 S3 S4 S5 S6 S7 Hg]
  · isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · rw [← dq_next m c t d6]; iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array ends as `dats` states it and every semaphore counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun c => .rfl) (hout := fun c => .rfl)

/-- The frame: the arguments end unchanged and every semaphore counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.Proof.Run

end
-- ==== Proof.Same.lean ====
module

public import proofs.«01_k».proof.Proof.Run
public import proofs.«01_k».proof.Proof.Gen.Kernel
public import proofs.«01_k».proof.Defs

@[expose] public section

set_option maxRecDepth 65536
set_option maxHeartbeats 20000000

noncomputable section

namespace Cert.Proof.Same

open Idealize.ShloMosaic

/-- On the chip's words the kernel's constant is the literal it prints. -/
abbrev litNamed : Named Bits := ⟨fun _ _ {φ} bits => FloatOps.ofBits φ bits⟩
attribute [local instance] litNamed

/-- `Kernel`'s body table at the chip's words is `KernelIdeal`'s there, its named constant read as the literal. -/
theorem defs₀_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl

theorem pcfgs_eq : Cert.Kernel.pcfgs (F := Bits) = Cert.KernelIdeal.pcfgs (F := Bits) := rfl

/-- So is the table with the launch's labels, -/
theorem defs_eq : Cert.Kernel.defs (F := Bits) = Cert.KernelIdeal.defs (F := Bits) := by
  show Pipeline.defs (Cert.Kernel.pcfgs (F := Bits)) (Cert.Kernel.defs₀ (F := Bits)) = Pipeline.defs (Cert.KernelIdeal.pcfgs (F := Bits)) (Cert.KernelIdeal.defs₀ (F := Bits))
  rw [defs₀_eq]
  rfl

/-- and the main function. -/
theorem main_eq : Cert.Kernel.main (F := Bits) = Cert.KernelIdeal.main (F := Bits) := rfl

/-- `Kernel`'s frame is `KernelIdeal`'s run at the chip's words: one run serves both. -/
theorem frame_kernel : @Cert.quiescent_Kernel Cert.Kernel.Gen.facts := by
  intro m g _
  have h := Cert.Proof.Run.frame_run (F := Bits) m g
  rw [← defs_eq] at h
  rw [← main_eq] at h
  exact h

end Cert.Proof.Same

end
-- ==== Proof.Frames.lean ====
module

public import proofs.«01_k».proof.Proof.Same
public import proofs.«01_k».proof.Proof.Gen.ReferenceIdeal
public import proofs.«01_k».proof.Proof.Gen.ReferenceIdeal.Run
public import Idealize.ShloMosaic.Lib.Quiescent

@[expose] public section

noncomputable section

namespace Cert.Proof.Frames

open Idealize.ShloMosaic Idealize.SL.Sem

/-- The kernel at the extended reals runs, its arguments end unchanged and every semaphore counter ends at zero. -/
theorem frame_ideal : @Cert.quiescent_KernelIdeal Cert.KernelIdeal.Gen.facts := fun m g _ =>
  Cert.Proof.Run.frame_run (F := Ideal) m g

/-- The reference runs, its arguments end unchanged, and it has no semaphore. -/
theorem frame_ref : @Cert.quiescent_ReferenceIdeal Cert.ReferenceIdeal.Gen.facts := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- The named constant is the product of the scale and the binary logarithm of e, which its word rounds. -/
theorem preserves : Cert.preserves_Kernel_KernelIdeal :=
  IdealRules.named_const.statement Cert.KernelIdeal.κ "scale_log2e" .f32 0x3E16C740#32 (((3424635 / 33554432) * (Real.log 2)⁻¹ : ℝ) : EReal) rfl

theorem frame_kernel : @Cert.quiescent_Kernel Cert.Kernel.Gen.facts := Cert.Proof.Same.frame_kernel

end Cert.Proof.Frames

end
-- ==== Proof.Soft.lean ====
module

public import Idealize.ShloMosaic.PureOps.Ideal.Laws
public import Idealize.ShloMosaic.Lib.IdealHost
public import Mathlib.Analysis.SpecialFunctions.Pow.Real

@[expose] public section

noncomputable section

/-! One row of the softmax, its weights and the gradient of its scores, over the reals; and what the two programs compute for
that row on the extended reals, as coerced reals. -/

namespace Cert.Proof.Soft

open Idealize.ShloMosaic
open scoped BigOperators

/-- The scale of the scores, the real the program's f32 word denotes. -/
def sc : ℝ := 3424635 / 33554432

/-- The weight of key `j` in a row of raw scores `a`. -/
def pr {n : ℕ} (a : Fin n → ℝ) (j : Fin n) : ℝ := Real.exp (a j * sc) / ∑ k, Real.exp (a k * sc)

/-- The gradient of the raw score `j`: `dp` are the gradients of the weights. -/
def dsr {n : ℕ} (a dp : Fin n → ℝ) (j : Fin n) : ℝ := pr a j * (dp j - ∑ k, pr a k * dp k) * sc

/-- The row's sum of exponentials taken off a reference point `M`. -/
def lr {n : ℕ} (a : Fin n → ℝ) (M : ℝ) : ℝ := ∑ k, Real.exp (a k * sc - M)

theorem lr_eq {n : ℕ} (a : Fin n → ℝ) (M : ℝ) : lr a M = (∑ k, Real.exp (a k * sc)) / Real.exp M := by
  unfold lr
  rw [Finset.sum_div]
  exact Finset.sum_congr rfl fun k _ => Real.exp_sub _ _

theorem sum_pos {n : ℕ} (a : Fin n → ℝ) (j : Fin n) : 0 < ∑ k, Real.exp (a k * sc) :=
  Finset.sum_pos (fun _ _ => Real.exp_pos _) ⟨j, Finset.mem_univ j⟩

theorem lr_pos {n : ℕ} (a : Fin n → ℝ) (M : ℝ) (j : Fin n) : 0 < lr a M := by
  rw [lr_eq]; exact div_pos (sum_pos a j) (Real.exp_pos _)

/-- The reference point does not matter to the weights. -/
theorem exp_div_lr {n : ℕ} (a : Fin n → ℝ) (M : ℝ) (j : Fin n) : Real.exp (a j * sc - M) / lr a M = pr a j := by
  rw [lr_eq, Real.exp_sub]
  unfold pr
  have h1 := (sum_pos a j).ne'
  have h2 := (Real.exp_pos M).ne'
  field_simp

/-- The weights written with a power of two and the row's log-sum to base two. -/
theorem rpow_eq {n : ℕ} (a : Fin n → ℝ) (M : ℝ) (j : Fin n) :
    Real.rpow 2 (a j * (sc * (Real.log 2)⁻¹) - (M + Real.log (lr a M)) / Real.log 2) = pr a j := by
  have hl : Real.log 2 ≠ 0 := (Real.log_pos (by norm_num)).ne'
  rw [← exp_div_lr a M j]
  rw [show Real.rpow 2 (a j * (sc * (Real.log 2)⁻¹) - (M + Real.log (lr a M)) / Real.log 2)
    = (2 : ℝ) ^ (a j * (sc * (Real.log 2)⁻¹) - (M + Real.log (lr a M)) / Real.log 2) from rfl]
  rw [Real.rpow_def_of_pos (by norm_num)]
  rw [show Real.log 2 * (a j * (sc * (Real.log 2)⁻¹) - (M + Real.log (lr a M)) / Real.log 2) = (a j * sc - M) - Real.log (lr a M) by
    field_simp; ring]
  rw [Real.exp_sub, Real.exp_log (lr_pos a M j)]

/-- The derivative of the quotient `e / l` written out, as the reference differentiates it. -/
theorem quot_eq {n : ℕ} (a dp : Fin n → ℝ) (M : ℝ) (j : Fin n) :
    (dp j / lr a M + -(∑ k, dp k * (1 / (lr a M * lr a M)) * Real.exp (a k * sc - M))) * Real.exp (a j * sc - M) * sc = dsr a dp j := by
  unfold dsr
  have h1 := (lr_pos a M j).ne'
  have h2 : (∑ k, dp k * (1 / (lr a M * lr a M)) * Real.exp (a k * sc - M)) = (∑ k, pr a k * dp k) / lr a M := by
    rw [Finset.sum_div]
    refine Finset.sum_congr rfl fun k _ => ?_
    rw [← exp_div_lr a M k]
    field_simp
  rw [h2, ← exp_div_lr a M j]
  field_simp
  ring

/-! ### On the extended reals -/

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem div_real (x : ℝ) {y : ℝ} (h : y ≠ 0) : Ideal.div (x : EReal) (y : EReal) = ((x / y : ℝ) : EReal) := by
  rw [Ideal.div_coe h, ← EReal.coe_mul, mul_one_div]

theorem ofBits_sc : Ideal.ofBits .f32 0x3DD105EC#32 = ((sc : ℝ) : EReal) := by
  simp [Ideal.ofBits, Ideal.ieee, -EReal.coe_mul, sc]; norm_num

theorem ofBits_two : Ideal.ofBits .f32 0x40000000#32 = ((2 : ℝ) : EReal) := by
  simp [Ideal.ofBits, Ideal.ieee, -EReal.coe_mul]; norm_num

theorem ofBits_bot : Ideal.ofBits .f32 0xFF800000#32 = ⊥ := by
  simp [Ideal.ofBits, Ideal.ieee]

theorem log_pos_real {x : ℝ} (h : 0 < x) : Ideal.log (x : EReal) = ((Real.log x : ℝ) : EReal) := by
  rw [Ideal.log_coe, if_neg (not_le.mpr h)]

/-- The row's log-sum to base two, as the host computes it. -/
theorem lse_coe {n : ℕ} (a : Fin n → ℝ) (M : ℝ) (j : Fin n) :
    Ideal.div ((M : EReal) + Ideal.log ((lr a M : ℝ) : EReal)) (Ideal.log ((2 : ℝ) : EReal)) = (((M + Real.log (lr a M)) / Real.log 2 : ℝ) : EReal) := by
  rw [log_pos_real (lr_pos a M j), log_pos_real (by norm_num), ← EReal.coe_add, div_real _ (Real.log_pos (by norm_num)).ne']

/-- The weights, as the kernel computes them. -/
theorem kernel_p {n : ℕ} (a : Fin n → ℝ) (M : ℝ) (j : Fin n) :
    Ideal.exp2 ((a j : EReal) * ((sc * (Real.log 2)⁻¹ : ℝ) : EReal) - (((M + Real.log (lr a M)) / Real.log 2 : ℝ) : EReal)) = ((pr a j : ℝ) : EReal) := by
  rw [← EReal.coe_mul, ← EReal.coe_sub, Ideal.exp2_coe, rpow_eq]

/-- The gradients of the raw scores, as the kernel computes them. -/
theorem kernel_ds {n : ℕ} (a dp : Fin n → ℝ) (j : Fin n) :
    ((pr a j : ℝ) : EReal) * ((dp j : EReal) - ((∑ k, pr a k * dp k : ℝ) : EReal)) * ((sc : ℝ) : EReal) = ((dsr a dp j : ℝ) : EReal) := by
  rw [← EReal.coe_sub, ← EReal.coe_mul, ← EReal.coe_mul]; rfl

/-- The sum of the exponentials, as the host computes it. -/
theorem sum_exp {n : ℕ} (a : Fin n → ℝ) (M : ℝ) : (∑ k, Ideal.exp (((a k * sc : ℝ) : EReal) - (M : EReal))) = ((lr a M : ℝ) : EReal) := by
  unfold lr
  rw [coe_sum]
  refine Finset.sum_congr rfl fun k _ => ?_
  rw [← EReal.coe_sub, Ideal.exp_coe]

/-- The weights, as the host computes them. -/
theorem host_p {n : ℕ} (a : Fin n → ℝ) (M : ℝ) (j : Fin n) :
    Ideal.div (Ideal.exp (((a j * sc : ℝ) : EReal) - (M : EReal))) ((lr a M : ℝ) : EReal) = ((pr a j : ℝ) : EReal) := by
  rw [← EReal.coe_sub, Ideal.exp_coe, div_real _ (lr_pos a M j).ne', exp_div_lr]

/-- The gradients of the raw scores, as the reference computes them. -/
theorem host_ds {n : ℕ} (a dp : Fin n → ℝ) (M : ℝ) (j : Fin n) :
    (Ideal.div (dp j : EReal) ((lr a M : ℝ) : EReal)
        + -(∑ k, (dp k : EReal) * Ideal.div 1 (((lr a M : ℝ) : EReal) * ((lr a M : ℝ) : EReal)) * Ideal.exp (((a k * sc : ℝ) : EReal) - (M : EReal))))
      * Ideal.exp (((a j * sc : ℝ) : EReal) - (M : EReal)) * ((sc : ℝ) : EReal) = ((dsr a dp j : ℝ) : EReal) := by
  have h1 := (lr_pos a M j).ne'
  have h : ∀ k, (dp k : EReal) * Ideal.div 1 (((lr a M : ℝ) : EReal) * ((lr a M : ℝ) : EReal)) * Ideal.exp (((a k * sc : ℝ) : EReal) - (M : EReal))
      = ((dp k * (1 / (lr a M * lr a M)) * Real.exp (a k * sc - M) : ℝ) : EReal) := fun k => by
    rw [← EReal.coe_mul, ← EReal.coe_one, div_real _ (mul_ne_zero h1 h1), ← EReal.coe_sub, Ideal.exp_coe, ← EReal.coe_mul, ← EReal.coe_mul]
  rw [Finset.sum_congr rfl fun k _ => h k, ← coe_sum, div_real _ h1, ← EReal.coe_neg, ← EReal.coe_add, ← EReal.coe_sub, Ideal.exp_coe,
    ← EReal.coe_mul, ← EReal.coe_mul, quot_eq]

/-- A fold of `max` from `−∞` over coerced reals, not an empty one, is a coerced real. -/
theorem fold_max_real {ι : Type} (s : Finset ι) (f : ι → EReal) (hf : ∀ i, ∃ r : ℝ, f i = r) {i : ι} (hi : i ∈ s) :
    ∃ r : ℝ, s.fold max (⊥ : EReal) f = r := by
  have h1 : s.fold max (⊥ : EReal) f < ⊤ := by
    rw [Finset.fold_max_lt]
    exact ⟨bot_lt_top, fun x _ => by obtain ⟨r, hr⟩ := hf x; rw [hr]; exact EReal.coe_lt_top r⟩
  have h2 : ⊥ < s.fold max (⊥ : EReal) f := by
    rw [Finset.lt_fold_max]
    exact .inr ⟨i, hi, by obtain ⟨r, hr⟩ := hf i; rw [hr]; exact EReal.bot_lt_coe r⟩
  exact ⟨_, (EReal.coe_toReal h1.ne h2.ne').symm⟩

end Cert.Proof.Soft

end
-- ==== Proof.RVal.lean ====
module

public import proofs.«01_k».proof.Proof.Soft
public import proofs.«01_k».proof.Proof.Gen.ReferenceIdeal
public import proofs.«01_k».proof.Proof.Gen.ReferenceIdeal.Run
public import proofs.«01_k».proof.Proof.Gen.ReferenceIdeal.Read

@[expose] public section

set_option maxRecDepth 16384

noncomputable section

/-! The reference's results at an index, of finite arguments. -/

namespace Cert.Proof.RVal

open Cert.ReferenceIdeal Cert.ReferenceIdeal.Gen Cert.ReferenceIdeal.Read Cert.Proof.Soft
open Idealize.ShloMosaic
open scoped BigOperators

/-- An argument array, and a result. -/
abbrev Arr : Type := S8192x1024.Idx → EReal

/-- Row `i`, lane `d` of head `h`. -/
def c2 (h : Fin 8) (i : Fin 8192) (d : Fin 128) : S8192x1024.Idx := fun a => match a with
  | ⟨0, _⟩ => ⟨i.val, i.isLt⟩
  | ⟨1, _⟩ => ⟨128 * h.val + d.val, by have := h.isLt; have := d.isLt; show _ < 1024; omega⟩
def e2 (h : Fin 8) (i : Fin 8192) : S8x8192.Idx := fun a => match a with
  | ⟨0, _⟩ => ⟨h.val, h.isLt⟩
  | ⟨1, _⟩ => ⟨i.val, i.isLt⟩
def e3 (h : Fin 8) (i j : Fin 8192) : S8x8192x8192.Idx := fun a => match a with
  | ⟨0, _⟩ => ⟨h.val, h.isLt⟩
  | ⟨1, _⟩ => ⟨i.val, i.isLt⟩
  | ⟨2, _⟩ => ⟨j.val, j.isLt⟩
def d3 (h : Fin 8) (i : Fin 8192) (d : Fin 128) : S8x8192x128.Idx := fun a => match a with
  | ⟨0, _⟩ => ⟨h.val, h.isLt⟩
  | ⟨1, _⟩ => ⟨i.val, i.isLt⟩
  | ⟨2, _⟩ => ⟨d.val, d.isLt⟩

theorem c2_surj (y : S8192x1024.Idx) : ∃ h i d, y = c2 h i d := by
  have h0 : (y 0).val < 8192 := (y 0).isLt
  have h1 : (y 1).val < 1024 := (y 1).isLt
  refine ⟨⟨(y 1).val / 128, by omega⟩, ⟨(y 0).val, h0⟩, ⟨(y 1).val % 128, Nat.mod_lt _ (by norm_num)⟩, ?_⟩
  funext a
  match a with
  | ⟨0, _⟩ => rfl
  | ⟨1, _⟩ => exact Fin.ext (by show (y 1).val = 128 * ((y 1).val / 128) + (y 1).val % 128; omega)
theorem e3_surj (y : S8x8192x8192.Idx) : ∃ h i j, y = e3 h i j :=
  ⟨⟨(y 0).val, (y 0).isLt⟩, ⟨(y 1).val, (y 1).isLt⟩, ⟨(y 2).val, (y 2).isLt⟩, by
    funext a
    match a with
    | ⟨0, _⟩ => rfl
    | ⟨1, _⟩ => rfl
    | ⟨2, _⟩ => rfl⟩

/-- Every entry of the array is a real number. -/
def Real (x : Arr) : Prop := ∀ y, x y ≠ ⊤ ∧ x y ≠ ⊥
/-- An entry as a real. -/
def re (x : Arr) (h : Fin 8) (i : Fin 8192) (d : Fin 128) : ℝ := (x (c2 h i d)).toReal
theorem re_coe {x : Arr} (hx : Real x) (h : Fin 8) (i : Fin 8192) (d : Fin 128) : x (c2 h i d) = (re x h i d : EReal) :=
  (EReal.coe_toReal (hx _).1 (hx _).2).symm
/-- The products of the rows `i` of one array with the rows of another, head by head. -/
def raw (x y : Arr) (h : Fin 8) (i j : Fin 8192) : ℝ := ∑ d : Fin 128, re x h i d * re y h j d
theorem raw_coe {x y : Arr} (hx : Real x) (hy : Real y) (h : Fin 8) (i j : Fin 8192) :
    ∑ d : Fin 128, x (c2 h i d) * y (c2 h j d) = ((raw x y h i j : ℝ) : EReal) := by
  unfold raw
  rw [coe_sum]
  exact Finset.sum_congr rfl fun d _ => by rw [re_coe hx, re_coe hy, EReal.coe_mul]

theorem head_idx (h : Fin 8) (i : Fin 8192) (d : Fin 128) : idx_main_v4 (idx_main_v5 (d3 h i d)) = c2 h i d := by
  have h1 := h.isLt; have h2 := i.isLt; have h3 := d.isLt
  funext a
  match a with
  | ⟨0, _⟩ => exact Fin.ext (by show ((i.val * 8 + h.val) * 128 + d.val) / 1024 = i.val; omega)
  | ⟨1, _⟩ => exact Fin.ext (by show ((i.val * 8 + h.val) * 128 + d.val) % 1024 = 128 * h.val + d.val; omega)

theorem v5_e (x : Arr) (h : Fin 8) (i : Fin 8192) (d : Fin 128) : val_main_v5 (F := Ideal) x (d3 h i d) = x (c2 h i d) := by
  rw [val_main_v5_apply, val_main_v4_apply, val_main_v0_apply, head_idx]; rfl
theorem v7_e (x : Arr) (h : Fin 8) (i : Fin 8192) (d : Fin 128) : val_main_v7 (F := Ideal) x (d3 h i d) = x (c2 h i d) := v5_e x h i d
theorem v9_e (x : Arr) (h : Fin 8) (i : Fin 8192) (d : Fin 128) : val_main_v9 (F := Ideal) x (d3 h i d) = x (c2 h i d) := v5_e x h i d
theorem v45_e (x : Arr) (h : Fin 8) (i : Fin 8192) (d : Fin 128) : val_main_v45 (F := Ideal) x (d3 h i d) = x (c2 h i d) := v5_e x h i d

variable {x0 x1 x2 x3 : Arr}

theorem v12_e (h0 : Real x0) (h1 : Real x1) (h : Fin 8) (i j : Fin 8192) :
    val_main_v12 (F := Ideal) x0 x1 (e3 h i j) = ((raw x0 x1 h i j * sc : ℝ) : EReal) := by
  rw [val_main_v12_apply, val_main_v10_apply, val_main_v11_apply, val_main_cst_apply]
  show (∑ k : Fin 128, val_main_v5 (F := Ideal) x0 (d3 h i k) * val_main_v7 (F := Ideal) x1 (d3 h j k)) * Ideal.ofBits .f32 0x3DD105EC#32 = _
  rw [Finset.sum_congr rfl fun k _ => by rw [v5_e, v7_e], raw_coe h0 h1, ofBits_sc, EReal.coe_mul]

theorem v48_e (h2 : Real x2) (h3 : Real x3) (h : Fin 8) (i j : Fin 8192) :
    val_main_v48 (F := Ideal) x2 x3 (e3 h i j) = ((raw x3 x2 h i j : ℝ) : EReal) := by
  rw [val_main_v48_apply]
  show (∑ k : Fin 128, val_main_v45 (F := Ideal) x3 (d3 h i k) * val_main_v9 (F := Ideal) x2 (d3 h j k)) = _
  rw [Finset.sum_congr rfl fun k _ => by rw [v45_e, v9_e], raw_coe h3 h2]

/-- The row's maximum is a real. -/
theorem max_real (h0 : Real x0) (h1 : Real x1) (h : Fin 8) (i : Fin 8192) :
    ∃ M : ℝ, val_main_v13 (F := Ideal) x0 x1 (e2 h i) = (M : EReal) := by
  have E : val_main_v13 (F := Ideal) x0 x1 (e2 h i) = (Finset.univ : Finset (Fin 8192)).fold max (val_main_cst_0 (F := Ideal) (Shape.Idx.first h_S_))
      (val_main_v12 (F := Ideal) x0 x1 ∘ (show S8x8192x8192.Reduces [2] S8x8192 by decide).lift (e2 h i)) :=
    Host.reduce_eq_fold_single (α := EReal) max _ _ reducesTo_S8x8192x8192_S8x8192_d2 (by decide) h_S_ _
  rw [E, val_main_cst_0_apply, show FloatOps.ofBits (F := Ideal) .f32 0xFF800000#32 = (⊥ : EReal) from ofBits_bot]
  refine fold_max_real _ _ (fun k => ?_) (Finset.mem_univ (⟨0, by decide⟩ : Fin 8192))
  obtain ⟨h', i', j', e⟩ := e3_surj ((show S8x8192x8192.Reduces [2] S8x8192 by decide).lift (e2 h i) k)
  exact ⟨_, (congrArg _ e).trans (v12_e h0 h1 h' i' j')⟩

theorem v33_e (h0 : Real x0) (h1 : Real x1) {h : Fin 8} {i : Fin 8192} {M : ℝ} (hM : val_main_v13 (F := Ideal) x0 x1 (e2 h i) = (M : EReal)) (j : Fin 8192) :
    val_main_v33 (F := Ideal) x0 x1 (e3 h i j) = Ideal.exp (((raw x0 x1 h i j * sc : ℝ) : EReal) - (M : EReal)) := by
  rw [val_main_v33_apply, val_main_v32_apply, v12_e h0 h1, val_main_v31_apply, val_main_v30_apply, val_main_v20_apply, val_main_v19_apply, val_main_cst_2_apply]
  rw [show idx_main_v30 (idx_main_v31 (e3 h i j)) = e2 h i from by
    funext a
    match a with
    | ⟨0, _⟩ => rfl
    | ⟨1, _⟩ => rfl, hM]
  show Ideal.exp (((raw x0 x1 h i j * sc : ℝ) : EReal) - max (Ideal.ofBits .f32 0xFF800000#32) (M : EReal)) = _
  rw [ofBits_bot, max_eq_right bot_le]

theorem v34_e (h0 : Real x0) (h1 : Real x1) {h : Fin 8} {i : Fin 8192} {M : ℝ} (hM : val_main_v13 (F := Ideal) x0 x1 (e2 h i) = (M : EReal)) :
    val_main_v34 (F := Ideal) x0 x1 (e2 h i) = ((lr (raw x0 x1 h i) M : ℝ) : EReal) := by
  rw [val_main_v34_apply, val_main_cst_8_apply]
  show Ideal.ofBits .f32 0x00000000#32 + ∑ k : Fin 8192, val_main_v33 (F := Ideal) x0 x1 (e3 h i k) = _
  rw [Ideal.ofBits_zero_f32, zero_add, Finset.sum_congr rfl fun k _ => v33_e h0 h1 hM k, sum_exp]

theorem v35_e (y : S8x8192x1.Idx) {h : Fin 8} {i : Fin 8192} (e0 : (y 0).val = h.val) (e1 : (y 1).val = i.val) :
    val_main_v35 (F := Ideal) x0 x1 y = val_main_v34 (F := Ideal) x0 x1 (e2 h i) := by
  rw [val_main_v35_apply]
  congr 1
  funext a
  match a with
  | ⟨0, _⟩ => exact Fin.ext e0
  | ⟨1, _⟩ => exact Fin.ext e1

/-- The reference's weights. -/
theorem v37_e (h0 : Real x0) (h1 : Real x1) (h : Fin 8) (i j : Fin 8192) :
    val_main_v37 (F := Ideal) x0 x1 (e3 h i j) = ((pr (raw x0 x1 h i) j : ℝ) : EReal) := by
  obtain ⟨M, hM⟩ := max_real h0 h1 h i
  rw [val_main_v37_apply, val_main_v36_apply, v35_e _ (h := h) (i := i) rfl rfl, v34_e h0 h1 hM, v33_e h0 h1 hM]
  exact host_p _ M j

theorem v40_e (h0 : Real x0) (h1 : Real x1) {h : Fin 8} {i : Fin 8192} {M : ℝ} (hM : val_main_v13 (F := Ideal) x0 x1 (e2 h i) = (M : EReal))
    (y : S8x8192x1.Idx) (e0 : (y 0).val = h.val) (e1 : (y 1).val = i.val) : val_main_v40 (F := Ideal) x0 x1 y
      = Ideal.div 1 (((lr (raw x0 x1 h i) M : ℝ) : EReal) * ((lr (raw x0 x1 h i) M : ℝ) : EReal)) := by
  rw [val_main_v40_apply, val_main_v39_apply, val_main_cst_9_apply, val_main_v38_apply, v35_e y e0 e1, v34_e h0 h1 hM]
  show Ideal.div (Ideal.ofBits .f32 0x3F800000#32) (((lr (raw x0 x1 h i) M : ℝ) : EReal) * ((lr (raw x0 x1 h i) M : ℝ) : EReal)) = _
  rw [Ideal.ofBits_one_f32]

theorem v51_e (h0 : Real x0) (h1 : Real x1) (h2 : Real x2) (h3 : Real x3) {h : Fin 8} {i : Fin 8192} {M : ℝ} (hM : val_main_v13 (F := Ideal) x0 x1 (e2 h i) = (M : EReal)) (k : Fin 8192) :
    val_main_v51 (F := Ideal) x0 x1 x2 x3 (e3 h i k)
      = ((raw x3 x2 h i k : ℝ) : EReal) * Ideal.div 1 (((lr (raw x0 x1 h i) M : ℝ) : EReal) * ((lr (raw x0 x1 h i) M : ℝ) : EReal))
        * Ideal.exp (((raw x0 x1 h i k * sc : ℝ) : EReal) - (M : EReal)) := by
  rw [val_main_v51_apply, val_main_v50_apply, val_main_v49_apply, v48_e h2 h3, v33_e h0 h1 hM, v40_e h0 h1 hM _ rfl rfl, Ideal.mulf_def, Ideal.mulf_def]

theorem v52_e (h : Fin 8) (i : Fin 8192) :
    val_main_v52 (F := Ideal) x0 x1 x2 x3 (e2 h i) = ∑ k : Fin 8192, val_main_v51 (F := Ideal) x0 x1 x2 x3 (e3 h i k) := by
  rw [val_main_v52_apply, val_main_cst_10_apply]
  show Ideal.ofBits .f32 0x00000000#32 + ∑ k : Fin 8192, val_main_v51 (F := Ideal) x0 x1 x2 x3 (e3 h i k) = _
  rw [Ideal.ofBits_zero_f32, zero_add]

theorem v54_e (y : S8x8192x1.Idx) {h : Fin 8} {i : Fin 8192} (e0 : (y 0).val = h.val) (e1 : (y 1).val = i.val) :
    val_main_v54 (F := Ideal) x0 x1 x2 x3 y = -(val_main_v52 (F := Ideal) x0 x1 x2 x3 (e2 h i)) := by
  rw [val_main_v54_apply, val_main_v53_apply]
  show -(val_main_v52 (F := Ideal) x0 x1 x2 x3 (idx_main_v53 y)) = _
  congr 2
  funext a
  match a with
  | ⟨0, _⟩ => exact Fin.ext (by have := h.isLt; have := i.isLt; have h2 : (y 2).val < 1 := (y 2).isLt; show (((y 0).val * 8192 + (y 1).val) * 1 + (y 2).val) / 8192 = h.val; omega)
  | ⟨1, _⟩ => exact Fin.ext (by have := h.isLt; have := i.isLt; have h2 : (y 2).val < 1 := (y 2).isLt; show (((y 0).val * 8192 + (y 1).val) * 1 + (y 2).val) % 8192 = i.val; omega)

theorem v58_e (h : Fin 8) (i j : Fin 8192) :
    val_main_v58 (F := Ideal) x0 x1 x2 x3 (e3 h i j) = -(val_main_v52 (F := Ideal) x0 x1 x2 x3 (e2 h i)) := by
  rw [val_main_v58_apply, val_main_v57_apply, val_main_cst_11_apply, Fin.sum_univ_one, v54_e (h := h) (i := i) _ rfl rfl]
  show Ideal.ofBits .f32 0x00000000#32 + -(val_main_v52 (F := Ideal) x0 x1 x2 x3 (e2 h i)) = _
  rw [Ideal.ofBits_zero_f32, zero_add]

/-- The reference's gradients of the raw scores. -/
theorem v62_e (h0 : Real x0) (h1 : Real x1) (h2 : Real x2) (h3 : Real x3) (h : Fin 8) (i j : Fin 8192) :
    val_main_v62 (F := Ideal) x0 x1 x2 x3 (e3 h i j) = ((dsr (raw x0 x1 h i) (raw x3 x2 h i) j : ℝ) : EReal) := by
  obtain ⟨M, hM⟩ := max_real h0 h1 h i
  rw [val_main_v62_apply, val_main_v60_apply, val_main_v59_apply, val_main_v56_apply, val_main_v55_apply, val_main_v61_apply, val_main_cst_12_apply,
    v58_e, v52_e, Finset.sum_congr rfl fun k _ => v51_e h0 h1 h2 h3 hM k, v48_e h2 h3, v35_e _ (h := h) (i := i) rfl rfl, v34_e h0 h1 hM, v33_e h0 h1 hM]
  rw [Ideal.mulf_def, Ideal.mulf_def, show FloatOps.ofBits (F := Ideal) .f32 0x3DD105EC#32 = ((sc : ℝ) : EReal) from ofBits_sc]
  exact host_ds _ _ M j

theorem out_idx (h : Fin 8) (i : Fin 8192) (d : Fin 128) : idx_main_v69 (idx_main_v70 (c2 h i d)) = d3 h i d := by
  have h1 := h.isLt; have h2 := i.isLt; have h3 := d.isLt
  funext a
  match a with
  | ⟨0, _⟩ => exact Fin.ext (by show (i.val * 1024 + (128 * h.val + d.val)) / 128 % 8 = h.val; omega)
  | ⟨1, _⟩ => exact Fin.ext (by show (i.val * 1024 + (128 * h.val + d.val)) / 1024 = i.val; omega)
  | ⟨2, _⟩ => exact Fin.ext (by show (i.val * 1024 + (128 * h.val + d.val)) % 128 = d.val; omega)

/-- The value gradient of the reference at an index. -/
theorem dv_e (h0 : Real x0) (h1 : Real x1) (h : Fin 8) (j : Fin 8192) (d : Fin 128) :
    val_main_v66 (F := Ideal) x0 x1 x3 (c2 h j d) = ∑ i : Fin 8192, ((pr (raw x0 x1 h i) j : ℝ) : EReal) * x3 (c2 h i d) := by
  rw [val_main_v66_apply, val_main_v65_apply]
  rw [show idx_main_v65 (idx_main_v66 (c2 h j d)) = d3 h j d from out_idx h j d, val_main_v47_apply, val_main_v46_apply]
  refine Finset.sum_congr rfl fun i _ => ?_
  rw [show lidx_main_v46 (idx_main_v47 (d3 h j d)) i = d3 h i d from by
      funext a
      match a with
      | ⟨0, _⟩ => rfl
      | ⟨1, _⟩ => rfl
      | ⟨2, _⟩ => rfl,
    show ridx_main_v46 (idx_main_v47 (d3 h j d)) i = e3 h i j from by
      funext a
      match a with
      | ⟨0, _⟩ => rfl
      | ⟨1, _⟩ => rfl
      | ⟨2, _⟩ => rfl, v45_e, v37_e h0 h1, mul_comm]

/-- The key gradient of the reference at an index. -/
theorem dk_e (h0 : Real x0) (h1 : Real x1) (h2 : Real x2) (h3 : Real x3) (h : Fin 8) (j : Fin 8192) (d : Fin 128) :
    val_main_v68 (F := Ideal) x0 x1 x2 x3 (c2 h j d) = ∑ i : Fin 8192, ((dsr (raw x0 x1 h i) (raw x3 x2 h i) j : ℝ) : EReal) * x0 (c2 h i d) := by
  rw [val_main_v68_apply, val_main_v67_apply]
  rw [show idx_main_v67 (idx_main_v68 (c2 h j d)) = d3 h j d from out_idx h j d, val_main_v63_apply]
  refine Finset.sum_congr rfl fun i _ => ?_
  rw [show lidx_main_v63 (d3 h j d) i = e3 h i j from by
      funext a
      match a with
      | ⟨0, _⟩ => rfl
      | ⟨1, _⟩ => rfl
      | ⟨2, _⟩ => rfl,
    show ridx_main_v63 (d3 h j d) i = d3 h i d from by
      funext a
      match a with
      | ⟨0, _⟩ => rfl
      | ⟨1, _⟩ => rfl
      | ⟨2, _⟩ => rfl, v5_e, v62_e h0 h1 h2 h3]

/-- The query gradient of the reference at an index. -/
theorem dq_e (h0 : Real x0) (h1 : Real x1) (h2 : Real x2) (h3 : Real x3) (h : Fin 8) (i : Fin 8192) (d : Fin 128) :
    val_main_v70 (F := Ideal) x0 x1 x2 x3 (c2 h i d) = ∑ j : Fin 8192, ((dsr (raw x0 x1 h i) (raw x3 x2 h i) j : ℝ) : EReal) * x1 (c2 h j d) := by
  rw [val_main_v70_apply, val_main_v69_apply]
  rw [show idx_main_v69 (idx_main_v70 (c2 h i d)) = d3 h i d from out_idx h i d, val_main_v64_apply]
  refine Finset.sum_congr rfl fun j _ => ?_
  rw [show lidx_main_v64 (d3 h i d) j = e3 h i j from by
      funext a
      match a with
      | ⟨0, _⟩ => rfl
      | ⟨1, _⟩ => rfl
      | ⟨2, _⟩ => rfl,
    show ridx_main_v64 (d3 h i d) j = d3 h j d from by
      funext a
      match a with
      | ⟨0, _⟩ => rfl
      | ⟨1, _⟩ => rfl
      | ⟨2, _⟩ => rfl, v7_e, v62_e h0 h1 h2 h3]

end Cert.Proof.RVal

end
-- ==== Proof.KSum.lean ====
module

public import proofs.«01_k».proof.Proof.TripSpec
public import proofs.«01_k».proof.Proof.RVal
public import Idealize.ShloMosaic.Lib.Pipeline.ValueKit.Acc

@[expose] public section

set_option maxRecDepth 16384

noncomputable section

/-! What the loop over the blocks of rows leaves, of blocks of finite arrays: sums over all the rows. -/

namespace Cert.Proof.KSum

open Cert.KernelIdeal Cert.KernelIdeal.Gen Cert.Proof.Tile Cert.Proof.Trip Cert.Proof.Soft Cert.Proof.RVal
open Idealize.ShloMosaic
open scoped BigOperators

def t2 (i j : Fin 512) : S512x512.Idx := fun a => match a with
  | ⟨0, _⟩ => ⟨i.val, i.isLt⟩
  | ⟨1, _⟩ => ⟨j.val, j.isLt⟩
def b2 (i : Fin 512) (d : Fin 128) : S512x128.Idx := fun a => match a with
  | ⟨0, _⟩ => ⟨i.val, i.isLt⟩
  | ⟨1, _⟩ => ⟨d.val, d.isLt⟩
def r2 (i : Fin 8192) (d : Fin 128) : S8192x128.Idx := fun a => match a with
  | ⟨0, _⟩ => ⟨i.val, i.isLt⟩
  | ⟨1, _⟩ => ⟨d.val, d.isLt⟩
/-- Row `i` of the `n`-th block of 512. -/
def row (n : ℕ) (i : Fin 512) : Fin 8192 := ⟨(512 * n + i.val) % 8192, Nat.mod_lt _ (by norm_num)⟩

theorem b2_surj (y : S512x128.Idx) : ∃ i d, y = b2 i d :=
  ⟨⟨(y 0).val, (y 0).isLt⟩, ⟨(y 1).val, (y 1).isLt⟩, by
    funext a
    match a with
    | ⟨0, _⟩ => rfl
    | ⟨1, _⟩ => rfl⟩
theorem r2_surj (y : S8192x128.Idx) : ∃ i d, y = r2 i d :=
  ⟨⟨(y 0).val, (y 0).isLt⟩, ⟨(y 1).val, (y 1).isLt⟩, by
    funext a
    match a with
    | ⟨0, _⟩ => rfl
    | ⟨1, _⟩ => rfl⟩

theorem rix_e (n : ℕ) (i : Fin 512) (d : Fin 128) : rix n (b2 i d) = r2 (row n i) d := by
  funext a
  match a with
  | ⟨0, _⟩ => rfl
  | ⟨1, _⟩ => rfl
theorem lix_e (n : ℕ) (i j : Fin 512) : lix n (t2 i j) = r2 (row n i) ⟨j.val % 128, Nat.mod_lt _ (by norm_num)⟩ := by
  funext a
  match a with
  | ⟨0, _⟩ => rfl
  | ⟨1, _⟩ => rfl

theorem scT_e (b x : Vec Ideal S512x128 .bf16) (i j : Fin 512) : (scT b x (t2 i j) : EReal) = ∑ d : Fin 128, x (b2 i d) * b (b2 j d) := by
  simp only [scT, matmul]
  rw [Ideal.matmul_constant_zero_apply, ← Equiv.sum_comp (ValueIdx.contrEquiv1 dot_S512x128_S512x128_S512x512_1_1_0_0_n_n 128 rfl rfl).symm]
  refine Finset.sum_congr rfl fun k _ => ?_
  have hk := ValueIdx.contrEquiv1_symm_val dot_S512x128_S512x128_S512x512_1_1_0_0_n_n 128 rfl rfl k
  congr 2 <;> funext a <;> refine Fin.ext ?_
  · match a with
    | ⟨0, _⟩ =>
      unfold DotDims.lhsIdx
      rw [dif_neg (by decide +revert), dif_pos (by decide +revert)]
      rfl
    | ⟨1, _⟩ => exact (DotDims.lhsIdx_val_of_single _ rfl _ _).trans hk
  · match a with
    | ⟨0, _⟩ =>
      unfold DotDims.rhsIdx
      rw [dif_neg (by decide +revert), dif_pos (by decide +revert)]
      rfl
    | ⟨1, _⟩ => exact (DotDims.rhsIdx_val_of_single _ rfl _ _).trans hk

theorem mmT_e (w : FVec Ideal S512x512 .bf16) (x : Vec Ideal S512x128 .bf16) (j : Fin 512) (d : Fin 128) :
    (mmT w x (b2 j d) : EReal) = ∑ i : Fin 512, w (t2 i j) * x (b2 i d) := by
  simp only [mmT, matmul]
  rw [Ideal.matmul_constant_zero_apply, ← Equiv.sum_comp (ValueIdx.contrEquiv1 dot_S512x512_S512x128_S512x128_0_0_1_1_n_n 512 rfl rfl).symm]
  refine Finset.sum_congr rfl fun k _ => ?_
  have hk := ValueIdx.contrEquiv1_symm_val dot_S512x512_S512x128_S512x128_0_0_1_1_n_n 512 rfl rfl k
  congr 2 <;> funext a <;> refine Fin.ext ?_
  · match a with
    | ⟨0, _⟩ => exact (DotDims.lhsIdx_val_of_single _ rfl _ _).trans hk
    | ⟨1, _⟩ =>
      unfold DotDims.lhsIdx
      rw [dif_neg (by decide +revert), dif_pos (by decide +revert)]
      rfl
  · match a with
    | ⟨0, _⟩ => exact (DotDims.rhsIdx_val_of_single _ rfl _ _).trans hk
    | ⟨1, _⟩ =>
      unfold DotDims.rhsIdx
      rw [dif_neg (by decide +revert), dif_pos (by decide +revert)]
      rfl

theorem mmN_e (w : FVec Ideal S512x512 .bf16) (x : Vec Ideal S512x128 .bf16) (i : Fin 512) (d : Fin 128) :
    (mmN w x (b2 i d) : EReal) = ∑ j : Fin 512, w (t2 i j) * x (b2 j d) := by
  simp only [mmN, matmul]
  rw [Ideal.matmul_constant_zero_apply, ← Equiv.sum_comp (ValueIdx.contrEquiv1 dot_S512x512_S512x128_S512x128_1_0_0_1_n_n 512 rfl rfl).symm]
  refine Finset.sum_congr rfl fun k _ => ?_
  have hk := ValueIdx.contrEquiv1_symm_val dot_S512x512_S512x128_S512x128_1_0_0_1_n_n 512 rfl rfl k
  congr 2 <;> funext a <;> refine Fin.ext ?_
  · match a with
    | ⟨0, _⟩ =>
      unfold DotDims.lhsIdx
      rw [dif_neg (by decide +revert), dif_pos (by decide +revert)]
      rfl
    | ⟨1, _⟩ => exact (DotDims.lhsIdx_val_of_single _ rfl _ _).trans hk
  · match a with
    | ⟨0, _⟩ => exact (DotDims.rhsIdx_val_of_single _ rfl _ _).trans hk
    | ⟨1, _⟩ =>
      unfold DotDims.rhsIdx
      rw [dif_neg (by decide +revert), dif_pos (by decide +revert)]
      rfl

theorem pT_at (l : Vec Ideal S8192x128 .f32) (n : ℕ) (s : Vec Ideal S512x512 .f32) (y : S512x512.Idx) :
    (pT l n s y : EReal) = Ideal.exp2 ((s y : EReal) * Named.named (F := Ideal) (φ := .f32) κ "scale_log2e" 0x3E16C740#32 - l (lix n y)) := rfl
theorem dsT_at (l t : Vec Ideal S8192x128 .f32) (n : ℕ) (s p : Vec Ideal S512x512 .f32) (y : S512x512.Idx) :
    (dsT l t n s p y : EReal) = Ideal.exp2 ((s y : EReal) * Named.named (F := Ideal) (φ := .f32) κ "scale_log2e" 0x3E16C740#32 - l (lix n y))
      * ((p y : EReal) - t (lix n y)) * Scalar.ofBits (F := Ideal) .f32 0x3DD105EC#32 := rfl

theorem named_e : (Named.named (F := Ideal) (φ := .f32) κ "scale_log2e" 0x3E16C740#32 : EReal) = ((sc * (Real.log 2)⁻¹ : ℝ) : EReal) := rfl

/-- What a grid point finds: the blocks of head `h`, key block `jb`, and the rows' log-sums and corrections. -/
structure Blocks (x0 x1 x2 x3 : Arr) (h : Fin 8) (jb : ℕ) (kb vb : Vec Ideal S512x128 .bf16) (q d : Vec Ideal S8192x128 .bf16)
    (l t : Vec Ideal S8192x128 .f32) : Prop where
  r0 : RVal.Real x0
  r1 : RVal.Real x1
  r2 : RVal.Real x2
  r3 : RVal.Real x3
  k : ∀ i e, kb (b2 i e) = x1 (c2 h (row jb i) e)
  v : ∀ i e, vb (b2 i e) = x2 (c2 h (row jb i) e)
  q : ∀ i e, q (KSum.r2 i e) = x0 (c2 h i e)
  d : ∀ i e, d (KSum.r2 i e) = x3 (c2 h i e)
  l : ∀ i, ∃ M : ℝ, ∀ e, (l (KSum.r2 i e) : EReal) = (((M + Real.log (lr (raw x0 x1 h i) M)) / Real.log 2 : ℝ) : EReal)
  t : ∀ i e, (t (KSum.r2 i e) : EReal) = ((∑ k, pr (raw x0 x1 h i) k * raw x3 x2 h i k : ℝ) : EReal)

variable {x0 x1 x2 x3 : Arr} {h : Fin 8} {jb : ℕ} {kb vb : Vec Ideal S512x128 .bf16} {q d : Vec Ideal S8192x128 .bf16} {l t : Vec Ideal S8192x128 .f32}

theorem Blocks.sc (B : Blocks x0 x1 x2 x3 h jb kb vb q d l t) (n : ℕ) (i j : Fin 512) :
    (scT kb (rows q n) (t2 i j) : EReal) = ((raw x0 x1 h (row n i) (row jb j) : ℝ) : EReal) := by
  rw [scT_e, ← raw_coe B.r0 B.r1]
  refine Finset.sum_congr rfl fun e _ => ?_
  rw [B.k, show rows q n (b2 i e) = q (rix n (b2 i e)) from rfl, rix_e, B.q]
theorem Blocks.dp (B : Blocks x0 x1 x2 x3 h jb kb vb q d l t) (n : ℕ) (i j : Fin 512) :
    (scT vb (rows d n) (t2 i j) : EReal) = ((raw x3 x2 h (row n i) (row jb j) : ℝ) : EReal) := by
  rw [scT_e, ← raw_coe B.r3 B.r2]
  refine Finset.sum_congr rfl fun e _ => ?_
  rw [B.v, show rows d n (b2 i e) = d (rix n (b2 i e)) from rfl, rix_e, B.d]

/-- The tile of weights holds the weights. -/
theorem Blocks.p (B : Blocks x0 x1 x2 x3 h jb kb vb q d l t) (n : ℕ) (i j : Fin 512) :
    (pAt kb q l n (t2 i j) : EReal) = ((pr (raw x0 x1 h (row n i)) (row jb j) : ℝ) : EReal) := by
  unfold pAt
  obtain ⟨M, hM⟩ := B.l (row n i)
  rw [pT_at, B.sc, named_e, lix_e, hM]
  exact kernel_p _ M _
/-- The tile of score gradients holds the gradients of the raw scores. -/
theorem Blocks.ds (B : Blocks x0 x1 x2 x3 h jb kb vb q d l t) (n : ℕ) (i j : Fin 512) :
    (dsAt kb vb q d l t n (t2 i j) : EReal) = ((dsr (raw x0 x1 h (row n i)) (raw x3 x2 h (row n i)) (row jb j) : ℝ) : EReal) := by
  unfold dsAt
  obtain ⟨M, hM⟩ := B.l (row n i)
  rw [dsT_at, B.sc, B.dp, named_e, lix_e, hM, B.t, kernel_p, show (Scalar.ofBits (F := Ideal) .f32 0x3DD105EC#32 : EReal) = ((Soft.sc : ℝ) : EReal) from ofBits_sc]
  exact kernel_ds _ _ _

/-- A sum over sixteen blocks of 512 rows is the sum over all the rows. -/
theorem sum_rows (f : Fin 8192 → EReal) : ∑ r ∈ Finset.range 16, ∑ i : Fin 512, f (row r i) = ∑ i : Fin 8192, f i := by
  rw [← Fin.sum_mul_add_fin 16 512 f, Finset.sum_range]
  refine Finset.sum_congr rfl fun r _ => Finset.sum_congr rfl fun i _ => congrArg f (Fin.ext ?_)
  have := r.isLt; have := i.isLt
  show (512 * r.val + i.val) % 8192 = r.val * 512 + i.val
  omega

theorem dv_step (B : Blocks x0 x1 x2 x3 h jb kb vb q d l t) (g : Vec Ideal S512x128 .f32) (n : ℕ) (j : Fin 512) (e : Fin 128) :
    (dvAt kb q d l g n (b2 j e) : EReal) = g (b2 j e) + ∑ r ∈ Finset.range n, ∑ i : Fin 512, ((pr (raw x0 x1 h (row r i)) (row jb j) : ℝ) : EReal) * x3 (c2 h (row r i) e) := by
  induction n with
  | zero => rw [Finset.sum_range_zero, add_zero]; rfl
  | succ n ih =>
    show (dvAt kb q d l g n (b2 j e) : EReal) + mmT (pAt kb q l n) (rows d n) (b2 j e) = _
    rw [ih, mmT_e, Finset.sum_range_succ, add_assoc]
    congr 2
    refine Finset.sum_congr rfl fun i _ => ?_
    rw [B.p, show rows d n (b2 i e) = d (rix n (b2 i e)) from rfl, rix_e, B.d]

theorem dk_step (B : Blocks x0 x1 x2 x3 h jb kb vb q d l t) (g : Vec Ideal S512x128 .f32) (n : ℕ) (j : Fin 512) (e : Fin 128) :
    (dkAt kb vb q d l t g n (b2 j e) : EReal) = g (b2 j e)
      + ∑ r ∈ Finset.range n, ∑ i : Fin 512, ((dsr (raw x0 x1 h (row r i)) (raw x3 x2 h (row r i)) (row jb j) : ℝ) : EReal) * x0 (c2 h (row r i) e) := by
  induction n with
  | zero => rw [Finset.sum_range_zero, add_zero]; rfl
  | succ n ih =>
    show (dkAt kb vb q d l t g n (b2 j e) : EReal) + mmT (dsAt kb vb q d l t n) (rows q n) (b2 j e) = _
    rw [ih, mmT_e, Finset.sum_range_succ, add_assoc]
    congr 2
    refine Finset.sum_congr rfl fun i _ => ?_
    rw [B.ds, show rows q n (b2 i e) = q (rix n (b2 i e)) from rfl, rix_e, B.q]

theorem setRows_in (g : Vec Ideal S8192x128 .f32) (w : FVec Ideal S512x128 .f32) {n : ℕ} {i : Fin 8192} (e : Fin 128) (hi : 512 * n ≤ i.val ∧ i.val < 512 * n + 512) :
    setRows g n w (r2 i e) = w (b2 ⟨i.val - 512 * n, by omega⟩ e) :=
  (dif_pos hi).trans (congrArg w (funext fun a => match a with
    | ⟨0, _⟩ => rfl
    | ⟨1, _⟩ => rfl))
theorem setRows_out (g : Vec Ideal S8192x128 .f32) (w : FVec Ideal S512x128 .f32) {n : ℕ} {i : Fin 8192} (e : Fin 128) (hi : ¬(512 * n ≤ i.val ∧ i.val < 512 * n + 512)) :
    setRows g n w (r2 i e) = g (r2 i e) := dif_neg hi

/-- The rows of the first `n` blocks have had the key block's part added. -/
theorem dq_step (B : Blocks x0 x1 x2 x3 h jb kb vb q d l t) (g : Vec Ideal S8192x128 .f32) (n : ℕ) (hn : n ≤ 16) (i : Fin 8192) (e : Fin 128) :
    (dqAt kb vb q d l t g n (r2 i e) : EReal) = if i.val < 512 * n
      then g (r2 i e) + ∑ j : Fin 512, ((dsr (raw x0 x1 h i) (raw x3 x2 h i) (row jb j) : ℝ) : EReal) * x1 (c2 h (row jb j) e) else g (r2 i e) := by
  induction n with
  | zero => rw [if_neg (by omega)]; rfl
  | succ n ih =>
    have ih := ih (by omega)
    show (setRows (dqAt kb vb q d l t g n) n (addf (rows (dqAt kb vb q d l t g n) n) (mmN (dsAt kb vb q d l t n) kb)) (r2 i e) : EReal) = _
    by_cases hi : 512 * n ≤ i.val ∧ i.val < 512 * n + 512
    · rw [setRows_in _ _ _ hi, if_pos (by omega)]
      rw [if_neg (by omega)] at ih
      have hr : row n ⟨i.val - 512 * n, by omega⟩ = i := Fin.ext (by show (512 * n + (i.val - 512 * n)) % 8192 = i.val; have := i.isLt; omega)
      show (dqAt kb vb q d l t g n (rix n (b2 ⟨i.val - 512 * n, by omega⟩ e)) : EReal) + mmN (dsAt kb vb q d l t n) kb (b2 ⟨i.val - 512 * n, by omega⟩ e) = _
      rw [rix_e, hr, ih, mmN_e]
      congr 1
      refine Finset.sum_congr rfl fun j _ => ?_
      rw [B.ds, B.k, hr]
    · rw [setRows_out _ _ _ hi, ih]
      by_cases h1 : i.val < 512 * n
      · rw [if_pos h1, if_pos (by omega)]
      · rw [if_neg h1, if_neg (by omega)]

theorem pay_zero (e : S512x128.Idx) : (k0_pay2 (F := Ideal) e : EReal) = 0 := Ideal.ofBits_zero_f32
theorem pay_zero' (e : S512x128.Idx) : (k0_pay3 (F := Ideal) e : EReal) = 0 := Ideal.ofBits_zero_f32
theorem pay_zero'' (e : S8192x128.Idx) : (k0_pay1 (F := Ideal) e : EReal) = 0 := Ideal.ofBits_zero_f32

/-- The value gradient's block. -/
theorem Blocks.dv (B : Blocks x0 x1 x2 x3 h jb kb vb q d l t) (j : Fin 512) (e : Fin 128) :
    (dvAt kb q d l (k0_pay3 (F := Ideal)) 16 (b2 j e) : EReal) = ∑ i : Fin 8192, ((pr (raw x0 x1 h i) (row jb j) : ℝ) : EReal) * x3 (c2 h i e) := by
  rw [dv_step B, pay_zero', zero_add]
  exact sum_rows fun i => ((pr (raw x0 x1 h i) (row jb j) : ℝ) : EReal) * x3 (c2 h i e)
/-- The key gradient's block. -/
theorem Blocks.dk (B : Blocks x0 x1 x2 x3 h jb kb vb q d l t) (j : Fin 512) (e : Fin 128) :
    (dkAt kb vb q d l t (k0_pay2 (F := Ideal)) 16 (b2 j e) : EReal)
      = ∑ i : Fin 8192, ((dsr (raw x0 x1 h i) (raw x3 x2 h i) (row jb j) : ℝ) : EReal) * x0 (c2 h i e) := by
  rw [dk_step B, pay_zero, zero_add]
  exact sum_rows fun i => ((dsr (raw x0 x1 h i) (raw x3 x2 h i) (row jb j) : ℝ) : EReal) * x0 (c2 h i e)
/-- The query gradient's block: the key block's part added. -/
theorem Blocks.dq (B : Blocks x0 x1 x2 x3 h jb kb vb q d l t) (g : Vec Ideal S8192x128 .f32) (i : Fin 8192) (e : Fin 128) :
    (dqAt kb vb q d l t g 16 (KSum.r2 i e) : EReal)
      = g (KSum.r2 i e) + ∑ j : Fin 512, ((dsr (raw x0 x1 h i) (raw x3 x2 h i) (row jb j) : ℝ) : EReal) * x1 (c2 h (row jb j) e) := by
  rw [dq_step B g 16 le_rfl, if_pos (by have := i.isLt; omega)]

end Cert.Proof.KSum

end
-- ==== Proof.KVal.lean ====
module

public import proofs.«01_k».proof.Proof.RVal
public import proofs.«01_k».proof.Proof.Gen.KernelIdeal.Frame

@[expose] public section

set_option maxRecDepth 16384

noncomputable section

/-! What the kernel's host operations leave for its call: the rows' log-sums and the rows' sums of output times gradient,
spread over the lanes of their head. -/

namespace Cert.Proof.KVal

open Cert.ReferenceIdeal Cert.ReferenceIdeal.Gen Cert.ReferenceIdeal.Read Cert.Proof.Soft Cert.Proof.RVal
open Idealize.ShloMosaic Idealize.ShloMosaic.TcCoe
open scoped BigOperators

abbrev A1 : Type := (⟨S8x8192, .f32⟩ : BufTy).Contents (Elt Ideal)
abbrev A2 : Type := (⟨S8x8192x1, .f32⟩ : BufTy).Contents (Elt Ideal)
abbrev A3 : Type := (⟨S8x8192x8192, .f32⟩ : BufTy).Contents (Elt Ideal)
abbrev A4 : Type := (⟨S8x8192x128, .f32⟩ : BufTy).Contents (Elt Ideal)
abbrev A5 : Type := (⟨S8192x1024, .f32⟩ : BufTy).Contents (Elt Ideal)

theorem bcast_d : S8x8192x1.BroadcastsInDim S8x8192x128 (![0, 1, 2] : Fin 3 → Fin S8x8192x128.rank) := by decide
theorem red_d : S8x8192x128.ReducesTo [2] S8x8192 := by decide

def col (y : A1) : A2 := broadcastInDim S8x8192x1 ![0, 1] bcast_S8x8192_S8x8192x1_0_1 y
def wide (y : A2) : A3 := broadcastInDim S8x8192x8192 ![0, 1, 2] bcast_S8x8192x1_S8x8192x8192_0_1_2 y
def lanes (y : A2) : A4 := broadcastInDim S8x8192x128 ![0, 1, 2] bcast_d y
def out (y : A4) : A5 := shapeCast _ (transpose S8192x8x128 [1, 0, 2] y transposes_S8x8192x128_S8192x8x128_1_0_2) shapeCasts_S8192x8x128_S8192x1024

def u3 (h : Fin 8) (i : Fin 8192) : S8x8192x1.Idx := fun a => match a with
  | ⟨0, _⟩ => ⟨h.val, h.isLt⟩
  | ⟨1, _⟩ => ⟨i.val, i.isLt⟩
  | ⟨2, _⟩ => ⟨0, Nat.one_pos⟩

theorem col_e (y : A1) (h : Fin 8) (i : Fin 8192) : col y (u3 h i) = y (e2 h i) :=
  broadcastInDim_apply _ bcast_S8x8192_S8x8192x1_0_1 y (u3 h i) (e2 h i) (fun a => match a with
    | ⟨0, _⟩ => by show h.val = if (8 : Nat) = 1 then 0 else h.val; rw [if_neg (by decide)]
    | ⟨1, _⟩ => by show i.val = if (8192 : Nat) = 1 then 0 else i.val; rw [if_neg (by decide)])
theorem wide_e (y : A2) (h : Fin 8) (i j : Fin 8192) : wide y (e3 h i j) = y (u3 h i) :=
  broadcastInDim_apply _ bcast_S8x8192x1_S8x8192x8192_0_1_2 y (e3 h i j) (u3 h i) (fun a => match a with
    | ⟨0, _⟩ => by show h.val = if (8 : Nat) = 1 then 0 else h.val; rw [if_neg (by decide)]
    | ⟨1, _⟩ => by show i.val = if (8192 : Nat) = 1 then 0 else i.val; rw [if_neg (by decide)]
    | ⟨2, _⟩ => by show 0 = if (1 : Nat) = 1 then 0 else j.val; rw [if_pos rfl])
theorem lanes_e (y : A2) (h : Fin 8) (i : Fin 8192) (d : Fin 128) : lanes y (d3 h i d) = y (u3 h i) :=
  broadcastInDim_apply _ bcast_d y (d3 h i d) (u3 h i) (fun a => match a with
    | ⟨0, _⟩ => by show h.val = if (8 : Nat) = 1 then 0 else h.val; rw [if_neg (by decide)]
    | ⟨1, _⟩ => by show i.val = if (8192 : Nat) = 1 then 0 else i.val; rw [if_neg (by decide)]
    | ⟨2, _⟩ => by show 0 = if (1 : Nat) = 1 then 0 else d.val; rw [if_pos rfl])
theorem out_e (y : A4) (h : Fin 8) (i : Fin 8192) (d : Fin 128) : out y (c2 h i d) = y (d3 h i d) := by
  have h1 := h.isLt; have h2 := i.isLt; have h3 := d.isLt
  unfold out
  rw [shapeCast_apply _ shapeCasts_S8192x8x128_S8192x1024 (c2 h i d) (idx_main_v70 (c2 h i d))
    (by rewrite [Shape.rowMajor_val_three, Shape.rowMajor_val_two]
        show ((i.val * 1024 + (128 * h.val + d.val)) / 1024 * 8 + (i.val * 1024 + (128 * h.val + d.val)) / 128 % 8) * 128 + (i.val * 1024 + (128 * h.val + d.val)) % 128 = i.val * 1024 + (128 * h.val + d.val)
        omega)]
  rw [transpose_apply [1, 0, 2] y transposes_S8x8192x128_S8192x8x128_1_0_2 _ (idx_main_v69 (idx_main_v70 (c2 h i d))) (fun b => match b with
    | ⟨0, _⟩ => rfl
    | ⟨1, _⟩ => rfl
    | ⟨2, _⟩ => rfl), out_idx]

/-- The exponentials of the scores off the row's maximum. -/
def kE (x0 x1 : Arr) : A3 := Host.exp (F := Ideal) (φ := .f32) (subf (F := Ideal) (φ := .f32) (val_main_v12 (F := Ideal) x0 x1) (wide (col (val_main_v13 (F := Ideal) x0 x1))))
/-- Their sums. -/
def kL (x0 x1 : Arr) : A1 := Host.reduceAdd (F := Ideal) (φ := .f32) (kE x0 x1) (constant S_ .f32 0x00000000#32) reducesTo_S8x8192x8192_S8x8192_d2 h_S_
/-- The weights. -/
def kP (x0 x1 : Arr) : A3 := Host.divf (F := Ideal) (φ := .f32) (kE x0 x1) (wide (col (kL x0 x1)))
/-- The attention's output. -/
def kO (x0 x1 x2 : Arr) : A4 := Host.dotGeneral (F := Ideal) (φ₁ := .f32) (φ₂ := .f32) dot_S8x8192x8192_S8x8192x128_S8x8192x128_2_1_1_2_0_0 none (kP x0 x1) (val_main_v9 (F := Ideal) x2)
/-- The log-sums to base two. -/
def kLse (x0 x1 : Arr) : A2 := Host.divf (F := Ideal) (φ := .f32) (addf (F := Ideal) (φ := .f32) (col (val_main_v13 (F := Ideal) x0 x1)) (Host.log (F := Ideal) (φ := .f32) (col (kL x0 x1))))
  (broadcastInDim S8x8192x1 ![] bcast_S_S8x8192x1 (id (Host.log (F := Ideal) (φ := .f32) (constant S_ .f32 0x40000000#32))))
/-- The sums of output times gradient. -/
def kD (x0 x1 x2 x3 : Arr) : A1 := Host.reduceAdd (F := Ideal) (φ := .f32) (mulf (F := Ideal) (φ := .f32) (kO x0 x1 x2) (val_main_v45 (F := Ideal) x3)) (constant S_ .f32 0x00000000#32) red_d h_S_

variable {x0 x1 x2 x3 : Arr}

theorem kE_e (h0 : Real x0) (h1 : Real x1) {h : Fin 8} {i : Fin 8192} {M : ℝ} (hM : val_main_v13 (F := Ideal) x0 x1 (e2 h i) = (M : EReal)) (j : Fin 8192) :
    kE x0 x1 (e3 h i j) = Ideal.exp (((raw x0 x1 h i j * sc : ℝ) : EReal) - (M : EReal)) := by
  show Ideal.exp (val_main_v12 (F := Ideal) x0 x1 (e3 h i j) - wide (col (val_main_v13 (F := Ideal) x0 x1)) (e3 h i j)) = _
  rw [wide_e, col_e, hM, v12_e h0 h1]

theorem kL_e (h0 : Real x0) (h1 : Real x1) {h : Fin 8} {i : Fin 8192} {M : ℝ} (hM : val_main_v13 (F := Ideal) x0 x1 (e2 h i) = (M : EReal)) :
    kL x0 x1 (e2 h i) = ((lr (raw x0 x1 h i) M : ℝ) : EReal) := by
  have E : kL x0 x1 (e2 h i) = Ideal.ofBits .f32 0x00000000#32 + ∑ k : Fin 8192, kE x0 x1 (idx_main_v34 (e2 h i) k) := by
    unfold kL
    generalize kE x0 x1 = y0
    simp only [Host.reduceAdd, Ideal.hostReduceAdd_def]
    rw [Ideal.hostReduceAdd_single reducesTo_S8x8192x8192_S8x8192_d2 (by decide)]
    refine congrArg (_ + ·) (Finset.sum_congr rfl fun k _ => ?_)
    exact congrArg y0 (funext fun a => Fin.ext (by match a with | ⟨0, _⟩ => rfl | ⟨1, _⟩ => rfl | ⟨2, _⟩ => rfl))
  rw [E, Ideal.ofBits_zero_f32, zero_add, ← sum_exp]
  exact Finset.sum_congr rfl fun k _ => kE_e h0 h1 hM k

theorem kP_e (h0 : Real x0) (h1 : Real x1) (h : Fin 8) (i j : Fin 8192) :
    kP x0 x1 (e3 h i j) = ((pr (raw x0 x1 h i) j : ℝ) : EReal) := by
  obtain ⟨M, hM⟩ := max_real h0 h1 h i
  show Ideal.div (kE x0 x1 (e3 h i j)) (wide (col (kL x0 x1)) (e3 h i j)) = _
  rw [wide_e, col_e, kL_e h0 h1 hM, kE_e h0 h1 hM]
  exact host_p _ M j

theorem kO_e (h0 : Real x0) (h1 : Real x1) (h : Fin 8) (i : Fin 8192) (d : Fin 128) :
    kO x0 x1 x2 (d3 h i d) = ∑ j : Fin 8192, ((pr (raw x0 x1 h i) j : ℝ) : EReal) * x2 (c2 h j d) := by
  have E : kO x0 x1 x2 (d3 h i d) = ∑ k : Fin 8192, kP x0 x1 (lidx_main_v41 (d3 h i d) k) * val_main_v9 (F := Ideal) x2 (ridx_main_v41 (d3 h i d) k) := by
    unfold kO
    generalize kP x0 x1 = y0
    generalize val_main_v9 (F := Ideal) x2 = y1
    simp only [Host.dotGeneral]
    rw [Ideal.dotGeneral_apply, ← Equiv.sum_comp (ValueIdx.contrEquiv1 dot_S8x8192x8192_S8x8192x128_S8x8192x128_2_1_1_2_0_0 8192 rfl rfl).symm]
    refine Finset.sum_congr rfl fun k _ => ?_
    have hk := ValueIdx.contrEquiv1_symm_val dot_S8x8192x8192_S8x8192x128_S8x8192x128_2_1_1_2_0_0 8192 rfl rfl k
    have el : dot_S8x8192x8192_S8x8192x128_S8x8192x128_2_1_1_2_0_0.lhsIdx (d3 h i d) ((ValueIdx.contrEquiv1 dot_S8x8192x8192_S8x8192x128_S8x8192x128_2_1_1_2_0_0 8192 rfl rfl).symm k) = lidx_main_v41 (d3 h i d) k := funext fun a => Fin.ext (by
      match a with
      | ⟨0, _⟩ => exact lhs_main_v41_0 _ _
      | ⟨1, _⟩ => exact lhs_main_v41_1 _ _
      | ⟨2, _⟩ => exact (lhs_main_v41_2 _ _).trans hk)
    have er : dot_S8x8192x8192_S8x8192x128_S8x8192x128_2_1_1_2_0_0.rhsIdx (d3 h i d) ((ValueIdx.contrEquiv1 dot_S8x8192x8192_S8x8192x128_S8x8192x128_2_1_1_2_0_0 8192 rfl rfl).symm k) = ridx_main_v41 (d3 h i d) k := funext fun a => Fin.ext (by
      match a with
      | ⟨0, _⟩ => exact rhs_main_v41_0 _ _
      | ⟨1, _⟩ => exact (rhs_main_v41_1 _ _).trans hk
      | ⟨2, _⟩ => exact rhs_main_v41_2 _ _)
    rw [el, er]
  rw [E]
  refine Finset.sum_congr rfl fun j _ => ?_
  rw [show lidx_main_v41 (d3 h i d) j = e3 h i j from by
      funext a
      match a with
      | ⟨0, _⟩ => rfl
      | ⟨1, _⟩ => rfl
      | ⟨2, _⟩ => rfl,
    show ridx_main_v41 (d3 h i d) j = d3 h j d from by
      funext a
      match a with
      | ⟨0, _⟩ => rfl
      | ⟨1, _⟩ => rfl
      | ⟨2, _⟩ => rfl, v9_e, kP_e h0 h1]

theorem lse_at (y z : A2) (w : (⟨S_, .f32⟩ : BufTy).Contents (Elt Ideal)) (i : S8x8192x1.Idx) :
    Host.divf (F := Ideal) (φ := .f32) (addf (F := Ideal) (φ := .f32) y (Host.log (F := Ideal) (φ := .f32) z))
      (broadcastInDim S8x8192x1 ![] bcast_S_S8x8192x1 (id (Host.log (F := Ideal) (φ := .f32) w))) i
      = Ideal.div ((y i : EReal) + Ideal.log (z i)) (Ideal.log (w (idx_main_v39 i))) := by
  have E := broadcastInDim_apply _ bcast_S_S8x8192x1 (id (Host.log (F := Ideal) (φ := .f32) w)) i (idx_main_v39 i) (fun a => a.elim0)
  have E' : (broadcastInDim S8x8192x1 ![] bcast_S_S8x8192x1 (id (Host.log (F := Ideal) (φ := .f32) w)) i : EReal) = Ideal.log (w (idx_main_v39 i)) := E
  rw [← E']
  rfl

/-- The log-sum of a row, to base two, whatever the reference point. -/
theorem kLse_e (h0 : Real x0) (h1 : Real x1) (h : Fin 8) (i : Fin 8192) :
    ∃ M : ℝ, kLse x0 x1 (u3 h i) = (((M + Real.log (lr (raw x0 x1 h i) M)) / Real.log 2 : ℝ) : EReal) := by
  obtain ⟨M, hM⟩ := max_real h0 h1 h i
  refine ⟨M, ?_⟩
  unfold kLse
  rw [lse_at, col_e, col_e, hM, kL_e h0 h1 hM]
  rw [show (constant (F := Ideal) S_ .f32 0x40000000#32 (idx_main_v39 (u3 h i)) : EReal) = Ideal.ofBits .f32 0x40000000#32 from rfl, ofBits_two]
  exact lse_coe _ M i

/-- The sum of output times gradient of a row is the weighted sum of the weights' gradients. -/
theorem kD_e (h0 : Real x0) (h1 : Real x1) (h2 : Real x2) (h3 : Real x3) (h : Fin 8) (i : Fin 8192) :
    kD x0 x1 x2 x3 (e2 h i) = ((∑ k, pr (raw x0 x1 h i) k * raw x3 x2 h i k : ℝ) : EReal) := by
  have E : kD x0 x1 x2 x3 (e2 h i) = Ideal.ofBits .f32 0x00000000#32 + ∑ d : Fin 128, kO x0 x1 x2 (d3 h i d) * val_main_v45 (F := Ideal) x3 (d3 h i d) := by
    unfold kD
    generalize kO x0 x1 x2 = y0
    generalize val_main_v45 (F := Ideal) x3 = y1
    rw [show (mulf (F := Ideal) (φ := .f32) y0 y1) = (fun y => y0 y * y1 y) from rfl]
    simp only [Host.reduceAdd, Ideal.hostReduceAdd_def]
    rw [Ideal.hostReduceAdd_single red_d (by decide)]
    refine congrArg (_ + ·) (Finset.sum_congr rfl fun k _ => ?_)
    exact congrArg (fun y => y0 y * y1 y) (funext fun a => Fin.ext (by match a with | ⟨0, _⟩ => rfl | ⟨1, _⟩ => rfl | ⟨2, _⟩ => rfl))
  rw [E, Ideal.ofBits_zero_f32, zero_add]
  have e : ∀ d : Fin 128, kO x0 x1 x2 (d3 h i d) * val_main_v45 (F := Ideal) x3 (d3 h i d)
      = (((∑ k, pr (raw x0 x1 h i) k * re x2 h k d) * re x3 h i d : ℝ) : EReal) := fun d => by
    rw [kO_e h0 h1, v45_e, re_coe h3, EReal.coe_mul, coe_sum]
    exact congrArg (· * ((re x3 h i d : ℝ) : EReal)) (Finset.sum_congr rfl fun k _ => by rw [re_coe h2, EReal.coe_mul])
  rw [Finset.sum_congr rfl fun d _ => e d, ← coe_sum]
  refine congrArg (fun r : ℝ => (r : EReal)) ?_
  simp only [Finset.sum_mul, raw, Finset.mul_sum]
  rw [Finset.sum_comm]
  exact Finset.sum_congr rfl fun k _ => Finset.sum_congr rfl fun d _ => by ring

section Prefix
variable (m : (ℓ : Loc Cert.KernelIdeal.nD Cert.KernelIdeal.τ Cert.KernelIdeal.sig) → Buf (Elt Ideal) ℓ) (c : Dev Cert.KernelIdeal.nD)
open Cert.KernelIdeal.Gen (V)

theorem V_lse : V m c Cert.KernelIdeal.main_v36 = out (lanes (kLse (m ((c.tc : Thread Cert.KernelIdeal.nD Cert.KernelIdeal.τ).loc Cert.KernelIdeal.main_arg0)) (m ((c.tc : Thread Cert.KernelIdeal.nD Cert.KernelIdeal.τ).loc Cert.KernelIdeal.main_arg1)))) := by
  unfold V Cert.KernelIdeal.Gen.hostOps0
  after_results_simp
  rfl

theorem V_delta : V m c Cert.KernelIdeal.main_v39 = out (lanes (col (kD (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))))) := by
  unfold V Cert.KernelIdeal.Gen.hostOps0
  after_results_simp
  rfl

end Prefix

end Cert.Proof.KVal

end
-- ==== Proof.Arrays.lean ====
module

public import proofs.«01_k».proof.Proof.Run
public import proofs.«01_k».proof.Proof.KSum
public import proofs.«01_k».proof.Proof.KVal
public import Idealize.ShloMosaic.Lib.Pipeline.ValueKit

@[expose] public section

set_option maxRecDepth 16384

noncomputable section

/-! The kernel's three result arrays are the reference's results of the same arguments. -/

namespace Cert.Proof.Arrays

open Cert.KernelIdeal Cert.KernelIdeal.Gen Cert.Proof.Tile Cert.Proof.Trip Cert.Proof.Soft Cert.Proof.RVal Cert.Proof.KVal Cert.Proof.KSum Cert.Proof.Run
open Idealize.ShloMosaic Idealize.ShloMosaic.TcCoe
open scoped BigOperators

variable (m : (ℓ : Loc nD τ sig) → Buf (Elt Ideal) ℓ) (c : Dev nD)

abbrev X0 : Arr := m ((c.tc : Thread nD τ).loc main_arg0)
abbrev X1 : Arr := m ((c.tc : Thread nD τ).loc main_arg1)
abbrev X2 : Arr := m ((c.tc : Thread nD τ).loc main_arg2)
abbrev X3 : Arr := m ((c.tc : Thread nD τ).loc main_arg3)

theorem pt_lt (t : Fin cfg0.N) : t.val < 128 := Nat.lt_of_lt_of_eq t.isLt N_0
/-- The head of a grid point. -/
def hd (t : Fin cfg0.N) : Fin 8 := ⟨t.val / 16, by have := pt_lt t; omega⟩
/-- The key block of a grid point. -/
def kbk (t : Fin cfg0.N) : ℕ := t.val % 16

theorem i0 : ∀ t : Fin cfg0.N, win0_0.index t = ![0, t.val / 16] := (by decide +kernel : ∀ t : Fin grid0.N, win0_0.index t = ![0, t.val / 16])
theorem i1 : ∀ t : Fin cfg0.N, win0_1.index t = ![t.val % 16, t.val / 16] := (by decide +kernel : ∀ t : Fin grid0.N, win0_1.index t = ![t.val % 16, t.val / 16])
theorem i2 : ∀ t : Fin cfg0.N, win0_2.index t = ![t.val % 16, t.val / 16] := (by decide +kernel : ∀ t : Fin grid0.N, win0_2.index t = ![t.val % 16, t.val / 16])
theorem i3 : ∀ t : Fin cfg0.N, win0_3.index t = ![0, t.val / 16] := (by decide +kernel : ∀ t : Fin grid0.N, win0_3.index t = ![0, t.val / 16])
theorem i4 : ∀ t : Fin cfg0.N, win0_4.index t = ![0, t.val / 16] := (by decide +kernel : ∀ t : Fin grid0.N, win0_4.index t = ![0, t.val / 16])
theorem i5 : ∀ t : Fin cfg0.N, win0_5.index t = ![0, t.val / 16] := (by decide +kernel : ∀ t : Fin grid0.N, win0_5.index t = ![0, t.val / 16])
theorem i6 : ∀ t : Fin cfg0.N, win0_6.index t = ![0, t.val / 16] := (by decide +kernel : ∀ t : Fin grid0.N, win0_6.index t = ![0, t.val / 16])
theorem i7 : ∀ t : Fin cfg0.N, win0_7.index t = ![t.val % 16, t.val / 16] := (by decide +kernel : ∀ t : Fin grid0.N, win0_7.index t = ![t.val % 16, t.val / 16])
theorem i8 : ∀ t : Fin cfg0.N, win0_8.index t = ![t.val % 16, t.val / 16] := (by decide +kernel : ∀ t : Fin grid0.N, win0_8.index t = ![t.val % 16, t.val / 16])

theorem row_val (t : Fin cfg0.N) (i : Fin 512) : (row (kbk t) i).val = 512 * (t.val % 16) + i.val := by
  have := i.isLt
  show (512 * (t.val % 16) + i.val) % 8192 = _
  omega

theorem ext2 {y z : S8192x1024.Idx} (h0 : (y 0).val = (z 0).val) (h1 : (y 1).val = (z 1).val) : y = z := by
  funext a
  match a with
  | ⟨0, _⟩ => exact Fin.ext h0
  | ⟨1, _⟩ => exact Fin.ext h1

theorem emb_q (t : Fin cfg0.N) (i : Fin 8192) (e : Fin 128) : (win0_0.blk t).view.emb (KSum.r2 i e) = c2 (hd t) i e := by
  refine ext2 ?_ ?_
  · blk_simp [i0]
    exact (show (KSum.r2 i e 0).val = i.val from rfl)
  · blk_simp [i0]
    show t.val / 16 * 128 + e.val = 128 * (t.val / 16) + e.val
    omega
theorem emb_l (t : Fin cfg0.N) (i : Fin 8192) (e : Fin 128) : (win0_4.blk t).view.emb (KSum.r2 i e) = c2 (hd t) i e := by
  refine ext2 ?_ ?_
  · blk_simp [i4]
    exact (show (KSum.r2 i e 0).val = i.val from rfl)
  · blk_simp [i4]
    show t.val / 16 * 128 + e.val = 128 * (t.val / 16) + e.val
    omega
theorem emb_k (t : Fin cfg0.N) (i : Fin 512) (e : Fin 128) : (win0_1.blk t).view.emb (b2 i e) = c2 (hd t) (row (kbk t) i) e := by
  refine ext2 ?_ ?_
  · refine Eq.trans ?_ (row_val t i).symm
    blk_simp [i1]
    show t.val % 16 * 512 + i.val = 512 * (t.val % 16) + i.val
    omega
  · blk_simp [i1]
    show t.val / 16 * 128 + e.val = 128 * (t.val / 16) + e.val
    omega

theorem q_e (t : Fin cfg0.N) (i : Fin 8192) (e : Fin 128) : (iblk m c 0 t (KSum.r2 i e) : EReal) = X0 m c (c2 (hd t) i e) := by
  blk_simp [iblk]
  exact (congrArg _ (emb_q t i e)).trans (congrFun (V_main_arg0 m c) _)
theorem d_e (t : Fin cfg0.N) (i : Fin 8192) (e : Fin 128) : (iblk m c 3 t (KSum.r2 i e) : EReal) = X3 m c (c2 (hd t) i e) := by
  blk_simp [iblk]
  exact (congrArg _ (emb_q t i e)).trans (congrFun (V_main_arg3 m c) _)
theorem k_e (t : Fin cfg0.N) (i : Fin 512) (e : Fin 128) : (iblk m c 1 t (b2 i e) : EReal) = X1 m c (c2 (hd t) (row (kbk t) i) e) := by
  blk_simp [iblk]
  exact (congrArg _ (emb_k t i e)).trans (congrFun (V_main_arg1 m c) _)
theorem v_e (t : Fin cfg0.N) (i : Fin 512) (e : Fin 128) : (iblk m c 2 t (b2 i e) : EReal) = X2 m c (c2 (hd t) (row (kbk t) i) e) := by
  blk_simp [iblk]
  exact (congrArg _ (emb_k t i e)).trans (congrFun (V_main_arg2 m c) _)
theorem l_e (t : Fin cfg0.N) (i : Fin 8192) (e : Fin 128) : (iblk m c 4 t (KSum.r2 i e) : EReal) = kLse (X0 m c) (X1 m c) (u3 (hd t) i) := by
  blk_simp [iblk]
  refine (congrArg _ (emb_l t i e)).trans ((congrFun (V_lse m c) _).trans ?_)
  exact (out_e _ _ _ _).trans (lanes_e _ _ _ _)
theorem t_e (t : Fin cfg0.N) (i : Fin 8192) (e : Fin 128) : (iblk m c 5 t (KSum.r2 i e) : EReal) = kD (X0 m c) (X1 m c) (X2 m c) (X3 m c) (e2 (hd t) i) := by
  blk_simp [iblk]
  refine (congrArg _ (emb_l t i e)).trans ((congrFun (V_delta m c) _).trans ?_)
  exact (out_e _ _ _ _).trans ((lanes_e _ _ _ _).trans (col_e _ _ _))

variable (h0 : RVal.Real (X0 m c)) (h1 : RVal.Real (X1 m c)) (h2 : RVal.Real (X2 m c)) (h3 : RVal.Real (X3 m c))
include h0 h1 h2 h3

/-- What a grid point finds. -/
theorem blocks (t : Fin cfg0.N) : Blocks (X0 m c) (X1 m c) (X2 m c) (X3 m c) (hd t) (kbk t) (iblk m c 1 t) (iblk m c 2 t) (iblk m c 0 t) (iblk m c 3 t) (iblk m c 4 t) (iblk m c 5 t) where
  r0 := h0
  r1 := h1
  r2 := h2
  r3 := h3
  k := k_e m c t
  v := v_e m c t
  q := q_e m c t
  d := d_e m c t
  l i := by
    obtain ⟨M, hM⟩ := kLse_e h0 h1 (hd t) i
    exact ⟨M, fun e => (l_e m c t i e).trans hM⟩
  t i e := (t_e m c t i e).trans (kD_e h0 h1 h2 h3 (hd t) i)

/-- The part of one key block in a query gradient's entry. -/
def part (h : Fin 8) (i : Fin 8192) (e : Fin 128) (s : ℕ) : EReal :=
  ∑ j : Fin 512, ((dsr (raw (X0 m c) (X1 m c) h i) (raw (X3 m c) (X2 m c) h i) (row s j) : ℝ) : EReal) * X1 m c (c2 h (row s j) e)

omit h0 h1 h2 h3 in
theorem dqOut_eq (n : ℕ) : dqOut m c n = dqStep m c (pt n) (if n % 16 = 0 then k0_pay1 (F := Ideal) else dqOut m c (n - 1)) := by
  cases n with
  | zero => unfold dqOut; rfl
  | succ n => rw [dqOut]; rfl

theorem dqStep_e (t : Fin cfg0.N) (g : Vec Ideal S8192x128 .f32) (i : Fin 8192) (e : Fin 128) :
    (dqStep m c t g (KSum.r2 i e) : EReal) = g (KSum.r2 i e) + part m c (hd t) i e (kbk t) :=
  (blocks m c h0 h1 h2 h3 t).dq g i e

/-- The query gradient's block after `s + 1` key blocks of head `h`. -/
theorem dqOut_e (h : Fin 8) (i : Fin 8192) (e : Fin 128) (s : ℕ) (hs : s < 16) :
    (dqOut m c (16 * h.val + s) (KSum.r2 i e) : EReal) = ∑ r ∈ Finset.range (s + 1), part m c h i e r := by
  have hh := h.isLt
  have hp : ∀ s < 16, (pt (16 * h.val + s)).val = 16 * h.val + s := fun s hs => Nat.mod_eq_of_lt (by omega)
  have hhd : ∀ s < 16, hd (pt (16 * h.val + s)) = h := fun s hs => Fin.ext (by
    show (pt (16 * h.val + s)).val / 16 = h.val
    rw [hp s hs]; omega)
  have hkb : ∀ s < 16, kbk (pt (16 * h.val + s)) = s := fun s hs => by
    show (pt (16 * h.val + s)).val % 16 = s
    rw [hp s hs]; omega
  induction s with
  | zero =>
    rw [dqOut_eq, if_pos (by omega), dqStep_e m c h0 h1 h2 h3, hhd 0 hs, hkb 0 hs, pay_zero'', Finset.sum_range_one, zero_add]
  | succ s ih =>
    rw [dqOut_eq, if_neg (by omega), dqStep_e m c h0 h1 h2 h3, hhd _ hs, hkb _ hs, Finset.sum_range_succ _ (s + 1), ← ih (by omega)]
    rfl

/-- The first result is the reference's query gradient. -/
theorem arr6 : (dats m 0 c).arrAt 6 cfg0.N = Cert.ReferenceIdeal.Read.val_main_v70 (F := Ideal) (X0 m c) (X1 m c) (X2 m c) (X3 m c) := by
  refine (dats m 0 c).arrAt_eq_of_covers 6 _ (by decide +kernel) fun t hf y => ?_
  have ht := pt_lt t
  have hr : t.val % 16 = 15 := (flush0_6 t).mp hf
  obtain ⟨i, e, rfl⟩ := r2_surj y
  blk_simp
  rw [after_6]
  refine Eq.trans ?_ (congrArg _ (show (win0_6.blk t).view.emb (KSum.r2 i e) = c2 (hd t) i e from emb_l t i e)).symm
  rw [show t.val = 16 * (hd t).val + 15 from by show t.val = 16 * (t.val / 16) + 15; omega]
  refine (dqOut_e m c h0 h1 h2 h3 (hd t) i e 15 (by omega)).trans ((sum_rows fun j => ((dsr (raw (X0 m c) (X1 m c) (hd t) i) (raw (X3 m c) (X2 m c) (hd t) i) j : ℝ) : EReal) * X1 m c (c2 (hd t) j e)).trans ?_)
  exact (dq_e h0 h1 h2 h3 (hd t) i e).symm

/-- The second result is the reference's key gradient. -/
theorem arr7 : (dats m 0 c).arrAt 7 cfg0.N = Cert.ReferenceIdeal.Read.val_main_v68 (F := Ideal) (X0 m c) (X1 m c) (X2 m c) (X3 m c) := by
  refine (dats m 0 c).arrAt_eq_of_covers 7 _ (by decide +kernel) fun t hf y => ?_
  obtain ⟨j, e, rfl⟩ := b2_surj y
  blk_simp
  rw [after_7]
  refine Eq.trans ?_ (congrArg _ (show (win0_7.blk t).view.emb (b2 j e) = c2 (hd t) (row (kbk t) j) e from emb_k t j e)).symm
  exact ((blocks m c h0 h1 h2 h3 t).dk j e).trans (dk_e h0 h1 h2 h3 (hd t) (row (kbk t) j) e).symm

/-- The third result is the reference's value gradient. -/
theorem arr8 : (dats m 0 c).arrAt 8 cfg0.N = Cert.ReferenceIdeal.Read.val_main_v66 (F := Ideal) (X0 m c) (X1 m c) (X3 m c) := by
  refine (dats m 0 c).arrAt_eq_of_covers 8 _ (by decide +kernel) fun t hf y => ?_
  obtain ⟨j, e, rfl⟩ := b2_surj y
  blk_simp
  rw [after_8]
  refine Eq.trans ?_ (congrArg _ (show (win0_8.blk t).view.emb (b2 j e) = c2 (hd t) (row (kbk t) j) e from emb_k t j e)).symm
  exact ((blocks m c h0 h1 h2 h3 t).dv j e).trans (dv_e h0 h1 (hd t) (row (kbk t) j) e).symm

end Cert.Proof.Arrays

end
-- ==== Proof.Algebraic.lean ====
module

public import proofs.«01_k».proof.Proof.Arrays
public import proofs.«01_k».proof.Proof.Frames
public import proofs.«01_k».proof.Proof.Gen.Pre_finite

@[expose] public section

set_option maxRecDepth 16384

noncomputable section

/-! The kernel's results are the reference's, and the claims under the precondition `finite`. -/

namespace Cert.Proof.Algebraic

open Idealize.ShloMosaic Idealize.ShloMosaic.TcCoe Idealize.SL.Sem
open Cert.Proof.Arrays

theorem word_inf : (Ideal.ofBits .f32 0x7F800000#32 : EReal) = ⊤ := by simp [Ideal.ofBits, Ideal.ieee]

/-- A value whose magnitude is below positive infinity is neither infinity. -/
theorem real_of_lt (x : EReal) (h : BitVec.ofBool (decide (max x (-x) < (Ideal.ofBits .f32 0x7F800000#32 : EReal))) = 1#1) : x ≠ ⊤ ∧ x ≠ ⊥ := by
  rw [word_inf] at h
  have h' : max x (-x) < ⊤ := by
    by_contra hn
    rw [decide_eq_false hn] at h
    exact absurd h (by decide)
  constructor
  · rintro rfl
    exact absurd h' (by simp)
  · rintro rfl
    exact absurd h' (by simp)

theorem and_one {c d : BitVec 1} (h : c &&& d = 1#1) : c = 1#1 ∧ d = 1#1 := by
  revert c d; decide

/-- What the precondition says of the four arguments: every entry is a real number. -/
theorem reals (x0 x1 x2 x3 : RVal.Arr) (h : @Cert.Pre_finite.fn Cert.Pre_finite.Gen.facts Ideal _ x0 x1 x2 x3 = fun _ => 1#1) :
    RVal.Real x0 ∧ RVal.Real x1 ∧ RVal.Real x2 ∧ RVal.Real x3 := by
  have hy : ∀ y, ((x0 y ≠ ⊤ ∧ x0 y ≠ ⊥) ∧ (x1 y ≠ ⊤ ∧ x1 y ≠ ⊥)) ∧ (x2 y ≠ ⊤ ∧ x2 y ≠ ⊥) ∧ (x3 y ≠ ⊤ ∧ x3 y ≠ ⊥) := fun y => by
    obtain ⟨h012, h3⟩ := and_one (congrFun h y)
    obtain ⟨h01, h2⟩ := and_one h012
    obtain ⟨h0, h1⟩ := and_one h01
    exact ⟨⟨real_of_lt _ h0, real_of_lt _ h1⟩, real_of_lt _ h2, real_of_lt _ h3⟩
  exact ⟨fun y => (hy y).1.1, fun y => (hy y).1.2, fun y => (hy y).2.1, fun y => (hy y).2.2⟩

section
open Cert.KernelIdeal

/-- What the kernel leaves: the reference's three gradients of its own arguments. -/
theorem kernel_run (m : (ℓ : Loc nD τ sig) → Buf (Elt Ideal) ℓ) (g : Dev nD → PrngReg)
    (hr : ∀ c : Dev nD, RVal.Real (X0 m c) ∧ RVal.Real (X1 m c) ∧ RVal.Real (X2 m c) ∧ RVal.Real (X3 m c)) :
    θ_run (defs (F := Ideal)) (onTc (τ := τ) (main (F := Ideal))) ⟨m, fun _ => 0, g⟩ (fun r => ∀ c : Dev nD,
      r.2.mem ((c.tc : Thread nD τ).loc main_v40_0) = Cert.ReferenceIdeal.Read.val_main_v70 (F := Ideal) (X0 m c) (X1 m c) (X2 m c) (X3 m c)
      ∧ r.2.mem ((c.tc : Thread nD τ).loc main_v40_1) = Cert.ReferenceIdeal.Read.val_main_v68 (F := Ideal) (X0 m c) (X1 m c) (X2 m c) (X3 m c)
      ∧ r.2.mem ((c.tc : Thread nD τ).loc main_v40_2) = Cert.ReferenceIdeal.Read.val_main_v66 (F := Ideal) (X0 m c) (X1 m c) (X3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨h0, h1, h2, h3⟩ := hr c
    exact ⟨((h.1.1 c).1 6).trans (arr6 m c h0 h1 h2 h3), ((h.1.1 c).1 7).trans (arr7 m c h0 h1 h2 h3),
      ((h.1.1 c).1 8).trans (arr8 m c h0 h1 h2 h3), h.2.1 c⟩)
    (θ_run_and (Cert.Proof.Run.run_main m g) (Cert.Proof.Run.frame_run m g))

end

section
open Cert.ReferenceIdeal

/-- What the reference leaves, by name. -/
theorem reference_run (m : (ℓ : Loc nD τ sig) → Buf (Elt Ideal) ℓ) (g : Dev nD → PrngReg)
    (y0 y1 y2 y3 : Dev nD → RVal.Arr)
    (hm : ∀ c : Dev nD, m ((c.tc : Thread nD τ).loc main_arg0) = y0 c ∧ m ((c.tc : Thread nD τ).loc main_arg1) = y1 c
      ∧ m ((c.tc : Thread nD τ).loc main_arg2) = y2 c ∧ m ((c.tc : Thread nD τ).loc main_arg3) = y3 c) :
    θ_run (defs (F := Ideal)) (onTc (τ := τ) (main (F := Ideal))) ⟨m, fun _ => 0, g⟩ (fun r => ∀ c : Dev nD,
      r.2.mem ((c.tc : Thread nD τ).loc main_v70) = Read.val_main_v70 (F := Ideal) (y0 c) (y1 c) (y2 c) (y3 c)
      ∧ r.2.mem ((c.tc : Thread nD τ).loc main_v68) = Read.val_main_v68 (F := Ideal) (y0 c) (y1 c) (y2 c) (y3 c)
      ∧ r.2.mem ((c.tc : Thread nD τ).loc main_v66) = Read.val_main_v66 (F := Ideal) (y0 c) (y1 c) (y3 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨e0, e1, e2, e3⟩ := hm c
    obtain ⟨r0, r1, r2, ra⟩ := h c
    refine ⟨r0.trans ((Read.val_main_v70_eq m c).trans ?_), r1.trans ((Read.val_main_v68_eq m c).trans ?_),
      r2.trans ((Read.val_main_v66_eq _ _ _).trans ?_), ra⟩
    · rw [e0, e1, e2, e3]
    · rw [e0, e1, e2, e3]
    · rw [e0, e1, e3])
    (Value.run (F := Ideal) m g)

end

/-- Of arguments that are real numbers, the kernel's three results are the reference's three gradients. -/
theorem algebraic : @Cert.algebraic_KernelIdeal_ReferenceIdeal_pre_finite Cert.KernelIdeal.Gen.facts Cert.ReferenceIdeal.Gen.facts Cert.Pre_finite.Gen.facts :=
  fun m g m' g' hp hm => ⟨_, _, _,
    kernel_run m g (fun c => reals (X0 m c) (X1 m c) (X2 m c) (X3 m c) (hp c)),
    reference_run m' g' (fun c => X0 m c) (fun c => X1 m c) (fun c => X2 m c) (fun c => X3 m c) hm⟩

/-- The kernel's frame, restated of arguments the precondition holds of. -/
theorem frame_ideal_finite : @Cert.quiescent_KernelIdeal_pre_finite Cert.KernelIdeal.Gen.facts Cert.Pre_finite.Gen.facts :=
  fun m g _ => Frames.frame_ideal m g trivial

/-- The reference's frame, restated of arguments the precondition holds of. -/
theorem frame_ref_finite : @Cert.quiescent_ReferenceIdeal_pre_finite Cert.ReferenceIdeal.Gen.facts Cert.Pre_finite.Gen.facts :=
  fun m g _ => Frames.frame_ref m g trivial

end Cert.Proof.Algebraic

end
-- ==== Proof.Product.lean ====
module

public import Mathlib.Data.EReal.Basic
public import Mathlib.Algebra.BigOperators.Fin
public import Mathlib.Logic.Equiv.Fin.Basic

@[expose] public section

noncomputable section

/-! A product computed block by block along its contracted axis, and the sum over the whole axis. -/

namespace Cert.Proof.Product

open scoped BigOperators

/-- Position `n` of an axis of size `K`, wrapped. -/
def pos (K : ℕ) [NeZero K] (n : ℕ) : Fin K := ⟨n % K, Nat.mod_lt _ (Nat.pos_of_ne_zero (NeZero.ne K))⟩

theorem pos_val {K : ℕ} [NeZero K] {n : ℕ} (h : n < K) : (pos K n).val = n := Nat.mod_eq_of_lt h

/-- A value that starts afresh at every `nk`-th grid point and grows at the others is, at each point, the sum of what the
points of its run added. -/
theorem run_sum {N nk : ℕ} (hk : 0 < nk) (g : Fin N → EReal) (P : ℕ → ℕ → EReal)
    (hA : ∀ t : Fin N, t.val % nk = 0 → g t = P (t.val / nk) 0)
    (hB : ∀ t : Fin N, t.val % nk ≠ 0 → g t = g ⟨t.val - 1, Nat.lt_of_le_of_lt (Nat.sub_le _ _) t.isLt⟩ + P (t.val / nk) (t.val % nk))
    (t : Fin N) : g t = ∑ r ∈ Finset.range (t.val % nk + 1), P (t.val / nk) r := by
  obtain ⟨n, hn⟩ := t
  induction n with
  | zero => rw [hA ⟨0, hn⟩ (Nat.zero_mod _)]; simp
  | succ n ih =>
    by_cases h : (n + 1) % nk = 0
    · rw [hA ⟨n + 1, hn⟩ h]
      simp [h]
    · have hm : (n + 1) % nk = n % nk + 1 := by
        have h1 := Nat.mod_add_div n nk
        have h2 := Nat.mod_lt n hk
        have h3 : n % nk + 1 ≠ nk := fun e => h (by
          rw [← h1, show n % nk + nk * (n / nk) + 1 = (n % nk + 1) + nk * (n / nk) by omega, e]; simp)
        conv_lhs => rw [← h1, show n % nk + nk * (n / nk) + 1 = (n % nk + 1) + nk * (n / nk) by omega]
        rw [Nat.add_mul_mod_self_left, Nat.mod_eq_of_lt (by omega)]
      have hd : (n + 1) / nk = n / nk := by
        rw [Nat.succ_div, if_neg (fun hd => h (Nat.mod_eq_zero_of_dvd hd)), Nat.add_zero]
      rw [hB ⟨n + 1, hn⟩ h]
      show g ⟨n, _⟩ + P ((n + 1) / nk) ((n + 1) % nk) = _
      rw [ih (Nat.lt_of_succ_lt hn)]
      show _ = ∑ r ∈ Finset.range ((n + 1) % nk + 1), P ((n + 1) / nk) r
      rw [hd, hm, Finset.sum_range_succ _ (n % nk + 1)]

/-- The sum over an axis, block by block. -/
theorem split_sum {nk tk K : ℕ} [NeZero K] (h : nk * tk = K) (f : Fin K → EReal) :
    ∑ r ∈ Finset.range nk, ∑ k : Fin tk, f (pos K (r * tk + k.val)) = ∑ k : Fin K, f k := by
  subst h
  rw [Finset.sum_range fun r => ∑ k : Fin tk, f (pos (nk * tk) (r * tk + k.val)), ← Fintype.sum_prod_type', ← Equiv.sum_comp finProdFinEquiv f]
  refine Finset.sum_congr rfl fun x _ => congrArg f (Fin.ext ?_)
  have h1 := x.1.isLt
  have h2 := x.2.isLt
  have h3 : x.1.val * tk + x.2.val < nk * tk :=
    calc x.1.val * tk + x.2.val < (x.1.val + 1) * tk := by rw [Nat.add_mul, Nat.one_mul]; omega
      _ ≤ nk * tk := Nat.mul_le_mul_right _ h1
  rw [pos_val h3, finProdFinEquiv_apply_val, Nat.mul_comm tk, Nat.add_comm]

end Cert.Proof.Product

end
-- ==== Proof.DAct.lean ====
module

public import proofs.«01_k».proof.Proof.Product
public import proofs.«01_k».proof.Defs
public import proofs.«01_k».proof.Proof.Gen.Kernel2
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Quiescent

@[expose] public section

set_option maxRecDepth 16384

noncomputable section

/-! The gradient of the gated product: kernel 2 against reference 2. -/

namespace Cert.Proof.DAct

open Cert.Kernel2Ideal Cert.Kernel2Ideal.Gen Cert.Proof.Product
open Idealize.ShloMosaic Idealize.ShloMosaic.TcCoe Idealize.SL.Sem
open scoped BigOperators

theorem hz : (![0, 0] : Fin 2 → Nat) = fun _ => 0 := funext fun a => by fin_cases a <;> rfl

/-- The gradient of `gate * logistic gate * up` for the cotangent `a`: of the gate at slab 0, of the up value at slab 1. -/
def grad (n : ℕ) (a g u : EReal) : EReal :=
  if n < 1 then a * u * Ideal.logistic g + g * (a * u) * (Ideal.logistic g * (1 - Ideal.logistic g)) else g * Ideal.logistic g * a

theorem pay4_e (x0 : Vec Ideal S1024x1024 .bf16) (x1 : Vec Ideal S1408x1024 .bf16) (g u : Vec Ideal S1x1024x1408 .bf16) (i : Fin 1024) (j : Fin 1408) :
    (k0_pay4 x0 x1 g u (ix3 0 i j) : EReal) = grad 0 (∑ k : Fin 1024, x0 (ix2 i k) * x1 (ix2 j k)) (g (ix3 0 i j)) (u (ix3 0 i j)) := by
  unfold k0_pay4 k0_pay3 k0_pay2 k0_pay1 grad
  pointwise

theorem pay5_e (x0 : Vec Ideal S1024x1024 .bf16) (x1 : Vec Ideal S1408x1024 .bf16) (g : Vec Ideal S1x1024x1408 .bf16) (u : EReal) (i : Fin 1024) (j : Fin 1408) :
    (k0_pay5 x0 x1 g (ix3 0 i j) : EReal) = grad 1 (∑ k : Fin 1024, x0 (ix2 i k) * x1 (ix2 j k)) (g (ix3 0 i j)) u := by
  unfold k0_pay5 k0_pay3 k0_pay2 k0_pay1 grad
  pointwise

/-- What one grid point leaves in its block, of the three blocks it reads. -/
def tile (x0 : Vec Ideal S1024x1024 .bf16) (x1 : Vec Ideal S1408x1024 .bf16) (x2 : Vec Ideal S2x1024x1408 .bf16) (y : S2x1024x1408.Idx) : EReal :=
  grad (y 0).val (∑ k : Fin 1024, x0 (ix2 (y 1) k) * x1 (ix2 (y 2) k)) (x2 (ix3 0 (y 1) (y 2))) (x2 (ix3 1 (y 1) (y 2)))

theorem out_e (x0 : Vec Ideal S1024x1024 .bf16) (x1 : Vec Ideal S1408x1024 .bf16) (x2 : Vec Ideal S2x1024x1408 .bf16) (y : S2x1024x1408.Idx) :
    (out0_3 x0 x1 x2 y : EReal) = tile x0 x1 x2 y := by
  unfold out0_3
  have l2 : ∀ (i : Fin 1024) (j : Fin 1408), View.ld x2 r0_2 (ix3 0 i j) = x2 (ix3 0 i j) := fun i j =>
    View.ld_unit_apply_of _ _ _ _ _ _ fun a => by match a with | ⟨0, _⟩ => rfl | ⟨1, _⟩ => exact (Nat.zero_add _).symm | ⟨2, _⟩ => exact (Nat.zero_add _).symm
  have l3 : ∀ (i : Fin 1024) (j : Fin 1408), View.ld x2 r0_3 (ix3 0 i j) = x2 (ix3 1 i j) := fun i j =>
    View.ld_unit_apply_of _ _ _ _ _ _ fun a => by match a with | ⟨0, _⟩ => rfl | ⟨1, _⟩ => exact (Nat.zero_add _).symm | ⟨2, _⟩ => exact (Nat.zero_add _).symm
  have e2 : ∀ (i : Fin 1024) (j : Fin 1408), r0_2.emb (ix3 0 i j) = (ix3 0 i j : S2x1024x1408.Idx) := fun i j =>
    funext fun a => Fin.ext ((Rect.idx_unit_val _ _ _ _ a).trans (by match a with | ⟨0, _⟩ => rfl | ⟨1, _⟩ => exact Nat.zero_add _ | ⟨2, _⟩ => exact Nat.zero_add _))
  have e3 : ∀ (i : Fin 1024) (j : Fin 1408), r0_3.emb (ix3 0 i j) = (ix3 1 i j : S2x1024x1408.Idx) := fun i j =>
    funext fun a => Fin.ext ((Rect.idx_unit_val _ _ _ _ a).trans (by match a with | ⟨0, _⟩ => rfl | ⟨1, _⟩ => exact Nat.zero_add _ | ⟨2, _⟩ => exact Nat.zero_add _))
  have hx : ∀ x : S1x1024x1408.Idx, ∃ (i : Fin 1024) (j : Fin 1408), x = ix3 0 i j := fun x =>
    ⟨x 1, x 2, funext fun a => by match a with | ⟨0, _⟩ => exact Subsingleton.elim (α := Fin 1) _ _ | ⟨1, _⟩ => rfl | ⟨2, _⟩ => rfl⟩
  rw [View.ld_unit_zero (S := S1024x1024) hz, View.ld_unit_zero (S := S1408x1024) hz]
  refine View.canon_apply_of_pieces (Val := Elt Ideal) (e := .bf16) (tile x0 x1 x2) _ (fun p hp => ?_) y (cover0_3 _ _ y)
  rcases List.mem_cons.mp hp with rfl | hp
  · intro x
    obtain ⟨i, j, rfl⟩ := hx x
    exact ((pay5_e x0 x1 _ (x2 (ix3 1 i j)) i j).trans (by rw [l2]; rfl)).trans (congrArg (tile x0 x1 x2) (e3 i j)).symm
  · obtain rfl := List.mem_singleton.mp hp
    intro x
    obtain ⟨i, j, rfl⟩ := hx x
    exact ((pay4_e x0 x1 _ _ i j).trans (by rw [l2, l3]; rfl)).trans (congrArg (tile x0 x1 x2) (e2 i j)).symm

theorem i0 : ∀ t : Fin cfg0.N, win0_0.index t (0 : Fin 2) = t.val / 2 ∧ win0_0.index t (1 : Fin 2) = 0 := (by decide +kernel : ∀ t : Fin grid0.N, _)
theorem i1 : ∀ t : Fin cfg0.N, win0_1.index t (0 : Fin 2) = t.val % 2 ∧ win0_1.index t (1 : Fin 2) = 0 := (by decide +kernel : ∀ t : Fin grid0.N, _)
theorem i2 : ∀ t : Fin cfg0.N, win0_2.index t (0 : Fin 3) = 0 ∧ win0_2.index t (1 : Fin 3) = t.val / 2 ∧ win0_2.index t (2 : Fin 3) = t.val % 2 := (by decide +kernel : ∀ t : Fin grid0.N, _)
theorem i3 : ∀ t : Fin cfg0.N, win0_3.index t (0 : Fin 3) = 0 ∧ win0_3.index t (1 : Fin 3) = t.val / 2 ∧ win0_3.index t (2 : Fin 3) = t.val % 2 := (by decide +kernel : ∀ t : Fin grid0.N, _)

variable (m : (ℓ : Loc nD τ sig) → Buf (Elt Ideal) ℓ) (c : Dev nD)

abbrev X0 : S8192x1024.Idx → EReal := m ((c.tc : Thread nD τ).loc main_arg0)
abbrev X1 : S2816x1024.Idx → EReal := m ((c.tc : Thread nD τ).loc main_arg1)
abbrev X2 : S2x8192x2816.Idx → EReal := m ((c.tc : Thread nD τ).loc main_arg2)

theorem t_lt (t : Fin cfg0.N) : t.val < 16 := Nat.lt_of_lt_of_eq t.isLt N_0

theorem b0 (t : Fin cfg0.N) (i k : Fin 1024) :
    (iblk m c 0 t (ix2 i k) : EReal) = X0 m c (ix2 (pos 8192 (t.val / 2 * 1024 + i.val)) k) := by
  have e := i0 t
  have := t_lt t
  blk_simp [iblk]
  refine (congrFun (V_main_arg0 m c) _).trans (congrArg (X0 m c) ?_)
  funext a
  refine Fin.ext ?_
  match a with
  | ⟨0, _⟩ => blk_simp [e.1]; exact (pos_val (by omega)).symm
  | ⟨1, _⟩ => blk_simp [e.2]

theorem b1 (t : Fin cfg0.N) (j : Fin 1408) (k : Fin 1024) :
    (iblk m c 1 t (ix2 j k) : EReal) = X1 m c (ix2 (pos 2816 (t.val % 2 * 1408 + j.val)) k) := by
  have e := i1 t
  blk_simp [iblk]
  refine (congrFun (V_main_arg1 m c) _).trans (congrArg (X1 m c) ?_)
  funext a
  refine Fin.ext ?_
  match a with
  | ⟨0, _⟩ => blk_simp [e.1]; exact (pos_val (by omega)).symm
  | ⟨1, _⟩ => blk_simp [e.2]

theorem b2 (t : Fin cfg0.N) (s : Fin 2) (i : Fin 1024) (j : Fin 1408) :
    (iblk m c 2 t (ix3 s i j) : EReal) = X2 m c (ix3 s (pos 8192 (t.val / 2 * 1024 + i.val)) (pos 2816 (t.val % 2 * 1408 + j.val))) := by
  have e := i2 t
  have := t_lt t
  blk_simp [iblk]
  refine (congrFun (V_main_arg2 m c) _).trans (congrArg (X2 m c) ?_)
  funext a
  refine Fin.ext ?_
  match a with
  | ⟨0, _⟩ => blk_simp [e.1]
  | ⟨1, _⟩ => blk_simp [e.2.1]; exact (pos_val (by omega)).symm
  | ⟨2, _⟩ => blk_simp [e.2.2]; exact (pos_val (by omega)).symm

theorem tile_e (t : Fin cfg0.N) (s : Fin 2) (i : Fin 1024) (j : Fin 1408) :
    tile (iblk m c 0 t) (iblk m c 1 t) (iblk m c 2 t) (ix3 s i j)
      = grad s.val (∑ k : Fin 1024, X0 m c (ix2 (pos 8192 (t.val / 2 * 1024 + i.val)) k) * X1 m c (ix2 (pos 2816 (t.val % 2 * 1408 + j.val)) k))
        (X2 m c (ix3 0 (pos 8192 (t.val / 2 * 1024 + i.val)) (pos 2816 (t.val % 2 * 1408 + j.val))))
        (X2 m c (ix3 1 (pos 8192 (t.val / 2 * 1024 + i.val)) (pos 2816 (t.val % 2 * 1408 + j.val)))) := by
  rw [← b2 m c t 0 i j, ← b2 m c t 1 i j]
  refine congrArg (fun a => grad s.val a (iblk m c 2 t (ix3 0 i j)) (iblk m c 2 t (ix3 1 i j))) ?_
  exact Finset.sum_congr rfl fun k _ => congrArg₂ (· * ·) (b0 m c t i k) (b1 m c t j k)

/-- The result, entry by entry: the two gradients for the cotangent of the gated product, which is `dx2 @ w_downᵀ`. -/
theorem arr : (dats m 0 c).arrAt 3 cfg0.N = fun y : S2x8192x2816.Idx =>
    grad (y 0).val (∑ k : Fin 1024, X0 m c (ix2 (y 1) k) * X1 m c (ix2 (y 2) k)) (X2 m c (ix3 0 (y 1) (y 2))) (X2 m c (ix3 1 (y 1) (y 2))) := by
  refine (dats m 0 c).arrAt_eq_of_covers 3 _ (by decide +kernel) fun t hf y => ?_
  have ht := t_lt t
  have e := i3 t
  blk_simp
  rw [after0_3, out_e]
  obtain ⟨s, i, j, rfl⟩ : ∃ (s : Fin 2) (i : Fin 1024) (j : Fin 1408), y = ix3 s i j := ⟨y 0, y 1, y 2, (ix3_eta y).symm⟩
  have h1 : ((win0_3.blk t).view.emb (ix3 s i j) 1 : Fin 8192) = pos 8192 (t.val / 2 * 1024 + i.val) := Fin.ext (by
    blk_simp [e.2.1]; exact (pos_val (K := 8192) (by omega)).symm)
  have h2 : ((win0_3.blk t).view.emb (ix3 s i j) 2 : Fin 2816) = pos 2816 (t.val % 2 * 1408 + j.val) := Fin.ext (by
    blk_simp [e.2.2]; exact (pos_val (K := 2816) (by omega)).symm)
  rw [h1, h2, e.1, Nat.zero_mul, Nat.zero_add]
  exact tile_e m c t s i j

/-- The kernel's two gradients are the reference's. -/
theorem algebraic : @Cert.algebraic_Kernel2Ideal_Reference2Ideal Cert.Kernel2Ideal.Gen.facts Cert.Reference2Ideal.Gen.facts :=
  fun m g m' g' _ hm => ⟨fun c => (dats m 0 c).arrAt 3 cfg0.N,
    Cert.Kernel2Ideal.Value.run_blocks m g,
    (θ_run _ _ _).mono (fun r h c => by
      refine ⟨(h c).1.trans ?_, (h c).2⟩
      rw [(hm c).1, (hm c).2.1, (hm c).2.2]
      refine Eq.trans ?_ (arr m c).symm
      funext y
      pointwise
      rfl) (Cert.Reference2Ideal.Value.run (F := Ideal) m' g')⟩

/-- On the chip's words the two printed kernels have one body table. -/
theorem defs_eq : Cert.Kernel2.defs (F := Bits) = Cert.Kernel2Ideal.defs (F := Bits) := by
  have h : Cert.Kernel2.defs₀ (F := Bits) = Cert.Kernel2Ideal.defs₀ (F := Bits) := by
    unfold Cert.Kernel2.defs₀ Cert.Kernel2Ideal.defs₀
    refine congrArg Defs.onTc ?_
    funext l x
    match l, x with
    | 0, (t, s) => rfl
  show Pipeline.defs (Cert.Kernel2.pcfgs (F := Bits)) (Cert.Kernel2.defs₀ (F := Bits)) = _
  rw [h]
  rfl

/-- The kernel's frame on the chip's words: its text is `Kernel2Ideal`'s, so one run serves both. -/
theorem frame_kernel : @Cert.quiescent_Kernel2 Cert.Kernel2.Gen.facts := fun m g _ => by
  have h := Cert.Kernel2Ideal.Gen.frame (F := Bits) m g
  rw [← defs_eq] at h
  exact h

/-- The same frame over the extended reals. -/
theorem frame_ideal : @Cert.quiescent_Kernel2Ideal Cert.Kernel2Ideal.Gen.facts := fun m g _ =>
  Cert.Kernel2Ideal.Gen.frame m g

/-- The reference's frame. -/
theorem frame_ref : @Cert.quiescent_Reference2Ideal Cert.Reference2Ideal.Gen.facts := fun m g _ =>
  (θ_run _ _ _).mono (fun r h => ⟨fun c => (h c).2, sem_eq_zero_of_no_sems (by decide) r.2⟩) (Cert.Reference2Ideal.Value.run m g)

end Cert.Proof.DAct

end
-- ==== Proof.DWGateUp.lean ====
module

public import proofs.«01_k».proof.Proof.Product
public import proofs.«01_k».proof.Defs
public import proofs.«01_k».proof.Proof.Gen.Kernel3
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Quiescent

@[expose] public section

set_option maxRecDepth 16384

noncomputable section

/-! Kernel 3, the gradient of the gate and up projections' weights: a product accumulated block by block, against reference 3. -/

namespace Cert.Proof.DWGateUp

open Cert.Kernel3Ideal Cert.Kernel3Ideal.Gen Cert.Proof.Product
open Idealize.ShloMosaic Idealize.ShloMosaic.TcCoe Idealize.SL.Sem
open scoped BigOperators

theorem hz : (![0, 0] : Fin 2 → Nat) = fun _ => 0 := funext fun a => by fin_cases a <;> rfl
theorem hz3 : (![0, 0, 0] : Fin 3 → Nat) = fun _ => 0 := funext fun a => by fin_cases a <;> rfl

section
variable {F : FTy → Type} [FloatOps F]

theorem out_A (c : Dev nD) (i : grid0.Coords) (a3 : Memref sig .tc .vmem S2048x1024 .bf16) (h3 : a3.IsWhole)
    (a4 : Memref sig .tc .vmem S1x2048x1408 .bf16) (h4 : a4.IsWhole) (a5 : Memref sig .tc .vmem S1024x1408 .f32) (h5 : a5.IsWhole)
    (hc0 : cond0_0 i) (hc1 : ¬cond0_1 i) (x0 : Vec F S2048x1024 .bf16) (x1 : Vec F S1x2048x1408 .bf16) :
    out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero hz]
  simp only [View.readAt_eq_ld, h3.read_unread, h4.read_unread, View.ld_unit_zero (S := S2048x1024) hz, View.ld_unit_zero (S := S1x2048x1408) hz3]

theorem out_B (c : Dev nD) (i : grid0.Coords) (a3 : Memref sig .tc .vmem S2048x1024 .bf16) (h3 : a3.IsWhole)
    (a4 : Memref sig .tc .vmem S1x2048x1408 .bf16) (h4 : a4.IsWhole) (a5 : Memref sig .tc .vmem S1024x1408 .f32) (h5 : a5.IsWhole)
    (hc0 : ¬cond0_0 i) (hc1 : cond0_1 i) (x0 : Vec F S2048x1024 .bf16) (x1 : Vec F S1x2048x1408 .bf16) (xo : Vec F S1024x1408 .f32) :
    out0_B_2 c i a3 h3 a4 h4 a5 h5 hc0 hc1 x0 x1 xo = k0_pay2 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero hz]
  simp only [View.readAt_eq_ld, h3.read_unread, h4.read_unread, h5.read_unread, View.ld_unit_zero (S := S2048x1024) hz, View.ld_unit_zero (S := S1x2048x1408) hz3, View.ld_unit_zero (S := S1024x1408) hz]

end

theorem pay1_e (x0 : Vec Ideal S2048x1024 .bf16) (x1 : Vec Ideal S1x2048x1408 .bf16) (y : S1024x1408.Idx) :
    (k0_pay1 x0 x1 y : EReal) = ∑ k : Fin 2048, x0 (ix2 k (y 0)) * x1 (ix3 0 k (y 1)) := by
  unfold k0_pay1
  pointwise

theorem pay2_e (x0 : Vec Ideal S2048x1024 .bf16) (x1 : Vec Ideal S1x2048x1408 .bf16) (xo : Vec Ideal S1024x1408 .f32) (y : S1024x1408.Idx) :
    (k0_pay2 x0 x1 xo y : EReal) = xo y + k0_pay1 x0 x1 y := by
  unfold k0_pay2
  rw [shapeCast_self]
  rfl

theorem i0 : ∀ t : Fin cfg0.N, win0_0.index t (0 : Fin 2) = t.val % 4 ∧ win0_0.index t (1 : Fin 2) = 0 := (by decide +kernel : ∀ t : Fin grid0.N, _)
theorem i1 : ∀ t : Fin cfg0.N, win0_1.index t (0 : Fin 3) = t.val / 8 ∧ win0_1.index t (1 : Fin 3) = t.val % 4 ∧ win0_1.index t (2 : Fin 3) = t.val / 4 % 2 := (by decide +kernel : ∀ t : Fin grid0.N, _)
theorem i2 : ∀ t : Fin cfg0.N, win0_2.index t (0 : Fin 2) = 0 ∧ win0_2.index t (1 : Fin 2) = t.val / 4 := (by decide +kernel : ∀ t : Fin grid0.N, _)

variable (m : (ℓ : Loc nD τ sig) → Buf (Elt Ideal) ℓ) (c : Dev nD)

abbrev X0 : S8192x1024.Idx → EReal := m ((c.tc : Thread nD τ).loc main_arg0)
abbrev X1 : S2x8192x2816.Idx → EReal := m ((c.tc : Thread nD τ).loc main_arg1)

/-- Column `n` of the second array's two halves laid side by side. -/
def col (k : Fin 8192) (n : ℕ) : EReal := X1 m c (ix3 (pos 2 (n / 2816)) k (pos 2816 n))

theorem t_lt (t : Fin cfg0.N) : t.val < 16 := Nat.lt_of_lt_of_eq t.isLt N_0

theorem b0 (t : Fin cfg0.N) (k : Fin 2048) (i : Fin 1024) :
    (iblk m c 0 t (ix2 k i) : EReal) = X0 m c (ix2 (pos 8192 (t.val % 4 * 2048 + k.val)) i) := by
  have e := i0 t
  blk_simp [iblk]
  refine (congrFun (V_main_arg0 m c) _).trans (congrArg (X0 m c) ?_)
  funext a
  refine Fin.ext ?_
  match a with
  | ⟨0, _⟩ => blk_simp [e.1]; exact (pos_val (by omega)).symm
  | ⟨1, _⟩ => blk_simp [e.2]

theorem b1 (t : Fin cfg0.N) (k : Fin 2048) (j : Fin 1408) :
    (iblk m c 1 t (ix3 0 k j) : EReal) = col m c (pos 8192 (t.val % 4 * 2048 + k.val)) (t.val / 4 * 1408 + j.val) := by
  have e := i1 t
  have := t_lt t
  blk_simp [iblk]
  refine (congrFun (V_main_arg1 m c) _).trans (congrArg (X1 m c) ?_)
  funext a
  refine Fin.ext ?_
  match a with
  | ⟨0, _⟩ => blk_simp [e.1]; show _ = (t.val / 4 * 1408 + j.val) / 2816 % 2; omega
  | ⟨1, _⟩ => blk_simp [e.2.1]; exact (pos_val (by omega)).symm
  | ⟨2, _⟩ => blk_simp [e.2.2]; show _ = (t.val / 4 * 1408 + j.val) % 2816; omega

/-- What block `r` of the rows adds to an entry of block `q` of the columns. -/
def part (i : Fin 1024) (j : Fin 1408) (q r : ℕ) : EReal :=
  ∑ k : Fin 2048, X0 m c (ix2 (pos 8192 (r * 2048 + k.val)) i) * col m c (pos 8192 (r * 2048 + k.val)) (q * 1408 + j.val)

theorem pay1_t (t : Fin cfg0.N) (i : Fin 1024) (j : Fin 1408) :
    (k0_pay1 (iblk m c 0 t) (iblk m c 1 t) (ix2 i j) : EReal) = part m c i j (t.val / 4) (t.val % 4) := by
  rw [pay1_e]
  exact Finset.sum_congr rfl fun k _ => congrArg₂ (· * ·) (b0 m c t k i) (b1 m c t k j)

theorem outs_e (t : Fin cfg0.N) (i : Fin 1024) (j : Fin 1408) :
    (outsAt0 m c t.val t.isLt (ix2 i j) : EReal) = ∑ r ∈ Finset.range (t.val % 4 + 1), part m c i j (t.val / 4) r := by
  refine run_sum (nk := 4) (by norm_num) (fun t : Fin cfg0.N => (outsAt0 m c t.val t.isLt (ix2 i j) : EReal)) (part m c i j) (fun t h => ?_) (fun t h => ?_) t
  · rw [outsAt0_A m c t h (by omega), out_A, pay1_t, h]
  · rw [outsAt0_B m c t h (by omega), out_B, pay2_e, pay1_t]

/-- The result is the product of the transposed first array with the second's halves side by side. -/
theorem arr : (dats m 0 c).arrAt 2 cfg0.N = fun y : S1024x5632.Idx => (∑ k : Fin 8192, X0 m c (ix2 k (y 0)) * col m c k (y 1).val : EReal) := by
  refine (dats m 0 c).arrAt_eq_of_covers 2 _ (by decide +kernel) fun t hf y => ?_
  have ht := t_lt t
  have hr : t.val % 4 = 3 := (flush0_2 t).mp hf
  have e := i2 t
  blk_simp
  rw [after0_2]
  obtain ⟨i, j, rfl⟩ : ∃ (i : Fin 1024) (j : Fin 1408), y = ix2 i j := ⟨y 0, y 1, (ix2_eta y).symm⟩
  rw [outs_e, hr]
  have h0 : ((win0_2.blk t).view.emb (ix2 i j) 0 : Fin 1024) = i := Fin.ext (by blk_simp [e.1])
  exact (split_sum (nk := 4) (tk := 2048) (by norm_num) fun k : Fin 8192 => X0 m c (ix2 k i) * col m c k (t.val / 4 * 1408 + j.val)).trans
    (Finset.sum_congr rfl fun k _ => by rw [h0, e.2]; rfl)

/-- The kernel's product is the reference's gradient. -/
theorem algebraic : @Cert.algebraic_Kernel3Ideal_Reference3Ideal Cert.Kernel3Ideal.Gen.facts Cert.Reference3Ideal.Gen.facts :=
  fun m g m' g' _ hm => ⟨fun c => (dats m 0 c).arrAt 2 cfg0.N,
    Cert.Kernel3Ideal.Value.run_blocks m g,
    (θ_run _ _ _).mono (fun r h c => by
      refine ⟨(h c).1.trans ?_, (h c).2⟩
      rw [(hm c).1, (hm c).2]
      refine Eq.trans ?_ (arr m c).symm
      funext y
      pointwise
      refine Finset.sum_congr rfl fun k _ => ?_
      rw [mul_comm]
      refine congrArg (X0 m c (ix2 k (y 0)) * ·) ?_
      have hy : (y 1).val < 5632 := (y 1).isLt
      unfold col
      split_ifs with hlt
      · exact congrArg (X1 m c) (congrArg₂ (fun a b => ix3 a k b) (Fin.ext (show 0 = (y 1).val / 2816 % 2 by omega)) (Fin.ext (show (y 1).val = (y 1).val % 2816 by omega)))
      · exact congrArg (X1 m c) (congrArg₂ (fun a b => ix3 a k b) (Fin.ext (show 1 = (y 1).val / 2816 % 2 by omega)) (Fin.ext (show (y 1).val - 2816 = (y 1).val % 2816 by omega)))
      · rename_i hn; exact absurd rfl hn) (Cert.Reference3Ideal.Value.run (F := Ideal) m' g')⟩

/-- On the chip's words the two printed kernels have one body table. -/
theorem defs_eq : Cert.Kernel3.defs (F := Bits) = Cert.Kernel3Ideal.defs (F := Bits) := by
  have h : Cert.Kernel3.defs₀ (F := Bits) = Cert.Kernel3Ideal.defs₀ (F := Bits) := by
    unfold Cert.Kernel3.defs₀ Cert.Kernel3Ideal.defs₀
    refine congrArg Defs.onTc ?_
    funext l x
    match l, x with
    | 0, (t, s) => rfl
  show Pipeline.defs (Cert.Kernel3.pcfgs (F := Bits)) (Cert.Kernel3.defs₀ (F := Bits)) = _
  rw [h]
  rfl

/-- The kernel's frame on the chip's words: its text is `Kernel3Ideal`'s, so one run serves both. -/
theorem frame_kernel : @Cert.quiescent_Kernel3 Cert.Kernel3.Gen.facts := fun m g _ => by
  have h := Cert.Kernel3Ideal.Gen.frame (F := Bits) m g
  rw [← defs_eq] at h
  exact h

/-- The same frame over the extended reals. -/
theorem frame_ideal : @Cert.quiescent_Kernel3Ideal Cert.Kernel3Ideal.Gen.facts := fun m g _ =>
  Cert.Kernel3Ideal.Gen.frame m g

/-- The reference's frame. -/
theorem frame_ref : @Cert.quiescent_Reference3Ideal Cert.Reference3Ideal.Gen.facts := fun m g _ =>
  (θ_run _ _ _).mono (fun r h => ⟨fun c => (h c).2, sem_eq_zero_of_no_sems (by decide) r.2⟩) (Cert.Reference3Ideal.Value.run m g)

end Cert.Proof.DWGateUp

end
-- ==== Proof.DHTwo.lean ====
module

public import proofs.«01_k».proof.Proof.Product
public import proofs.«01_k».proof.Defs
public import proofs.«01_k».proof.Proof.Gen.Kernel4
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Quiescent

@[expose] public section

set_option maxRecDepth 16384

noncomputable section

/-! Kernel 4, the gradient of the gate and up projections' input: a product accumulated block by block, against reference 4. -/

namespace Cert.Proof.DHTwo

open Cert.Kernel4Ideal Cert.Kernel4Ideal.Gen Cert.Proof.Product
open Idealize.ShloMosaic Idealize.ShloMosaic.TcCoe Idealize.SL.Sem
open scoped BigOperators

theorem hz : (![0, 0] : Fin 2 → Nat) = fun _ => 0 := funext fun a => by fin_cases a <;> rfl
theorem hz3 : (![0, 0, 0] : Fin 3 → Nat) = fun _ => 0 := funext fun a => by fin_cases a <;> rfl

section
variable {F : FTy → Type} [FloatOps F]

theorem out_A (c : Dev nD) (i : grid0.Coords) (a3 : Memref sig .tc .vmem S1x1024x2816 .bf16) (h3 : a3.IsWhole)
    (a4 : Memref sig .tc .vmem S1024x2816 .bf16) (h4 : a4.IsWhole) (a5 : Memref sig .tc .vmem S1024x1024 .f32) (h5 : a5.IsWhole)
    (hc0 : cond0_0 i) (hc1 : ¬cond0_1 i) (x0 : Vec F S1x1024x2816 .bf16) (x1 : Vec F S1024x2816 .bf16) :
    out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero hz]
  simp only [View.readAt_eq_ld, h3.read_unread, h4.read_unread, View.ld_unit_zero (S := S1x1024x2816) hz3, View.ld_unit_zero (S := S1024x2816) hz]

theorem out_B (c : Dev nD) (i : grid0.Coords) (a3 : Memref sig .tc .vmem S1x1024x2816 .bf16) (h3 : a3.IsWhole)
    (a4 : Memref sig .tc .vmem S1024x2816 .bf16) (h4 : a4.IsWhole) (a5 : Memref sig .tc .vmem S1024x1024 .f32) (h5 : a5.IsWhole)
    (hc0 : ¬cond0_0 i) (hc1 : cond0_1 i) (x0 : Vec F S1x1024x2816 .bf16) (x1 : Vec F S1024x2816 .bf16) (xo : Vec F S1024x1024 .f32) :
    out0_B_2 c i a3 h3 a4 h4 a5 h5 hc0 hc1 x0 x1 xo = k0_pay2 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero hz]
  simp only [View.readAt_eq_ld, h3.read_unread, h4.read_unread, h5.read_unread, View.ld_unit_zero (S := S1x1024x2816) hz3, View.ld_unit_zero (S := S1024x2816) hz, View.ld_unit_zero (S := S1024x1024) hz]

end

theorem pay1_e (x0 : Vec Ideal S1x1024x2816 .bf16) (x1 : Vec Ideal S1024x2816 .bf16) (y : S1024x1024.Idx) :
    (k0_pay1 x0 x1 y : EReal) = ∑ k : Fin 2816, x0 (ix3 0 (y 0) k) * x1 (ix2 (y 1) k) := by
  unfold k0_pay1
  pointwise

theorem pay2_e (x0 : Vec Ideal S1x1024x2816 .bf16) (x1 : Vec Ideal S1024x2816 .bf16) (xo : Vec Ideal S1024x1024 .f32) (y : S1024x1024.Idx) :
    (k0_pay2 x0 x1 xo y : EReal) = xo y + k0_pay1 x0 x1 y := by
  unfold k0_pay2
  rw [shapeCast_self]
  rfl

theorem i0 : ∀ t : Fin cfg0.N, win0_0.index t (0 : Fin 3) = t.val % 2 ∧ win0_0.index t (1 : Fin 3) = t.val / 2 ∧ win0_0.index t (2 : Fin 3) = 0 := (by decide +kernel : ∀ t : Fin grid0.N, _)
theorem i1 : ∀ t : Fin cfg0.N, win0_1.index t (0 : Fin 2) = 0 ∧ win0_1.index t (1 : Fin 2) = t.val % 2 := (by decide +kernel : ∀ t : Fin grid0.N, _)
theorem i2 : ∀ t : Fin cfg0.N, win0_2.index t (0 : Fin 2) = t.val / 2 ∧ win0_2.index t (1 : Fin 2) = 0 := (by decide +kernel : ∀ t : Fin grid0.N, _)

variable (m : (ℓ : Loc nD τ sig) → Buf (Elt Ideal) ℓ) (c : Dev nD)

abbrev X0 : S2x8192x2816.Idx → EReal := m ((c.tc : Thread nD τ).loc main_arg0)
abbrev X1 : S1024x5632.Idx → EReal := m ((c.tc : Thread nD τ).loc main_arg1)

theorem t_lt (t : Fin cfg0.N) : t.val < 16 := Nat.lt_of_lt_of_eq t.isLt N_0

theorem b0 (t : Fin cfg0.N) (i : Fin 1024) (k : Fin 2816) :
    (iblk m c 0 t (ix3 0 i k) : EReal) = X0 m c (ix3 (pos 2 (t.val % 2)) (pos 8192 (t.val / 2 * 1024 + i.val)) k) := by
  have e := i0 t
  have := t_lt t
  blk_simp [iblk]
  refine (congrFun (V_main_arg0 m c) _).trans (congrArg (X0 m c) ?_)
  funext a
  refine Fin.ext ?_
  match a with
  | ⟨0, _⟩ => blk_simp [e.1]; exact (pos_val (by omega)).symm
  | ⟨1, _⟩ => blk_simp [e.2.1]; exact (pos_val (by omega)).symm
  | ⟨2, _⟩ => blk_simp [e.2.2]

theorem b1 (t : Fin cfg0.N) (j : Fin 1024) (k : Fin 2816) :
    (iblk m c 1 t (ix2 j k) : EReal) = X1 m c (ix2 j (pos 5632 (t.val % 2 * 2816 + k.val))) := by
  have e := i1 t
  blk_simp [iblk]
  refine (congrFun (V_main_arg1 m c) _).trans (congrArg (X1 m c) ?_)
  funext a
  refine Fin.ext ?_
  match a with
  | ⟨0, _⟩ => blk_simp [e.1]
  | ⟨1, _⟩ => blk_simp [e.2]; exact (pos_val (by omega)).symm

/-- What half `r` of the contracted columns adds to an entry of block `q` of the product's rows. -/
def part (i j : Fin 1024) (q r : ℕ) : EReal :=
  ∑ k : Fin 2816, X0 m c (ix3 (pos 2 r) (pos 8192 (q * 1024 + i.val)) k) * X1 m c (ix2 j (pos 5632 (r * 2816 + k.val)))

theorem pay1_t (t : Fin cfg0.N) (i j : Fin 1024) :
    (k0_pay1 (iblk m c 0 t) (iblk m c 1 t) (ix2 i j) : EReal) = part m c i j (t.val / 2) (t.val % 2) := by
  rw [pay1_e]
  exact Finset.sum_congr rfl fun k _ => congrArg₂ (· * ·) (b0 m c t i k) (b1 m c t j k)

theorem outs_e (t : Fin cfg0.N) (i j : Fin 1024) :
    (outsAt0 m c t.val t.isLt (ix2 i j) : EReal) = ∑ r ∈ Finset.range (t.val % 2 + 1), part m c i j (t.val / 2) r := by
  refine run_sum (nk := 2) (by norm_num) (fun t : Fin cfg0.N => (outsAt0 m c t.val t.isLt (ix2 i j) : EReal)) (part m c i j) (fun t h => ?_) (fun t h => ?_) t
  · rw [outsAt0_A m c t h (by omega), out_A, pay1_t, h]
  · rw [outsAt0_B m c t h (by omega), out_B, pay2_e, pay1_t]

/-- The result is the sum of the two halves' products with the transposed halves of the second array. -/
theorem arr : (dats m 0 c).arrAt 2 cfg0.N = fun y : S8192x1024.Idx => (∑ r ∈ Finset.range 2, ∑ k : Fin 2816, X0 m c (ix3 (pos 2 r) (y 0) k) * X1 m c (ix2 (y 1) (pos 5632 (r * 2816 + k.val))) : EReal) := by
  refine (dats m 0 c).arrAt_eq_of_covers 2 _ (by decide +kernel) fun t hf y => ?_
  have ht := t_lt t
  have hr : t.val % 2 = 1 := (flush0_2 t).mp hf
  have e := i2 t
  blk_simp
  rw [after0_2]
  obtain ⟨i, j, rfl⟩ : ∃ (i j : Fin 1024), y = ix2 i j := ⟨y 0, y 1, (ix2_eta y).symm⟩
  rw [outs_e, hr]
  have h0 : ((win0_2.blk t).view.emb (ix2 i j) 0 : Fin 8192) = pos 8192 (t.val / 2 * 1024 + i.val) := Fin.ext (by
    blk_simp [e.1]; exact (pos_val (K := 8192) (by omega)).symm)
  have h1 : ((win0_2.blk t).view.emb (ix2 i j) 1 : Fin 1024) = j := Fin.ext (by blk_simp [e.2])
  rw [h0, h1]
  rfl

/-- The kernel's product is the reference's gradient. -/
theorem algebraic : @Cert.algebraic_Kernel4Ideal_Reference4Ideal Cert.Kernel4Ideal.Gen.facts Cert.Reference4Ideal.Gen.facts :=
  fun m g m' g' _ hm => ⟨fun c => (dats m 0 c).arrAt 2 cfg0.N,
    Cert.Kernel4Ideal.Value.run_blocks m g,
    (θ_run _ _ _).mono (fun r h c => by
      refine ⟨(h c).1.trans ?_, (h c).2⟩
      rw [(hm c).1, (hm c).2]
      refine Eq.trans ?_ (arr m c).symm
      funext y
      pointwise
      rw [Finset.sum_range_succ, Finset.sum_range_one]
      refine congrArg₂ (· + ·) (Finset.sum_congr rfl fun k _ => ?_) (Finset.sum_congr rfl fun k _ => ?_)
      · exact congrArg (X0 m c (ix3 0 (y 0) k) * ·) (congrArg (fun n => X1 m c (ix2 (y 1) n)) (Fin.ext ((show k.val = 0 * 2816 + k.val by omega).trans (pos_val (by omega)).symm)))
      · exact congrArg (X0 m c (ix3 1 (y 0) k) * ·) (congrArg (fun n => X1 m c (ix2 (y 1) n)) (Fin.ext ((show 2816 + k.val = 1 * 2816 + k.val by omega).trans (pos_val (by omega)).symm)))) (Cert.Reference4Ideal.Value.run (F := Ideal) m' g')⟩

/-- On the chip's words the two printed kernels have one body table. -/
theorem defs_eq : Cert.Kernel4.defs (F := Bits) = Cert.Kernel4Ideal.defs (F := Bits) := by
  have h : Cert.Kernel4.defs₀ (F := Bits) = Cert.Kernel4Ideal.defs₀ (F := Bits) := by
    unfold Cert.Kernel4.defs₀ Cert.Kernel4Ideal.defs₀
    refine congrArg Defs.onTc ?_
    funext l x
    match l, x with
    | 0, (t, s) => rfl
  show Pipeline.defs (Cert.Kernel4.pcfgs (F := Bits)) (Cert.Kernel4.defs₀ (F := Bits)) = _
  rw [h]
  rfl

/-- The kernel's frame on the chip's words: its text is `Kernel4Ideal`'s, so one run serves both. -/
theorem frame_kernel : @Cert.quiescent_Kernel4 Cert.Kernel4.Gen.facts := fun m g _ => by
  have h := Cert.Kernel4Ideal.Gen.frame (F := Bits) m g
  rw [← defs_eq] at h
  exact h

/-- The same frame over the extended reals. -/
theorem frame_ideal : @Cert.quiescent_Kernel4Ideal Cert.Kernel4Ideal.Gen.facts := fun m g _ =>
  Cert.Kernel4Ideal.Gen.frame m g

/-- The reference's frame. -/
theorem frame_ref : @Cert.quiescent_Reference4Ideal Cert.Reference4Ideal.Gen.facts := fun m g _ =>
  (θ_run _ _ _).mono (fun r h => ⟨fun c => (h c).2, sem_eq_zero_of_no_sems (by decide) r.2⟩) (Cert.Reference4Ideal.Value.run m g)

end Cert.Proof.DHTwo

end
-- ==== Proof.DWDown.lean ====
module

public import proofs.«01_k».proof.Proof.Product
public import proofs.«01_k».proof.Defs
public import proofs.«01_k».proof.Proof.Gen.Kernel5
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Quiescent

@[expose] public section

set_option maxRecDepth 16384

noncomputable section

/-! Kernel 5, the gradient of the down projection's weights: a product accumulated block by block, against reference 5. -/

namespace Cert.Proof.DWDown

open Cert.Kernel5Ideal Cert.Kernel5Ideal.Gen Cert.Proof.Product
open Idealize.ShloMosaic Idealize.ShloMosaic.TcCoe Idealize.SL.Sem
open scoped BigOperators

theorem hz : (![0, 0] : Fin 2 → Nat) = fun _ => 0 := funext fun a => by fin_cases a <;> rfl

section
variable {F : FTy → Type} [FloatOps F]

theorem out_A (c : Dev nD) (i : grid0.Coords) (a3 : Memref sig .tc .vmem S2048x1408 .bf16) (h3 : a3.IsWhole)
    (a4 : Memref sig .tc .vmem S2048x1024 .bf16) (h4 : a4.IsWhole) (a5 : Memref sig .tc .vmem S1408x1024 .f32) (h5 : a5.IsWhole)
    (hc0 : cond0_0 i) (hc1 : ¬cond0_1 i) (x0 : Vec F S2048x1408 .bf16) (x1 : Vec F S2048x1024 .bf16) :
    out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero hz]
  simp only [View.readAt_eq_ld, h3.read_unread, h4.read_unread, View.ld_unit_zero (S := S2048x1408) hz, View.ld_unit_zero (S := S2048x1024) hz]

theorem out_B (c : Dev nD) (i : grid0.Coords) (a3 : Memref sig .tc .vmem S2048x1408 .bf16) (h3 : a3.IsWhole)
    (a4 : Memref sig .tc .vmem S2048x1024 .bf16) (h4 : a4.IsWhole) (a5 : Memref sig .tc .vmem S1408x1024 .f32) (h5 : a5.IsWhole)
    (hc0 : ¬cond0_0 i) (hc1 : cond0_1 i) (x0 : Vec F S2048x1408 .bf16) (x1 : Vec F S2048x1024 .bf16) (xo : Vec F S1408x1024 .f32) :
    out0_B_2 c i a3 h3 a4 h4 a5 h5 hc0 hc1 x0 x1 xo = k0_pay2 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero hz]
  simp only [View.readAt_eq_ld, h3.read_unread, h4.read_unread, h5.read_unread, View.ld_unit_zero (S := S2048x1408) hz, View.ld_unit_zero (S := S2048x1024) hz, View.ld_unit_zero (S := S1408x1024) hz]

end

theorem pay1_e (x0 : Vec Ideal S2048x1408 .bf16) (x1 : Vec Ideal S2048x1024 .bf16) (y : S1408x1024.Idx) :
    (k0_pay1 x0 x1 y : EReal) = ∑ k : Fin 2048, x0 (ix2 k (y 0)) * x1 (ix2 k (y 1)) := by
  unfold k0_pay1
  pointwise

theorem pay2_e (x0 : Vec Ideal S2048x1408 .bf16) (x1 : Vec Ideal S2048x1024 .bf16) (xo : Vec Ideal S1408x1024 .f32) (y : S1408x1024.Idx) :
    (k0_pay2 x0 x1 xo y : EReal) = xo y + k0_pay1 x0 x1 y := by
  unfold k0_pay2
  rw [shapeCast_self]
  rfl

theorem i0 : ∀ t : Fin cfg0.N, win0_0.index t (0 : Fin 2) = t.val % 4 ∧ win0_0.index t (1 : Fin 2) = t.val / 4 := (by decide +kernel : ∀ t : Fin grid0.N, _)
theorem i1 : ∀ t : Fin cfg0.N, win0_1.index t (0 : Fin 2) = t.val % 4 ∧ win0_1.index t (1 : Fin 2) = 0 := (by decide +kernel : ∀ t : Fin grid0.N, _)
theorem i2 : ∀ t : Fin cfg0.N, win0_2.index t (0 : Fin 2) = t.val / 4 ∧ win0_2.index t (1 : Fin 2) = 0 := (by decide +kernel : ∀ t : Fin grid0.N, _)

variable (m : (ℓ : Loc nD τ sig) → Buf (Elt Ideal) ℓ) (c : Dev nD)

abbrev X0 : S8192x2816.Idx → EReal := m ((c.tc : Thread nD τ).loc main_arg0)
abbrev X1 : S8192x1024.Idx → EReal := m ((c.tc : Thread nD τ).loc main_arg1)

theorem t_lt (t : Fin cfg0.N) : t.val < 8 := Nat.lt_of_lt_of_eq t.isLt N_0

theorem b0 (t : Fin cfg0.N) (k : Fin 2048) (i : Fin 1408) :
    (iblk m c 0 t (ix2 k i) : EReal) = X0 m c (ix2 (pos 8192 (t.val % 4 * 2048 + k.val)) (pos 2816 (t.val / 4 * 1408 + i.val))) := by
  have e := i0 t
  have := t_lt t
  blk_simp [iblk]
  refine (congrFun (V_main_arg0 m c) _).trans (congrArg (X0 m c) ?_)
  funext a
  refine Fin.ext ?_
  match a with
  | ⟨0, _⟩ => blk_simp [e.1]; exact (pos_val (by omega)).symm
  | ⟨1, _⟩ => blk_simp [e.2]; exact (pos_val (by omega)).symm

theorem b1 (t : Fin cfg0.N) (k : Fin 2048) (j : Fin 1024) :
    (iblk m c 1 t (ix2 k j) : EReal) = X1 m c (ix2 (pos 8192 (t.val % 4 * 2048 + k.val)) j) := by
  have e := i1 t
  have := t_lt t
  blk_simp [iblk]
  refine (congrFun (V_main_arg1 m c) _).trans (congrArg (X1 m c) ?_)
  funext a
  refine Fin.ext ?_
  match a with
  | ⟨0, _⟩ => blk_simp [e.1]; exact (pos_val (by omega)).symm
  | ⟨1, _⟩ => blk_simp [e.2]

/-- What block `r` of the rows adds to an entry of block `q` of the product's rows. -/
def part (i : Fin 1408) (j : Fin 1024) (q r : ℕ) : EReal :=
  ∑ k : Fin 2048, X0 m c (ix2 (pos 8192 (r * 2048 + k.val)) (pos 2816 (q * 1408 + i.val))) * X1 m c (ix2 (pos 8192 (r * 2048 + k.val)) j)

theorem pay1_t (t : Fin cfg0.N) (i : Fin 1408) (j : Fin 1024) :
    (k0_pay1 (iblk m c 0 t) (iblk m c 1 t) (ix2 i j) : EReal) = part m c i j (t.val / 4) (t.val % 4) := by
  rw [pay1_e]
  exact Finset.sum_congr rfl fun k _ => congrArg₂ (· * ·) (b0 m c t k i) (b1 m c t k j)

theorem outs_e (t : Fin cfg0.N) (i : Fin 1408) (j : Fin 1024) :
    (outsAt0 m c t.val t.isLt (ix2 i j) : EReal) = ∑ r ∈ Finset.range (t.val % 4 + 1), part m c i j (t.val / 4) r := by
  refine run_sum (nk := 4) (by norm_num) (fun t : Fin cfg0.N => (outsAt0 m c t.val t.isLt (ix2 i j) : EReal)) (part m c i j) (fun t h => ?_) (fun t h => ?_) t
  · rw [outsAt0_A m c t h (by omega), out_A, pay1_t, h]
  · rw [outsAt0_B m c t h (by omega), out_B, pay2_e, pay1_t]

/-- The result is the product of the transposed first array with the second. -/
theorem arr : (dats m 0 c).arrAt 2 cfg0.N = fun y : S2816x1024.Idx => (∑ k : Fin 8192, X0 m c (ix2 k (y 0)) * X1 m c (ix2 k (y 1)) : EReal) := by
  refine (dats m 0 c).arrAt_eq_of_covers 2 _ (by decide +kernel) fun t hf y => ?_
  have ht := t_lt t
  have hr : t.val % 4 = 3 := (flush0_2 t).mp hf
  have e := i2 t
  blk_simp
  rw [after0_2]
  obtain ⟨i, j, rfl⟩ : ∃ (i : Fin 1408) (j : Fin 1024), y = ix2 i j := ⟨y 0, y 1, (ix2_eta y).symm⟩
  rw [outs_e, hr]
  have h0 : ((win0_2.blk t).view.emb (ix2 i j) 0 : Fin 2816) = pos 2816 (t.val / 4 * 1408 + i.val) := Fin.ext (by
    blk_simp [e.1]; exact (pos_val (K := 2816) (by omega)).symm)
  have h1 : ((win0_2.blk t).view.emb (ix2 i j) 1 : Fin 1024) = j := Fin.ext (by blk_simp [e.2])
  exact (split_sum (nk := 4) (tk := 2048) (by norm_num) fun k : Fin 8192 => X0 m c (ix2 k (pos 2816 (t.val / 4 * 1408 + i.val))) * X1 m c (ix2 k j)).trans
    (Finset.sum_congr rfl fun k _ => by rw [h0, h1])

/-- The reference's product, entry by entry. -/
theorem ref_e (x0 : Vec Ideal S8192x2816 .bf16) (x1 : Vec Ideal S8192x1024 .bf16) :
    (transpose S2816x1024 [1, 0] (Host.dotGeneral (F := Ideal) Cert.Reference5Ideal.dot_S8192x1024_S8192x2816_S1024x2816_0_0_1_1_n_n none (extf .f32 x1 Cert.Reference5Ideal.Gen.bitsLt_bf16_f32) (extf .f32 x0 Cert.Reference5Ideal.Gen.bitsLt_bf16_f32)) Cert.Reference5Ideal.Gen.transposes_S1024x2816_S2816x1024_1_0 : Vec Ideal S2816x1024 .f32)
      = fun y => (∑ k : Fin 8192, x0 (ix2 k (y 0)) * x1 (ix2 k (y 1)) : EReal) := by
  funext y
  pointwise
  exact Finset.sum_congr rfl fun k _ => mul_comm _ _

/-- The kernel's product is the reference's gradient. -/
theorem algebraic : @Cert.algebraic_Kernel5Ideal_Reference5Ideal Cert.Kernel5Ideal.Gen.facts Cert.Reference5Ideal.Gen.facts :=
  fun m g m' g' _ hm => ⟨fun c => (dats m 0 c).arrAt 2 cfg0.N,
    Cert.Kernel5Ideal.Value.run_blocks m g,
    (θ_run _ _ _).mono (fun r h c => by
      refine ⟨(h c).1.trans ?_, (h c).2⟩
      rw [(hm c).1, (hm c).2]
      exact (ref_e _ _).trans (arr m c).symm) (Cert.Reference5Ideal.Value.run (F := Ideal) m' g')⟩

/-- On the chip's words the two printed kernels have one body table. -/
theorem defs_eq : Cert.Kernel5.defs (F := Bits) = Cert.Kernel5Ideal.defs (F := Bits) := by
  have h : Cert.Kernel5.defs₀ (F := Bits) = Cert.Kernel5Ideal.defs₀ (F := Bits) := by
    unfold Cert.Kernel5.defs₀ Cert.Kernel5Ideal.defs₀
    refine congrArg Defs.onTc ?_
    funext l x
    match l, x with
    | 0, (t, s) => rfl
  show Pipeline.defs (Cert.Kernel5.pcfgs (F := Bits)) (Cert.Kernel5.defs₀ (F := Bits)) = _
  rw [h]
  rfl

/-- The kernel's frame on the chip's words: its text is `Kernel5Ideal`'s, so one run serves both. -/
theorem frame_kernel : @Cert.quiescent_Kernel5 Cert.Kernel5.Gen.facts := fun m g _ => by
  have h := Cert.Kernel5Ideal.Gen.frame (F := Bits) m g
  rw [← defs_eq] at h
  exact h

/-- The same frame over the extended reals. -/
theorem frame_ideal : @Cert.quiescent_Kernel5Ideal Cert.Kernel5Ideal.Gen.facts := fun m g _ =>
  Cert.Kernel5Ideal.Gen.frame m g

/-- The reference's frame. -/
theorem frame_ref : @Cert.quiescent_Reference5Ideal Cert.Reference5Ideal.Gen.facts := fun m g _ =>
  (θ_run _ _ _).mono (fun r h => ⟨fun c => (h c).2, sem_eq_zero_of_no_sems (by decide) r.2⟩) (Cert.Reference5Ideal.Value.run m g)

end Cert.Proof.DWDown

end
-- ==== Proof.DWIn.lean ====
module

public import proofs.«01_k».proof.Proof.Product
public import proofs.«01_k».proof.Defs
public import proofs.«01_k».proof.Proof.Gen.Kernel6
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.Quiescent

@[expose] public section

set_option maxRecDepth 16384

noncomputable section

/-! Kernel 6, the gradient of the input projection's weights: a product accumulated block by block, against reference 6. -/

namespace Cert.Proof.DWIn

open Cert.Kernel6Ideal Cert.Kernel6Ideal.Gen Cert.Proof.Product
open Idealize.ShloMosaic Idealize.ShloMosaic.TcCoe Idealize.SL.Sem
open scoped BigOperators

theorem hz : (![0, 0] : Fin 2 → Nat) = fun _ => 0 := funext fun a => by fin_cases a <;> rfl

section
variable {F : FTy → Type} [FloatOps F]

theorem out_A (c : Dev nD) (i : grid0.Coords) (a3 : Memref sig .tc .vmem S2048x1024 .bf16) (h3 : a3.IsWhole)
    (a4 : Memref sig .tc .vmem S2048x1408 .bf16) (h4 : a4.IsWhole) (a5 : Memref sig .tc .vmem S1024x1408 .f32) (h5 : a5.IsWhole)
    (hc0 : cond0_0 i) (hc1 : ¬cond0_1 i) (x0 : Vec F S2048x1024 .bf16) (x1 : Vec F S2048x1408 .bf16) :
    out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero hz]
  simp only [View.readAt_eq_ld, h3.read_unread, h4.read_unread, View.ld_unit_zero (S := S2048x1024) hz, View.ld_unit_zero (S := S2048x1408) hz]

theorem out_B (c : Dev nD) (i : grid0.Coords) (a3 : Memref sig .tc .vmem S2048x1024 .bf16) (h3 : a3.IsWhole)
    (a4 : Memref sig .tc .vmem S2048x1408 .bf16) (h4 : a4.IsWhole) (a5 : Memref sig .tc .vmem S1024x1408 .f32) (h5 : a5.IsWhole)
    (hc0 : ¬cond0_0 i) (hc1 : cond0_1 i) (x0 : Vec F S2048x1024 .bf16) (x1 : Vec F S2048x1408 .bf16) (xo : Vec F S1024x1408 .f32) :
    out0_B_2 c i a3 h3 a4 h4 a5 h5 hc0 hc1 x0 x1 xo = k0_pay2 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero hz]
  simp only [View.readAt_eq_ld, h3.read_unread, h4.read_unread, h5.read_unread, View.ld_unit_zero (S := S2048x1024) hz, View.ld_unit_zero (S := S2048x1408) hz, View.ld_unit_zero (S := S1024x1408) hz]

end

theorem pay1_e (x0 : Vec Ideal S2048x1024 .bf16) (x1 : Vec Ideal S2048x1408 .bf16) (y : S1024x1408.Idx) :
    (k0_pay1 x0 x1 y : EReal) = ∑ k : Fin 2048, x0 (ix2 k (y 0)) * x1 (ix2 k (y 1)) := by
  unfold k0_pay1
  pointwise

theorem pay2_e (x0 : Vec Ideal S2048x1024 .bf16) (x1 : Vec Ideal S2048x1408 .bf16) (xo : Vec Ideal S1024x1408 .f32) (y : S1024x1408.Idx) :
    (k0_pay2 x0 x1 xo y : EReal) = xo y + k0_pay1 x0 x1 y := by
  unfold k0_pay2
  rw [shapeCast_self]
  rfl

theorem i0 : ∀ t : Fin cfg0.N, win0_0.index t (0 : Fin 2) = t.val % 4 ∧ win0_0.index t (1 : Fin 2) = 0 := (by decide +kernel : ∀ t : Fin grid0.N, _)
theorem i1 : ∀ t : Fin cfg0.N, win0_1.index t (0 : Fin 2) = t.val % 4 ∧ win0_1.index t (1 : Fin 2) = t.val / 4 := (by decide +kernel : ∀ t : Fin grid0.N, _)
theorem i2 : ∀ t : Fin cfg0.N, win0_2.index t (0 : Fin 2) = 0 ∧ win0_2.index t (1 : Fin 2) = t.val / 4 := (by decide +kernel : ∀ t : Fin grid0.N, _)

variable (m : (ℓ : Loc nD τ sig) → Buf (Elt Ideal) ℓ) (c : Dev nD)

abbrev X0 : S8192x1024.Idx → EReal := m ((c.tc : Thread nD τ).loc main_arg0)
abbrev X1 : S8192x5632.Idx → EReal := m ((c.tc : Thread nD τ).loc main_arg1)

theorem t_lt (t : Fin cfg0.N) : t.val < 16 := Nat.lt_of_lt_of_eq t.isLt N_0

theorem b0 (t : Fin cfg0.N) (k : Fin 2048) (i : Fin 1024) :
    (iblk m c 0 t (ix2 k i) : EReal) = X0 m c (ix2 (pos 8192 (t.val % 4 * 2048 + k.val)) i) := by
  have e := i0 t
  blk_simp [iblk]
  refine (congrFun (V_main_arg0 m c) _).trans (congrArg (X0 m c) ?_)
  funext a
  refine Fin.ext ?_
  match a with
  | ⟨0, _⟩ => blk_simp [e.1]; exact (pos_val (by omega)).symm
  | ⟨1, _⟩ => blk_simp [e.2]

theorem b1 (t : Fin cfg0.N) (k : Fin 2048) (j : Fin 1408) :
    (iblk m c 1 t (ix2 k j) : EReal) = X1 m c (ix2 (pos 8192 (t.val % 4 * 2048 + k.val)) (pos 5632 (t.val / 4 * 1408 + j.val))) := by
  have e := i1 t
  have := t_lt t
  blk_simp [iblk]
  refine (congrFun (V_main_arg1 m c) _).trans (congrArg (X1 m c) ?_)
  funext a
  refine Fin.ext ?_
  match a with
  | ⟨0, _⟩ => blk_simp [e.1]; exact (pos_val (by omega)).symm
  | ⟨1, _⟩ => blk_simp [e.2]; exact (pos_val (by omega)).symm

/-- What block `r` of the rows adds to an entry of block `q` of the columns. -/
def part (i : Fin 1024) (j : Fin 1408) (q r : ℕ) : EReal :=
  ∑ k : Fin 2048, X0 m c (ix2 (pos 8192 (r * 2048 + k.val)) i) * X1 m c (ix2 (pos 8192 (r * 2048 + k.val)) (pos 5632 (q * 1408 + j.val)))

theorem pay1_t (t : Fin cfg0.N) (i : Fin 1024) (j : Fin 1408) :
    (k0_pay1 (iblk m c 0 t) (iblk m c 1 t) (ix2 i j) : EReal) = part m c i j (t.val / 4) (t.val % 4) := by
  rw [pay1_e]
  exact Finset.sum_congr rfl fun k _ => congrArg₂ (· * ·) (b0 m c t k i) (b1 m c t k j)

theorem outs_e (t : Fin cfg0.N) (i : Fin 1024) (j : Fin 1408) :
    (outsAt0 m c t.val t.isLt (ix2 i j) : EReal) = ∑ r ∈ Finset.range (t.val % 4 + 1), part m c i j (t.val / 4) r := by
  refine run_sum (nk := 4) (by norm_num) (fun t : Fin cfg0.N => (outsAt0 m c t.val t.isLt (ix2 i j) : EReal)) (part m c i j) (fun t h => ?_) (fun t h => ?_) t
  · rw [outsAt0_A m c t h (by omega), out_A, pay1_t, h]
  · rw [outsAt0_B m c t h (by omega), out_B, pay2_e, pay1_t]

/-- The result is the product of the transposed first array with the second. -/
theorem arr : (dats m 0 c).arrAt 2 cfg0.N = fun y : S1024x5632.Idx => (∑ k : Fin 8192, X0 m c (ix2 k (y 0)) * X1 m c (ix2 k (y 1)) : EReal) := by
  refine (dats m 0 c).arrAt_eq_of_covers 2 _ (by decide +kernel) fun t hf y => ?_
  have ht := t_lt t
  have hr : t.val % 4 = 3 := (flush0_2 t).mp hf
  have e := i2 t
  blk_simp
  rw [after0_2]
  obtain ⟨i, j, rfl⟩ : ∃ (i : Fin 1024) (j : Fin 1408), y = ix2 i j := ⟨y 0, y 1, (ix2_eta y).symm⟩
  rw [outs_e, hr]
  have h0 : ((win0_2.blk t).view.emb (ix2 i j) 0 : Fin 1024) = i := Fin.ext (by blk_simp [e.1])
  have h1 : ((win0_2.blk t).view.emb (ix2 i j) 1 : Fin 5632) = pos 5632 (t.val / 4 * 1408 + j.val) := Fin.ext (by
    blk_simp [e.2]; exact (pos_val (K := 5632) (by omega)).symm)
  exact (split_sum (nk := 4) (tk := 2048) (by norm_num) fun k : Fin 8192 => X0 m c (ix2 k i) * X1 m c (ix2 k (pos 5632 (t.val / 4 * 1408 + j.val)))).trans
    (Finset.sum_congr rfl fun k _ => by rw [h0, h1])

/-- The reference's product, entry by entry. -/
theorem ref_e (x0 : Vec Ideal S8192x1024 .bf16) (x1 : Vec Ideal S8192x5632 .bf16) :
    (transpose S1024x5632 [1, 0] (Host.dotGeneral (F := Ideal) Cert.Reference6Ideal.dot_S8192x5632_S8192x1024_S5632x1024_0_0_1_1_n_n none (extf .f32 x1 Cert.Reference6Ideal.Gen.bitsLt_bf16_f32) (extf .f32 x0 Cert.Reference6Ideal.Gen.bitsLt_bf16_f32)) Cert.Reference6Ideal.Gen.transposes_S5632x1024_S1024x5632_1_0 : Vec Ideal S1024x5632 .f32)
      = fun y => (∑ k : Fin 8192, x0 (ix2 k (y 0)) * x1 (ix2 k (y 1)) : EReal) := by
  funext y
  pointwise
  exact Finset.sum_congr rfl fun k _ => mul_comm _ _

/-- The kernel's product is the reference's gradient. -/
theorem algebraic : @Cert.algebraic_Kernel6Ideal_Reference6Ideal Cert.Kernel6Ideal.Gen.facts Cert.Reference6Ideal.Gen.facts :=
  fun m g m' g' _ hm => ⟨fun c => (dats m 0 c).arrAt 2 cfg0.N,
    Cert.Kernel6Ideal.Value.run_blocks m g,
    (θ_run _ _ _).mono (fun r h c => by
      refine ⟨(h c).1.trans ?_, (h c).2⟩
      rw [(hm c).1, (hm c).2]
      exact (ref_e _ _).trans (arr m c).symm) (Cert.Reference6Ideal.Value.run (F := Ideal) m' g')⟩

/-- On the chip's words the two printed kernels have one body table. -/
theorem defs_eq : Cert.Kernel6.defs (F := Bits) = Cert.Kernel6Ideal.defs (F := Bits) := by
  have h : Cert.Kernel6.defs₀ (F := Bits) = Cert.Kernel6Ideal.defs₀ (F := Bits) := by
    unfold Cert.Kernel6.defs₀ Cert.Kernel6Ideal.defs₀
    refine congrArg Defs.onTc ?_
    funext l x
    match l, x with
    | 0, (t, s) => rfl
  show Pipeline.defs (Cert.Kernel6.pcfgs (F := Bits)) (Cert.Kernel6.defs₀ (F := Bits)) = _
  rw [h]
  rfl

/-- The kernel's frame on the chip's words: its text is `Kernel6Ideal`'s, so one run serves both. -/
theorem frame_kernel : @Cert.quiescent_Kernel6 Cert.Kernel6.Gen.facts := fun m g _ => by
  have h := Cert.Kernel6Ideal.Gen.frame (F := Bits) m g
  rw [← defs_eq] at h
  exact h

/-- The same frame over the extended reals. -/
theorem frame_ideal : @Cert.quiescent_Kernel6Ideal Cert.Kernel6Ideal.Gen.facts := fun m g _ =>
  Cert.Kernel6Ideal.Gen.frame m g

/-- The reference's frame. -/
theorem frame_ref : @Cert.quiescent_Reference6Ideal Cert.Reference6Ideal.Gen.facts := fun m g _ =>
  (θ_run _ _ _).mono (fun r h => ⟨fun c => (h c).2, sem_eq_zero_of_no_sems (by decide) r.2⟩) (Cert.Reference6Ideal.Value.run m g)

end Cert.Proof.DWIn

end
-- ==== Proof.DH.lean ====
module

public import proofs.«01_k».proof.Proof.Product
public import proofs.«01_k».proof.Defs
public import proofs.«01_k».proof.Proof.Gen.Kernel7
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import Idealize.ShloMosaic.Lib.Quiescent

@[expose] public section

set_option maxRecDepth 16384

noncomputable section

/-! Kernel 7, the gradient of the input projection's input: a product accumulated block by block, against reference 7. -/

namespace Cert.Proof.DH

open Cert.Kernel7Ideal Cert.Kernel7Ideal.Gen Cert.Proof.Product
open Idealize.ShloMosaic Idealize.ShloMosaic.TcCoe Idealize.SL.Sem
open scoped BigOperators

theorem hz : (![0, 0] : Fin 2 → Nat) = fun _ => 0 := funext fun a => by fin_cases a <;> rfl

section
variable {F : FTy → Type} [FloatOps F]

theorem out_A (c : Dev nD) (i : grid0.Coords) (a3 : Memref sig .tc .vmem S1024x2816 .bf16) (h3 : a3.IsWhole)
    (a4 : Memref sig .tc .vmem S1024x2816 .bf16) (h4 : a4.IsWhole) (a5 : Memref sig .tc .vmem S1024x1024 .f32) (h5 : a5.IsWhole)
    (hc0 : cond0_0 i) (hc1 : ¬cond0_1 i) (x0 : Vec F S1024x2816 .bf16) (x1 : Vec F S1024x2816 .bf16) :
    out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero hz]
  simp only [View.readAt_eq_ld, h3.read_unread, h4.read_unread, View.ld_unit_zero (S := S1024x2816) hz]

theorem out_B (c : Dev nD) (i : grid0.Coords) (a3 : Memref sig .tc .vmem S1024x2816 .bf16) (h3 : a3.IsWhole)
    (a4 : Memref sig .tc .vmem S1024x2816 .bf16) (h4 : a4.IsWhole) (a5 : Memref sig .tc .vmem S1024x1024 .f32) (h5 : a5.IsWhole)
    (hc0 : ¬cond0_0 i) (hc1 : cond0_1 i) (x0 : Vec F S1024x2816 .bf16) (x1 : Vec F S1024x2816 .bf16) (xo : Vec F S1024x1024 .f32) :
    out0_B_2 c i a3 h3 a4 h4 a5 h5 hc0 hc1 x0 x1 xo = k0_pay2 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero hz]
  simp only [View.readAt_eq_ld, h3.read_unread, h4.read_unread, h5.read_unread, View.ld_unit_zero (S := S1024x2816) hz, View.ld_unit_zero (S := S1024x1024) hz]

end

theorem pay1_e (x0 : Vec Ideal S1024x2816 .bf16) (x1 : Vec Ideal S1024x2816 .bf16) (y : S1024x1024.Idx) :
    (k0_pay1 x0 x1 y : EReal) = ∑ k : Fin 2816, x0 (ix2 (y 0) k) * x1 (ix2 (y 1) k) := by
  unfold k0_pay1
  pointwise

theorem pay2_e (x0 : Vec Ideal S1024x2816 .bf16) (x1 : Vec Ideal S1024x2816 .bf16) (xo : Vec Ideal S1024x1024 .f32) (y : S1024x1024.Idx) :
    (k0_pay2 x0 x1 xo y : EReal) = xo y + k0_pay1 x0 x1 y := by
  unfold k0_pay2
  rw [shapeCast_self]
  rfl

theorem i0 : ∀ t : Fin cfg0.N, win0_0.index t (0 : Fin 2) = t.val / 2 ∧ win0_0.index t (1 : Fin 2) = t.val % 2 := (by decide +kernel : ∀ t : Fin grid0.N, _)
theorem i1 : ∀ t : Fin cfg0.N, win0_1.index t (0 : Fin 2) = 0 ∧ win0_1.index t (1 : Fin 2) = t.val % 2 := (by decide +kernel : ∀ t : Fin grid0.N, _)
theorem i2 : ∀ t : Fin cfg0.N, win0_2.index t (0 : Fin 2) = t.val / 2 ∧ win0_2.index t (1 : Fin 2) = 0 := (by decide +kernel : ∀ t : Fin grid0.N, _)

variable (m : (ℓ : Loc nD τ sig) → Buf (Elt Ideal) ℓ) (c : Dev nD)

abbrev X0 : S8192x5632.Idx → EReal := m ((c.tc : Thread nD τ).loc main_arg0)
abbrev X1 : S1024x5632.Idx → EReal := m ((c.tc : Thread nD τ).loc main_arg1)

theorem t_lt (t : Fin cfg0.N) : t.val < 16 := Nat.lt_of_lt_of_eq t.isLt N_0

theorem b0 (t : Fin cfg0.N) (i : Fin 1024) (k : Fin 2816) :
    (iblk m c 0 t (ix2 i k) : EReal) = X0 m c (ix2 (pos 8192 (t.val / 2 * 1024 + i.val)) (pos 5632 (t.val % 2 * 2816 + k.val))) := by
  have e := i0 t
  have := t_lt t
  blk_simp [iblk]
  refine (congrFun (V_main_arg0 m c) _).trans (congrArg (X0 m c) ?_)
  funext a
  refine Fin.ext ?_
  match a with
  | ⟨0, _⟩ => blk_simp [e.1]; exact (pos_val (by omega)).symm
  | ⟨1, _⟩ => blk_simp [e.2]; exact (pos_val (by omega)).symm

theorem b1 (t : Fin cfg0.N) (j : Fin 1024) (k : Fin 2816) :
    (iblk m c 1 t (ix2 j k) : EReal) = X1 m c (ix2 j (pos 5632 (t.val % 2 * 2816 + k.val))) := by
  have e := i1 t
  blk_simp [iblk]
  refine (congrFun (V_main_arg1 m c) _).trans (congrArg (X1 m c) ?_)
  funext a
  refine Fin.ext ?_
  match a with
  | ⟨0, _⟩ => blk_simp [e.1]
  | ⟨1, _⟩ => blk_simp [e.2]; exact (pos_val (by omega)).symm

/-- What block `r` of the contracted columns adds to an entry of block `q` of the product's rows. -/
def part (i j : Fin 1024) (q r : ℕ) : EReal :=
  ∑ k : Fin 2816, X0 m c (ix2 (pos 8192 (q * 1024 + i.val)) (pos 5632 (r * 2816 + k.val))) * X1 m c (ix2 j (pos 5632 (r * 2816 + k.val)))

theorem pay1_t (t : Fin cfg0.N) (i j : Fin 1024) :
    (k0_pay1 (iblk m c 0 t) (iblk m c 1 t) (ix2 i j) : EReal) = part m c i j (t.val / 2) (t.val % 2) := by
  rw [pay1_e]
  exact Finset.sum_congr rfl fun k _ => congrArg₂ (· * ·) (b0 m c t i k) (b1 m c t j k)

theorem outs_e (t : Fin cfg0.N) (i j : Fin 1024) :
    (outsAt0 m c t.val t.isLt (ix2 i j) : EReal) = ∑ r ∈ Finset.range (t.val % 2 + 1), part m c i j (t.val / 2) r := by
  refine run_sum (nk := 2) (by norm_num) (fun t : Fin cfg0.N => (outsAt0 m c t.val t.isLt (ix2 i j) : EReal)) (part m c i j) (fun t h => ?_) (fun t h => ?_) t
  · rw [outsAt0_A m c t h (by omega), out_A, pay1_t, h]
  · rw [outsAt0_B m c t h (by omega), out_B, pay2_e, pay1_t]

/-- The result is the product of the first array with the transposed second. -/
theorem arr : (dats m 0 c).arrAt 2 cfg0.N = fun y : S8192x1024.Idx => (∑ k : Fin 5632, X0 m c (ix2 (y 0) k) * X1 m c (ix2 (y 1) k) : EReal) := by
  refine (dats m 0 c).arrAt_eq_of_covers 2 _ (by decide +kernel) fun t hf y => ?_
  have ht := t_lt t
  have hr : t.val % 2 = 1 := (flush0_2 t).mp hf
  have e := i2 t
  blk_simp
  rw [after0_2]
  obtain ⟨i, j, rfl⟩ : ∃ (i j : Fin 1024), y = ix2 i j := ⟨y 0, y 1, (ix2_eta y).symm⟩
  rw [outs_e, hr]
  have h0 : ((win0_2.blk t).view.emb (ix2 i j) 0 : Fin 8192) = pos 8192 (t.val / 2 * 1024 + i.val) := Fin.ext (by
    blk_simp [e.1]; exact (pos_val (K := 8192) (by omega)).symm)
  have h1 : ((win0_2.blk t).view.emb (ix2 i j) 1 : Fin 1024) = j := Fin.ext (by blk_simp [e.2])
  exact (split_sum (nk := 2) (tk := 2816) (by norm_num) fun k : Fin 5632 => X0 m c (ix2 (pos 8192 (t.val / 2 * 1024 + i.val)) k) * X1 m c (ix2 j k)).trans
    (Finset.sum_congr rfl fun k _ => by rw [h0, h1])

/-- The reference's product, entry by entry. -/
theorem ref_e (x0 : Vec Ideal S8192x5632 .bf16) (x1 : Vec Ideal S1024x5632 .bf16) :
    (Host.dotGeneral (F := Ideal) Cert.Reference7Ideal.dot_S8192x5632_S1024x5632_S8192x1024_1_1_0_0_n_n none (extf .f32 x0 Cert.Reference7Ideal.Gen.bitsLt_bf16_f32) (extf .f32 x1 Cert.Reference7Ideal.Gen.bitsLt_bf16_f32) : Vec Ideal S8192x1024 .f32)
      = fun y => (∑ k : Fin 5632, x0 (ix2 (y 0) k) * x1 (ix2 (y 1) k) : EReal) := by
  funext y
  pointwise

/-- The kernel's product is the reference's gradient. -/
theorem algebraic : @Cert.algebraic_Kernel7Ideal_Reference7Ideal Cert.Kernel7Ideal.Gen.facts Cert.Reference7Ideal.Gen.facts :=
  fun m g m' g' _ hm => ⟨fun c => (dats m 0 c).arrAt 2 cfg0.N,
    Cert.Kernel7Ideal.Value.run_blocks m g,
    (θ_run _ _ _).mono (fun r h c => by
      refine ⟨(h c).1.trans ?_, (h c).2⟩
      rw [(hm c).1, (hm c).2]
      exact (ref_e _ _).trans (arr m c).symm) (Cert.Reference7Ideal.Value.run (F := Ideal) m' g')⟩

/-- On the chip's words the two printed kernels have one body table. -/
theorem defs_eq : Cert.Kernel7.defs (F := Bits) = Cert.Kernel7Ideal.defs (F := Bits) := by
  have h : Cert.Kernel7.defs₀ (F := Bits) = Cert.Kernel7Ideal.defs₀ (F := Bits) := by
    unfold Cert.Kernel7.defs₀ Cert.Kernel7Ideal.defs₀
    refine congrArg Defs.onTc ?_
    funext l x
    match l, x with
    | 0, (t, s) => rfl
  show Pipeline.defs (Cert.Kernel7.pcfgs (F := Bits)) (Cert.Kernel7.defs₀ (F := Bits)) = _
  rw [h]
  rfl

/-- The kernel's frame on the chip's words: its text is `Kernel7Ideal`'s, so one run serves both. -/
theorem frame_kernel : @Cert.quiescent_Kernel7 Cert.Kernel7.Gen.facts := fun m g _ => by
  have h := Cert.Kernel7Ideal.Gen.frame (F := Bits) m g
  rw [← defs_eq] at h
  exact h

/-- The same frame over the extended reals. -/
theorem frame_ideal : @Cert.quiescent_Kernel7Ideal Cert.Kernel7Ideal.Gen.facts := fun m g _ =>
  Cert.Kernel7Ideal.Gen.frame m g

/-- The reference's frame. -/
theorem frame_ref : @Cert.quiescent_Reference7Ideal Cert.Reference7Ideal.Gen.facts := fun m g _ =>
  (θ_run _ _ _).mono (fun r h => ⟨fun c => (h c).2, sem_eq_zero_of_no_sems (by decide) r.2⟩) (Cert.Reference7Ideal.Value.run m g)

end Cert.Proof.DH

end
-- ==== Proof.DWOut.lean ====
module

public import proofs.«01_k».proof.Proof.Product
public import proofs.«01_k».proof.Defs
public import proofs.«01_k».proof.Proof.Gen.Kernel8
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise
public import Idealize.ShloMosaic.Lib.Quiescent

@[expose] public section

set_option maxRecDepth 16384

noncomputable section

/-! Kernel 8, the gradient of the output projection's weights: a product accumulated block by block, against reference 8. -/

namespace Cert.Proof.DWOut

open Cert.Kernel8Ideal Cert.Kernel8Ideal.Gen Cert.Proof.Product
open Idealize.ShloMosaic Idealize.ShloMosaic.TcCoe Idealize.SL.Sem
open scoped BigOperators

theorem hz : (![0, 0] : Fin 2 → Nat) = fun _ => 0 := funext fun a => by fin_cases a <;> rfl

section
variable {F : FTy → Type} [FloatOps F]

theorem out_A (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .f32) (h5 : a5.IsWhole)
    (hc0 : cond0_0 i) (hc1 : ¬cond0_1 i) (x0 : Vec F S2048x1024 .bf16) (x1 : Vec F S2048x1024 .bf16) :
    out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero hz]
  simp only [View.readAt_eq_ld, h3.read_unread, h4.read_unread, View.ld_unit_zero (S := S2048x1024) hz]

theorem out_B (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .f32) (h5 : a5.IsWhole)
    (hc0 : ¬cond0_0 i) (hc1 : cond0_1 i) (x0 : Vec F S2048x1024 .bf16) (x1 : Vec F S2048x1024 .bf16) (xo : Vec F S1024x1024 .f32) :
    out0_B_2 c i a3 h3 a4 h4 a5 h5 hc0 hc1 x0 x1 xo = k0_pay2 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero hz]
  simp only [View.readAt_eq_ld, h3.read_unread, h4.read_unread, h5.read_unread, View.ld_unit_zero (S := S2048x1024) hz, View.ld_unit_zero (S := S1024x1024) hz]

end

theorem pay1_e (x0 : Vec Ideal S2048x1024 .bf16) (x1 : Vec Ideal S2048x1024 .bf16) (y : S1024x1024.Idx) :
    (k0_pay1 x0 x1 y : EReal) = ∑ k : Fin 2048, x0 (ix2 k (y 0)) * x1 (ix2 k (y 1)) := by
  unfold k0_pay1
  pointwise

theorem pay2_e (x0 : Vec Ideal S2048x1024 .bf16) (x1 : Vec Ideal S2048x1024 .bf16) (xo : Vec Ideal S1024x1024 .f32) (y : S1024x1024.Idx) :
    (k0_pay2 x0 x1 xo y : EReal) = xo y + k0_pay1 x0 x1 y := by
  unfold k0_pay2
  rw [shapeCast_self]
  rfl

theorem i0 : ∀ t : Fin cfg0.N, win0_0.index t (0 : Fin 2) = t.val % 4 ∧ win0_0.index t (1 : Fin 2) = 0 := (by decide +kernel : ∀ t : Fin grid0.N, _)
theorem i1 : ∀ t : Fin cfg0.N, win0_1.index t (0 : Fin 2) = t.val % 4 ∧ win0_1.index t (1 : Fin 2) = 0 := (by decide +kernel : ∀ t : Fin grid0.N, _)
theorem i2 : ∀ t : Fin cfg0.N, win0_2.index t (0 : Fin 2) = 0 ∧ win0_2.index t (1 : Fin 2) = 0 := (by decide +kernel : ∀ t : Fin grid0.N, _)

variable (m : (ℓ : Loc nD τ sig) → Buf (Elt Ideal) ℓ) (c : Dev nD)

abbrev X0 : S8192x1024.Idx → EReal := m ((c.tc : Thread nD τ).loc main_arg0)
abbrev X1 : S8192x1024.Idx → EReal := m ((c.tc : Thread nD τ).loc main_arg1)

theorem t_lt (t : Fin cfg0.N) : t.val < 4 := Nat.lt_of_lt_of_eq t.isLt N_0

theorem b0 (t : Fin cfg0.N) (k : Fin 2048) (i : Fin 1024) :
    (iblk m c 0 t (ix2 k i) : EReal) = X0 m c (ix2 (pos 8192 (t.val % 4 * 2048 + k.val)) i) := by
  have e := i0 t
  have := t_lt t
  blk_simp [iblk]
  refine (congrFun (V_main_arg0 m c) _).trans (congrArg (X0 m c) ?_)
  funext a
  refine Fin.ext ?_
  match a with
  | ⟨0, _⟩ => blk_simp [e.1]; exact (pos_val (by omega)).symm
  | ⟨1, _⟩ => blk_simp [e.2]

theorem b1 (t : Fin cfg0.N) (k : Fin 2048) (j : Fin 1024) :
    (iblk m c 1 t (ix2 k j) : EReal) = X1 m c (ix2 (pos 8192 (t.val % 4 * 2048 + k.val)) j) := by
  have e := i1 t
  have := t_lt t
  blk_simp [iblk]
  refine (congrFun (V_main_arg1 m c) _).trans (congrArg (X1 m c) ?_)
  funext a
  refine Fin.ext ?_
  match a with
  | ⟨0, _⟩ => blk_simp [e.1]; exact (pos_val (by omega)).symm
  | ⟨1, _⟩ => blk_simp [e.2]

/-- What block `r` of the rows adds to an entry of the product. -/
def part (i : Fin 1024) (j : Fin 1024) (r : ℕ) : EReal :=
  ∑ k : Fin 2048, X0 m c (ix2 (pos 8192 (r * 2048 + k.val)) i) * X1 m c (ix2 (pos 8192 (r * 2048 + k.val)) j)

theorem pay1_t (t : Fin cfg0.N) (i : Fin 1024) (j : Fin 1024) :
    (k0_pay1 (iblk m c 0 t) (iblk m c 1 t) (ix2 i j) : EReal) = part m c i j (t.val % 4) := by
  rw [pay1_e]
  exact Finset.sum_congr rfl fun k _ => congrArg₂ (· * ·) (b0 m c t k i) (b1 m c t k j)

theorem outs_e (t : Fin cfg0.N) (i : Fin 1024) (j : Fin 1024) :
    (outsAt0 m c t.val t.isLt (ix2 i j) : EReal) = ∑ r ∈ Finset.range (t.val % 4 + 1), part m c i j r := by
  refine run_sum (nk := 4) (by norm_num) (fun t : Fin cfg0.N => (outsAt0 m c t.val t.isLt (ix2 i j) : EReal)) (fun _ => part m c i j) (fun t h => ?_) (fun t h => ?_) t
  · rw [outsAt0_A m c t h (by have := t_lt t; omega), out_A, pay1_t, h]
  · rw [outsAt0_B m c t h (by have := t_lt t; omega), out_B, pay2_e, pay1_t]

/-- The result is the product of the transposed first array with the second. -/
theorem arr : (dats m 0 c).arrAt 2 cfg0.N = fun y : S1024x1024.Idx => (∑ k : Fin 8192, X0 m c (ix2 k (y 0)) * X1 m c (ix2 k (y 1)) : EReal) := by
  refine (dats m 0 c).arrAt_eq_of_covers 2 _ (by decide +kernel) fun t hf y => ?_
  have ht := t_lt t
  have hr : t.val % 4 = 3 := (flush0_2 t).mp hf
  have e := i2 t
  blk_simp
  rw [after0_2]
  obtain ⟨i, j, rfl⟩ : ∃ (i : Fin 1024) (j : Fin 1024), y = ix2 i j := ⟨y 0, y 1, (ix2_eta y).symm⟩
  rw [outs_e, hr]
  have h0 : ((win0_2.blk t).view.emb (ix2 i j) 0 : Fin 1024) = i := Fin.ext (by blk_simp [e.1])
  have h1 : ((win0_2.blk t).view.emb (ix2 i j) 1 : Fin 1024) = j := Fin.ext (by blk_simp [e.2])
  exact (split_sum (nk := 4) (tk := 2048) (by norm_num) fun k : Fin 8192 => X0 m c (ix2 k i) * X1 m c (ix2 k j)).trans
    (Finset.sum_congr rfl fun k _ => by rw [h0, h1])

/-- The reference's product, entry by entry. -/
theorem ref_e (x0 : Vec Ideal S8192x1024 .bf16) (x1 : Vec Ideal S8192x1024 .bf16) :
    (transpose S1024x1024 [1, 0] (Host.dotGeneral (F := Ideal) Cert.Reference8Ideal.dot_S8192x1024_S8192x1024_S1024x1024_0_0_1_1_n_n none (extf .f32 x1 Cert.Reference8Ideal.Gen.bitsLt_bf16_f32) (extf .f32 x0 Cert.Reference8Ideal.Gen.bitsLt_bf16_f32)) Cert.Reference8Ideal.Gen.transposes_S1024x1024_S1024x1024_1_0 : Vec Ideal S1024x1024 .f32)
      = fun y => (∑ k : Fin 8192, x0 (ix2 k (y 0)) * x1 (ix2 k (y 1)) : EReal) := by
  funext y
  pointwise
  exact Finset.sum_congr rfl fun k _ => mul_comm _ _

/-- The kernel's product is the reference's gradient. -/
theorem algebraic : @Cert.algebraic_Kernel8Ideal_Reference8Ideal Cert.Kernel8Ideal.Gen.facts Cert.Reference8Ideal.Gen.facts :=
  fun m g m' g' _ hm => ⟨fun c => (dats m 0 c).arrAt 2 cfg0.N,
    Cert.Kernel8Ideal.Value.run_blocks m g,
    (θ_run _ _ _).mono (fun r h c => by
      refine ⟨(h c).1.trans ?_, (h c).2⟩
      rw [(hm c).1, (hm c).2]
      exact (ref_e _ _).trans (arr m c).symm) (Cert.Reference8Ideal.Value.run (F := Ideal) m' g')⟩

/-- On the chip's words the two printed kernels have one body table. -/
theorem defs_eq : Cert.Kernel8.defs (F := Bits) = Cert.Kernel8Ideal.defs (F := Bits) := by
  have h : Cert.Kernel8.defs₀ (F := Bits) = Cert.Kernel8Ideal.defs₀ (F := Bits) := by
    unfold Cert.Kernel8.defs₀ Cert.Kernel8Ideal.defs₀
    refine congrArg Defs.onTc ?_
    funext l x
    match l, x with
    | 0, (t, s) => rfl
  show Pipeline.defs (Cert.Kernel8.pcfgs (F := Bits)) (Cert.Kernel8.defs₀ (F := Bits)) = _
  rw [h]
  rfl

/-- The kernel's frame on the chip's words: its text is `Kernel8Ideal`'s, so one run serves both. -/
theorem frame_kernel : @Cert.quiescent_Kernel8 Cert.Kernel8.Gen.facts := fun m g _ => by
  have h := Cert.Kernel8Ideal.Gen.frame (F := Bits) m g
  rw [← defs_eq] at h
  exact h

/-- The same frame over the extended reals. -/
theorem frame_ideal : @Cert.quiescent_Kernel8Ideal Cert.Kernel8Ideal.Gen.facts := fun m g _ =>
  Cert.Kernel8Ideal.Gen.frame m g

/-- The reference's frame. -/
theorem frame_ref : @Cert.quiescent_Reference8Ideal Cert.Reference8Ideal.Gen.facts := fun m g _ =>
  (θ_run _ _ _).mono (fun r h => ⟨fun c => (h c).2, sem_eq_zero_of_no_sems (by decide) r.2⟩) (Cert.Reference8Ideal.Value.run m g)

end Cert.Proof.DWOut

end
-- ==== Proof.DMerge.lean ====
module

public import proofs.«01_k».proof.Proof.Product
public import proofs.«01_k».proof.Defs
public import proofs.«01_k».proof.Proof.Gen.Kernel9
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise
public import Idealize.ShloMosaic.Lib.Quiescent

@[expose] public section

set_option maxRecDepth 16384

noncomputable section

/-! The gradients of the two gates and the two branches they merge: kernel 9 against reference 9. -/

namespace Cert.Proof.DMerge

open Cert.Kernel9Ideal Cert.Kernel9Ideal.Gen Cert.Proof.Product
open Idealize.ShloMosaic Idealize.ShloMosaic.TcCoe Idealize.SL.Sem
open scoped BigOperators

theorem hz : (![0, 0] : Fin 2 → Nat) = fun _ => 0 := funext fun a => by fin_cases a <;> rfl

/-- The gradient of a gate's logit `s`: of the merged value's cotangent `d` and the gated branch's value `v`. -/
def dGate (d s v : EReal) : EReal := d * v * (Ideal.logistic s * (1 - Ideal.logistic s))

/-- The gradient of a branch whose gate's logit is `s`. -/
def dBranch (d s : EReal) : EReal := Ideal.logistic s * d

section
variable (x0 : Vec Ideal S512x1024 .bf16) (x1 : Vec Ideal S1024x1024 .bf16) (x2 x3 x4 x5 : Vec Ideal S512x1024 .f32) (y : S512x1024.Idx)

/-- The merged value's cotangent in a block: the product with the transposed weights. -/
def prod : EReal := ∑ k : Fin 1024, x0 (ix2 (y 0) k) * x1 (ix2 (y 1) k)

theorem out6_e : (out0_6 x0 x1 x2 x3 x4 x5 y : EReal) = dGate (prod x0 x1 y) (x2 y) (x4 y) := by
  unfold out0_6
  rw [View.canon_unit_zero hz]
  simp only [View.ld_unit_zero (S := S512x1024) hz, View.ld_unit_zero (S := S1024x1024) hz]
  unfold k0_pay4 k0_pay1 k0_pay2 dGate prod
  pointwise

theorem out7_e : (out0_7 x0 x1 x2 x3 x4 x5 y : EReal) = dGate (prod x0 x1 y) (x3 y) (x5 y) := by
  unfold out0_7
  rw [View.canon_unit_zero hz]
  simp only [View.ld_unit_zero (S := S512x1024) hz, View.ld_unit_zero (S := S1024x1024) hz]
  unfold k0_pay5 k0_pay1 k0_pay3 dGate prod
  pointwise

theorem out8_e : (out0_8 x0 x1 x2 x3 x4 x5 y : EReal) = dBranch (prod x0 x1 y) (x2 y) := by
  unfold out0_8
  rw [View.canon_unit_zero hz]
  simp only [View.ld_unit_zero (S := S512x1024) hz, View.ld_unit_zero (S := S1024x1024) hz]
  unfold k0_pay6 k0_pay1 k0_pay2 dBranch prod
  pointwise

theorem out9_e : (out0_9 x0 x1 x2 x3 x4 x5 y : EReal) = dBranch (prod x0 x1 y) (x3 y) := by
  unfold out0_9
  rw [View.canon_unit_zero hz]
  simp only [View.ld_unit_zero (S := S512x1024) hz, View.ld_unit_zero (S := S1024x1024) hz]
  unfold k0_pay7 k0_pay1 k0_pay3 dBranch prod
  pointwise

end

theorem i0 : ∀ t : Fin cfg0.N, win0_0.index t (0 : Fin 2) = t.val ∧ win0_0.index t (1 : Fin 2) = 0 := (by decide +kernel : ∀ t : Fin grid0.N, _)
theorem i1 : ∀ t : Fin cfg0.N, win0_1.index t (0 : Fin 2) = 0 ∧ win0_1.index t (1 : Fin 2) = 0 := (by decide +kernel : ∀ t : Fin grid0.N, _)
theorem i2 : ∀ t : Fin cfg0.N, win0_2.index t (0 : Fin 2) = t.val ∧ win0_2.index t (1 : Fin 2) = 0 := (by decide +kernel : ∀ t : Fin grid0.N, _)
theorem i3 : ∀ t : Fin cfg0.N, win0_3.index t (0 : Fin 2) = t.val ∧ win0_3.index t (1 : Fin 2) = 1 := (by decide +kernel : ∀ t : Fin grid0.N, _)
theorem i4 : ∀ t : Fin cfg0.N, win0_4.index t (0 : Fin 2) = t.val ∧ win0_4.index t (1 : Fin 2) = 0 := (by decide +kernel : ∀ t : Fin grid0.N, _)
theorem i5 : ∀ t : Fin cfg0.N, win0_5.index t (0 : Fin 2) = t.val ∧ win0_5.index t (1 : Fin 2) = 0 := (by decide +kernel : ∀ t : Fin grid0.N, _)
theorem i6 : ∀ t : Fin cfg0.N, win0_6.index t (0 : Fin 2) = t.val ∧ win0_6.index t (1 : Fin 2) = 0 := (by decide +kernel : ∀ t : Fin grid0.N, _)
theorem i7 : ∀ t : Fin cfg0.N, win0_7.index t (0 : Fin 2) = t.val ∧ win0_7.index t (1 : Fin 2) = 0 := (by decide +kernel : ∀ t : Fin grid0.N, _)
theorem i8 : ∀ t : Fin cfg0.N, win0_8.index t (0 : Fin 2) = t.val ∧ win0_8.index t (1 : Fin 2) = 0 := (by decide +kernel : ∀ t : Fin grid0.N, _)
theorem i9 : ∀ t : Fin cfg0.N, win0_9.index t (0 : Fin 2) = t.val ∧ win0_9.index t (1 : Fin 2) = 0 := (by decide +kernel : ∀ t : Fin grid0.N, _)

variable (m : (ℓ : Loc nD τ sig) → Buf (Elt Ideal) ℓ) (c : Dev nD)

abbrev X0 : S8192x1024.Idx → EReal := m ((c.tc : Thread nD τ).loc main_arg0)
abbrev X1 : S1024x1024.Idx → EReal := m ((c.tc : Thread nD τ).loc main_arg1)
abbrev X2 : S8192x5120.Idx → EReal := m ((c.tc : Thread nD τ).loc main_arg2)
abbrev X3 : S8192x1024.Idx → EReal := m ((c.tc : Thread nD τ).loc main_arg3)
abbrev X4 : S8192x1024.Idx → EReal := m ((c.tc : Thread nD τ).loc main_arg4)

/-- The columns of the two gates' logits. -/
def colA (j : Fin 1024) : Fin 5120 := ⟨j.val, by omega⟩
def colB (j : Fin 1024) : Fin 5120 := ⟨1024 + j.val, by omega⟩

theorem t_lt (t : Fin cfg0.N) : t.val < 16 := Nat.lt_of_lt_of_eq t.isLt N_0

/-- The row of the array that row `i` of grid point `n`'s block is. -/
def row (n : ℕ) (i : Fin 512) : Fin 8192 := pos 8192 (n * 512 + i.val)

theorem row_val (t : Fin cfg0.N) (i : Fin 512) : (row t.val i).val = t.val * 512 + i.val := pos_val (by have := t_lt t; omega)

theorem b0 (t : Fin cfg0.N) (i : Fin 512) (k : Fin 1024) : (iblk m c 0 t (ix2 i k) : EReal) = X0 m c (ix2 (row t.val i) k) := by
  have e := i0 t
  blk_simp [iblk]
  refine (congrFun (V_main_arg0 m c) _).trans (congrArg (X0 m c) (funext fun a => Fin.ext ?_))
  match a with
  | ⟨0, _⟩ => blk_simp [e.1]; exact (row_val t i).symm
  | ⟨1, _⟩ => blk_simp [e.2]

theorem b1 (t : Fin cfg0.N) (j k : Fin 1024) : (iblk m c 1 t (ix2 j k) : EReal) = X1 m c (ix2 j k) := by
  have e := i1 t
  blk_simp [iblk]
  refine (congrFun (V_main_arg1 m c) _).trans (congrArg (X1 m c) (funext fun a => Fin.ext ?_))
  match a with
  | ⟨0, _⟩ => blk_simp [e.1]
  | ⟨1, _⟩ => blk_simp [e.2]

theorem b2 (t : Fin cfg0.N) (i : Fin 512) (j : Fin 1024) : (iblk m c 2 t (ix2 i j) : EReal) = X2 m c (ix2 (row t.val i) (colA j)) := by
  have e := i2 t
  blk_simp [iblk]
  refine (congrFun (V_main_arg2 m c) _).trans (congrArg (X2 m c) (funext fun a => Fin.ext ?_))
  match a with
  | ⟨0, _⟩ => blk_simp [e.1]; exact (row_val t i).symm
  | ⟨1, _⟩ => blk_simp [e.2]; rfl

theorem b3 (t : Fin cfg0.N) (i : Fin 512) (j : Fin 1024) : (iblk m c 3 t (ix2 i j) : EReal) = X2 m c (ix2 (row t.val i) (colB j)) := by
  have e := i3 t
  blk_simp [iblk]
  refine (congrFun (V_main_arg2 m c) _).trans (congrArg (X2 m c) (funext fun a => Fin.ext ?_))
  match a with
  | ⟨0, _⟩ => blk_simp [e.1]; exact (row_val t i).symm
  | ⟨1, _⟩ => blk_simp [e.2]; rfl

theorem b4 (t : Fin cfg0.N) (i : Fin 512) (j : Fin 1024) : (iblk m c 4 t (ix2 i j) : EReal) = X3 m c (ix2 (row t.val i) j) := by
  have e := i4 t
  blk_simp [iblk]
  refine (congrFun (V_main_arg3 m c) _).trans (congrArg (X3 m c) (funext fun a => Fin.ext ?_))
  match a with
  | ⟨0, _⟩ => blk_simp [e.1]; exact (row_val t i).symm
  | ⟨1, _⟩ => blk_simp [e.2]

theorem b5 (t : Fin cfg0.N) (i : Fin 512) (j : Fin 1024) : (iblk m c 5 t (ix2 i j) : EReal) = X4 m c (ix2 (row t.val i) j) := by
  have e := i5 t
  blk_simp [iblk]
  refine (congrFun (V_main_arg4 m c) _).trans (congrArg (X4 m c) (funext fun a => Fin.ext ?_))
  match a with
  | ⟨0, _⟩ => blk_simp [e.1]; exact (row_val t i).symm
  | ⟨1, _⟩ => blk_simp [e.2]

/-- The merged value's cotangent, and the two gates' logits, at a row and a column. -/
def D (r : Fin 8192) (j : Fin 1024) : EReal := ∑ k : Fin 1024, X0 m c (ix2 r k) * X1 m c (ix2 j k)
def ga (r : Fin 8192) (j : Fin 1024) : EReal := X2 m c (ix2 r (colA j))
def gb (r : Fin 8192) (j : Fin 1024) : EReal := X2 m c (ix2 r (colB j))

theorem prod_e (t : Fin cfg0.N) (i : Fin 512) (j : Fin 1024) : prod (iblk m c 0 t) (iblk m c 1 t) (ix2 i j) = D m c (row t.val i) j :=
  Finset.sum_congr rfl fun k _ => congrArg₂ (· * ·) (b0 m c t i k) (b1 m c t j k)

theorem arr6 : (dats m 0 c).arrAt 6 cfg0.N = fun y : S8192x1024.Idx => dGate (D m c (y 0) (y 1)) (ga m c (y 0) (y 1)) (X3 m c (ix2 (y 0) (y 1))) := by
  refine (dats m 0 c).arrAt_eq_of_covers 6 _ (by decide +kernel) fun t hf y => ?_
  have e := i6 t
  blk_simp
  obtain ⟨i, j, rfl⟩ : ∃ (i : Fin 512) (j : Fin 1024), y = ix2 i j := ⟨y 0, y 1, (ix2_eta y).symm⟩
  have h0 : ((win0_6.blk t).view.emb (ix2 i j) 0 : Fin 8192) = row t.val i := Fin.ext (by blk_simp [e.1]; exact (row_val t i).symm)
  have h1 : ((win0_6.blk t).view.emb (ix2 i j) 1 : Fin 1024) = j := Fin.ext (by blk_simp [e.2])
  rw [after0_6, out6_e, prod_e, b2, b4, h0, h1]
  rfl

theorem arr7 : (dats m 0 c).arrAt 7 cfg0.N = fun y : S8192x1024.Idx => dGate (D m c (y 0) (y 1)) (gb m c (y 0) (y 1)) (X4 m c (ix2 (y 0) (y 1))) := by
  refine (dats m 0 c).arrAt_eq_of_covers 7 _ (by decide +kernel) fun t hf y => ?_
  have e := i7 t
  blk_simp
  obtain ⟨i, j, rfl⟩ : ∃ (i : Fin 512) (j : Fin 1024), y = ix2 i j := ⟨y 0, y 1, (ix2_eta y).symm⟩
  have h0 : ((win0_7.blk t).view.emb (ix2 i j) 0 : Fin 8192) = row t.val i := Fin.ext (by blk_simp [e.1]; exact (row_val t i).symm)
  have h1 : ((win0_7.blk t).view.emb (ix2 i j) 1 : Fin 1024) = j := Fin.ext (by blk_simp [e.2])
  rw [after0_7, out7_e, prod_e, b3, b5, h0, h1]
  rfl

theorem arr8 : (dats m 0 c).arrAt 8 cfg0.N = fun y : S8192x1024.Idx => dBranch (D m c (y 0) (y 1)) (ga m c (y 0) (y 1)) := by
  refine (dats m 0 c).arrAt_eq_of_covers 8 _ (by decide +kernel) fun t hf y => ?_
  have e := i8 t
  blk_simp
  obtain ⟨i, j, rfl⟩ : ∃ (i : Fin 512) (j : Fin 1024), y = ix2 i j := ⟨y 0, y 1, (ix2_eta y).symm⟩
  have h0 : ((win0_8.blk t).view.emb (ix2 i j) 0 : Fin 8192) = row t.val i := Fin.ext (by blk_simp [e.1]; exact (row_val t i).symm)
  have h1 : ((win0_8.blk t).view.emb (ix2 i j) 1 : Fin 1024) = j := Fin.ext (by blk_simp [e.2])
  rw [after0_8, out8_e, prod_e, b2, h0, h1]
  rfl

theorem arr9 : (dats m 0 c).arrAt 9 cfg0.N = fun y : S8192x1024.Idx => dBranch (D m c (y 0) (y 1)) (gb m c (y 0) (y 1)) := by
  refine (dats m 0 c).arrAt_eq_of_covers 9 _ (by decide +kernel) fun t hf y => ?_
  have e := i9 t
  blk_simp
  obtain ⟨i, j, rfl⟩ : ∃ (i : Fin 512) (j : Fin 1024), y = ix2 i j := ⟨y 0, y 1, (ix2_eta y).symm⟩
  have h0 : ((win0_9.blk t).view.emb (ix2 i j) 0 : Fin 8192) = row t.val i := Fin.ext (by blk_simp [e.1]; exact (row_val t i).symm)
  have h1 : ((win0_9.blk t).view.emb (ix2 i j) 1 : Fin 1024) = j := Fin.ext (by blk_simp [e.2])
  rw [after0_9, out9_e, prod_e, b3, h0, h1]
  rfl

/-- The kernel's four gradients are the reference's. -/
theorem algebraic : @Cert.algebraic_Kernel9Ideal_Reference9Ideal Cert.Kernel9Ideal.Gen.facts Cert.Reference9Ideal.Gen.facts :=
  fun m g m' g' _ hm => ⟨fun c => (dats m 0 c).arrAt 6 cfg0.N, fun c => (dats m 0 c).arrAt 7 cfg0.N, fun c => (dats m 0 c).arrAt 8 cfg0.N, fun c => (dats m 0 c).arrAt 9 cfg0.N,
    Cert.Kernel9Ideal.Value.run_blocks m g,
    (θ_run _ _ _).mono (fun r h c => by
      obtain ⟨h0, h1, h2, h3, h4⟩ := hm c
      refine ⟨(h c).1.trans ?_, (h c).2.1.trans ?_, (h c).2.2.1.trans ?_, (h c).2.2.2.1.trans ?_, (h c).2.2.2.2⟩
      · rw [h0, h1, h2, h3]
        refine Eq.trans ?_ (arr6 m c).symm
        funext y
        pointwise
        rfl
      · rw [h0, h1, h2, h4]
        refine Eq.trans ?_ (arr7 m c).symm
        funext y
        pointwise
        rfl
      · rw [h0, h1, h2]
        refine Eq.trans ?_ (arr8 m c).symm
        funext y
        pointwise
        rfl
      · rw [h0, h1, h2]
        refine Eq.trans ?_ (arr9 m c).symm
        funext y
        pointwise
        rfl) (Cert.Reference9Ideal.Value.run (F := Ideal) m' g')⟩

/-- On the chip's words the two printed kernels have one body table. -/
theorem defs_eq : Cert.Kernel9.defs (F := Bits) = Cert.Kernel9Ideal.defs (F := Bits) := by
  have h : Cert.Kernel9.defs₀ (F := Bits) = Cert.Kernel9Ideal.defs₀ (F := Bits) := by
    unfold Cert.Kernel9.defs₀ Cert.Kernel9Ideal.defs₀
    refine congrArg Defs.onTc ?_
    funext l x
    match l, x with
    | 0, (t, s) => rfl
  show Pipeline.defs (Cert.Kernel9.pcfgs (F := Bits)) (Cert.Kernel9.defs₀ (F := Bits)) = _
  rw [h]
  rfl

/-- The kernel's frame on the chip's words: its text is `Kernel9Ideal`'s, so one run serves both. -/
theorem frame_kernel : @Cert.quiescent_Kernel9 Cert.Kernel9.Gen.facts := fun m g _ => by
  have h := Cert.Kernel9Ideal.Gen.frame (F := Bits) m g
  rw [← defs_eq] at h
  exact h

/-- The same frame over the extended reals. -/
theorem frame_ideal : @Cert.quiescent_Kernel9Ideal Cert.Kernel9Ideal.Gen.facts := fun m g _ =>
  Cert.Kernel9Ideal.Gen.frame m g

/-- The reference's frame. -/
theorem frame_ref : @Cert.quiescent_Reference9Ideal Cert.Reference9Ideal.Gen.facts := fun m g _ =>
  (θ_run _ _ _).mono (fun r h => ⟨fun c => (h c).2.2.2.2, sem_eq_zero_of_no_sems (by decide) r.2⟩) (Cert.Reference9Ideal.Value.run m g)

end Cert.Proof.DMerge

end
-- ==== Proof.DOAttn.lean ====
module

public import proofs.«01_k».proof.Proof.Product
public import proofs.«01_k».proof.Defs
public import proofs.«01_k».proof.Proof.Gen.Kernel10
public import proofs.«01_k».proof.Proof.Gen.Kernel10Ideal.Value
public import proofs.«01_k».proof.Proof.Gen.Reference10Ideal.Run
public import Idealize.ShloMosaic.Lib.Pipeline.ValueKit
public import Idealize.ShloMosaic.Lib.Pointwise
public import Idealize.ShloMosaic.Lib.Quiescent

@[expose] public section

set_option maxRecDepth 16384

noncomputable section

/-! The gradient of the attention's output and its product with the output, summed over each head: kernel 10 against reference 10. -/

namespace Cert.Proof.DOAttn

open Cert.Kernel10Ideal Cert.Kernel10Ideal.Gen Cert.Proof.Product
open Idealize.ShloMosaic Idealize.ShloMosaic.TcCoe Idealize.SL.Sem
open scoped BigOperators

theorem hz : (![0, 0] : Fin 2 → Nat) = fun _ => 0 := funext fun a => by fin_cases a <;> rfl

/-- The sum of `f` over the 128 columns of the head column `j` belongs to. -/
def head (f : Fin 1024 → EReal) (j : Fin 1024) : EReal := ∑ k : Fin 128, f ⟨j.val / 128 * 128 + k.val, by omega⟩

/-- The same sum, the head's first column given. -/
theorem head_e (f : Fin 1024 → EReal) (j : Fin 1024) (o : ℕ) (ho : o + 128 ≤ 1024) (h : j.val / 128 * 128 = o) :
    ∑ k : Fin 128, f ⟨o + k.val, by omega⟩ = head f j := by
  subst h
  rfl

section
variable (x0 : Vec Ideal S512x1024 .bf16) (x1 : Vec Ideal S1024x1024 .bf16) (x2 : Vec Ideal S512x1024 .bf16)

/-- The gradient in a block: the product with the transposed weights. -/
def prod (i : Fin 512) (j : Fin 1024) : EReal := ∑ k : Fin 1024, x0 (ix2 i k) * x1 (ix2 j k)

theorem pay3_e (i : Fin 512) (j : Fin 1024) : (k0_pay3 x0 x1 (ix2 i j) : EReal) = prod x0 x1 i j := by
  unfold k0_pay3 prod
  pointwise

theorem out3_e (i : Fin 512) (j : Fin 1024) : (out0_3 x0 x1 x2 (ix2 i j) : EReal) = prod x0 x1 i j := by
  unfold out0_3
  rw [View.canon_unit_zero hz]
  simp only [View.ld_unit_zero (S := S512x1024) hz, View.ld_unit_zero (S := S1024x1024) hz]
  unfold k0_pay2
  pointwise
  exact pay3_e x0 x1 i j

theorem out4_e (i : Fin 512) (j : Fin 1024) :
    (out0_4 x0 x1 x2 (ix2 i j) : EReal) = head (fun k => x2 (ix2 i k) * prod x0 x1 i k) j := by
  unfold out0_4
  rw [View.canon_unit_zero hz]
  simp only [View.ld_unit_zero (S := S512x1024) hz, View.ld_unit_zero (S := S1024x1024) hz]
  unfold k0_pay1 k0_pay5 k0_pay6 k0_pay7 k0_pay8 k0_pay9 k0_pay10 k0_pay11 k0_pay12 k0_pay13 k0_pay14 k0_pay4
  pointwise
  simp only [pay3_e]
  have key := head_e (fun k => x2 (ix2 i k) * prod x0 x1 i k) j
  split_ifs
  · exact (Finset.sum_congr rfl fun k _ => by simp only [Nat.zero_add]).trans (key 0 (by norm_num) (by omega))
  · exact key 128 (by norm_num) (by omega)
  · exact key 256 (by norm_num) (by omega)
  · exact key 384 (by norm_num) (by omega)
  · exact key 512 (by norm_num) (by omega)
  · exact key 640 (by norm_num) (by omega)
  · exact key 768 (by norm_num) (by omega)
  · exact key 896 (by norm_num) (by omega)

end

theorem i0 : ∀ t : Fin cfg0.N, win0_0.index t (0 : Fin 2) = t.val ∧ win0_0.index t (1 : Fin 2) = 0 := (by decide +kernel : ∀ t : Fin grid0.N, _)
theorem i1 : ∀ t : Fin cfg0.N, win0_1.index t (0 : Fin 2) = 0 ∧ win0_1.index t (1 : Fin 2) = 0 := (by decide +kernel : ∀ t : Fin grid0.N, _)
theorem i2 : ∀ t : Fin cfg0.N, win0_2.index t (0 : Fin 2) = t.val ∧ win0_2.index t (1 : Fin 2) = 0 := (by decide +kernel : ∀ t : Fin grid0.N, _)
theorem i3 : ∀ t : Fin cfg0.N, win0_3.index t (0 : Fin 2) = t.val ∧ win0_3.index t (1 : Fin 2) = 0 := (by decide +kernel : ∀ t : Fin grid0.N, _)
theorem i4 : ∀ t : Fin cfg0.N, win0_4.index t (0 : Fin 2) = t.val ∧ win0_4.index t (1 : Fin 2) = 0 := (by decide +kernel : ∀ t : Fin grid0.N, _)

variable (m : (ℓ : Loc nD τ sig) → Buf (Elt Ideal) ℓ) (c : Dev nD)

abbrev X0 : S8192x1024.Idx → EReal := m ((c.tc : Thread nD τ).loc main_arg0)
abbrev X1 : S1024x1024.Idx → EReal := m ((c.tc : Thread nD τ).loc main_arg1)
abbrev X2 : S8192x1024.Idx → EReal := m ((c.tc : Thread nD τ).loc main_arg2)

theorem t_lt (t : Fin cfg0.N) : t.val < 16 := Nat.lt_of_lt_of_eq t.isLt N_0

/-- The row of the array that row `i` of grid point `n`'s block is. -/
def row (n : ℕ) (i : Fin 512) : Fin 8192 := pos 8192 (n * 512 + i.val)

theorem row_val (t : Fin cfg0.N) (i : Fin 512) : (row t.val i).val = t.val * 512 + i.val := pos_val (by have := t_lt t; omega)

theorem b0 (t : Fin cfg0.N) (i : Fin 512) (k : Fin 1024) : (iblk m c 0 t (ix2 i k) : EReal) = X0 m c (ix2 (row t.val i) k) := by
  have e := i0 t
  blk_simp [iblk]
  refine (congrFun (V_main_arg0 m c) _).trans (congrArg (X0 m c) (funext fun a => Fin.ext ?_))
  match a with
  | ⟨0, _⟩ => blk_simp [e.1]; exact (row_val t i).symm
  | ⟨1, _⟩ => blk_simp [e.2]

theorem b1 (t : Fin cfg0.N) (j k : Fin 1024) : (iblk m c 1 t (ix2 j k) : EReal) = X1 m c (ix2 j k) := by
  have e := i1 t
  blk_simp [iblk]
  refine (congrFun (V_main_arg1 m c) _).trans (congrArg (X1 m c) (funext fun a => Fin.ext ?_))
  match a with
  | ⟨0, _⟩ => blk_simp [e.1]
  | ⟨1, _⟩ => blk_simp [e.2]

theorem b2 (t : Fin cfg0.N) (i : Fin 512) (j : Fin 1024) : (iblk m c 2 t (ix2 i j) : EReal) = X2 m c (ix2 (row t.val i) j) := by
  have e := i2 t
  blk_simp [iblk]
  refine (congrFun (V_main_arg2 m c) _).trans (congrArg (X2 m c) (funext fun a => Fin.ext ?_))
  match a with
  | ⟨0, _⟩ => blk_simp [e.1]; exact (row_val t i).symm
  | ⟨1, _⟩ => blk_simp [e.2]

/-- The gradient at a row and a column. -/
def D (r : Fin 8192) (j : Fin 1024) : EReal := ∑ k : Fin 1024, X0 m c (ix2 r k) * X1 m c (ix2 j k)

theorem prod_e (t : Fin cfg0.N) (i : Fin 512) (j : Fin 1024) : prod (iblk m c 0 t) (iblk m c 1 t) i j = D m c (row t.val i) j :=
  Finset.sum_congr rfl fun k _ => congrArg₂ (· * ·) (b0 m c t i k) (b1 m c t j k)

theorem arr3 : (dats m 0 c).arrAt 3 cfg0.N = fun y : S8192x1024.Idx => D m c (y 0) (y 1) := by
  refine (dats m 0 c).arrAt_eq_of_covers 3 _ (by decide +kernel) fun t hf y => ?_
  have e := i3 t
  blk_simp
  obtain ⟨i, j, rfl⟩ : ∃ (i : Fin 512) (j : Fin 1024), y = ix2 i j := ⟨y 0, y 1, (ix2_eta y).symm⟩
  have h0 : ((win0_3.blk t).view.emb (ix2 i j) 0 : Fin 8192) = row t.val i := Fin.ext (by blk_simp [e.1]; exact (row_val t i).symm)
  have h1 : ((win0_3.blk t).view.emb (ix2 i j) 1 : Fin 1024) = j := Fin.ext (by blk_simp [e.2])
  rw [after0_3, out3_e, prod_e, h0, h1]

theorem arr4 : (dats m 0 c).arrAt 4 cfg0.N = fun y : S8192x1024.Idx =>
    head (fun k => X2 m c (ix2 (y 0) k) * D m c (y 0) k) (y 1) := by
  refine (dats m 0 c).arrAt_eq_of_covers 4 _ (by decide +kernel) fun t hf y => ?_
  have e := i4 t
  blk_simp
  obtain ⟨i, j, rfl⟩ : ∃ (i : Fin 512) (j : Fin 1024), y = ix2 i j := ⟨y 0, y 1, (ix2_eta y).symm⟩
  have h0 : ((win0_4.blk t).view.emb (ix2 i j) 0 : Fin 8192) = row t.val i := Fin.ext (by blk_simp [e.1]; exact (row_val t i).symm)
  have h1 : ((win0_4.blk t).view.emb (ix2 i j) 1 : Fin 1024) = j := Fin.ext (by blk_simp [e.2])
  rw [after0_4, out4_e, h0, h1]
  exact congrArg (head · j) (funext fun k => congrArg₂ (· * ·) (b2 m c t i k) (prod_e m c t i k))

/-- The kernel's gradient and its heads' sums are the reference's. -/
theorem algebraic : @Cert.algebraic_Kernel10Ideal_Reference10Ideal Cert.Kernel10Ideal.Gen.facts Cert.Reference10Ideal.Gen.facts :=
  fun m g m' g' _ hm => ⟨fun c => (dats m 0 c).arrAt 3 cfg0.N, fun c => (dats m 0 c).arrAt 4 cfg0.N,
    Cert.Kernel10Ideal.Value.run_blocks m g,
    (θ_run _ _ _).mono (fun r h c => by
      obtain ⟨h0, h1, h2⟩ := hm c
      refine ⟨(h c).1.trans ?_, (h c).2.1.trans ?_, (h c).2.2⟩
      · rw [h0, h1]
        refine Eq.trans ?_ (arr3 m c).symm
        funext y
        pointwise
        rfl
      · rw [h0, h1, h2]
        refine Eq.trans ?_ (arr4 m c).symm
        funext y
        pointwise
        rfl) (Cert.Reference10Ideal.Value.run (F := Ideal) m' g')⟩

/-- On the chip's words the two printed kernels have one body table. -/
theorem defs_eq : Cert.Kernel10.defs (F := Bits) = Cert.Kernel10Ideal.defs (F := Bits) := by
  have h : Cert.Kernel10.defs₀ (F := Bits) = Cert.Kernel10Ideal.defs₀ (F := Bits) := by
    unfold Cert.Kernel10.defs₀ Cert.Kernel10Ideal.defs₀
    refine congrArg Defs.onTc ?_
    funext l x
    match l, x with
    | 0, (t, s) => rfl
  show Pipeline.defs (Cert.Kernel10.pcfgs (F := Bits)) (Cert.Kernel10.defs₀ (F := Bits)) = _
  rw [h]
  rfl

/-- The kernel's frame on the chip's words: its text is `Kernel10Ideal`'s, so one run serves both. -/
theorem frame_kernel : @Cert.quiescent_Kernel10 Cert.Kernel10.Gen.facts := fun m g _ => by
  have h := Cert.Kernel10Ideal.Gen.frame (F := Bits) m g
  rw [← defs_eq] at h
  exact h

/-- The same frame over the extended reals. -/
theorem frame_ideal : @Cert.quiescent_Kernel10Ideal Cert.Kernel10Ideal.Gen.facts := fun m g _ =>
  Cert.Kernel10Ideal.Gen.frame m g

/-- The reference's frame. -/
theorem frame_ref : @Cert.quiescent_Reference10Ideal Cert.Reference10Ideal.Gen.facts := fun m g _ =>
  (θ_run _ _ _).mono (fun r h => ⟨fun c => (h c).2.2, sem_eq_zero_of_no_sems (by decide) r.2⟩) (Cert.Reference10Ideal.Value.run m g)

end Cert.Proof.DOAttn

end
-- ==== Proof.GateUp.lean ====
module

public import proofs.«01_k».proof.Proof.Product
public import proofs.«01_k».proof.Defs
public import proofs.«01_k».proof.Proof.Gen.Kernel11
public import proofs.«01_k».proof.Proof.Gen.Kernel11Ideal.Value
public import proofs.«01_k».proof.Proof.Gen.Reference11Ideal.Run
public import Idealize.ShloMosaic.Lib.Pipeline.ValueKit
public import Idealize.ShloMosaic.Lib.Pointwise
public import Idealize.ShloMosaic.Lib.Quiescent

@[expose] public section

set_option maxRecDepth 16384

noncomputable section

/-! The gate and up projections and the gated product: kernel 11 against reference 11. -/

namespace Cert.Proof.GateUp

open Cert.Kernel11Ideal Cert.Kernel11Ideal.Gen Cert.Proof.Product
open Idealize.ShloMosaic Idealize.ShloMosaic.TcCoe Idealize.SL.Sem
open scoped BigOperators

theorem hz : (![0, 0] : Fin 2 → Nat) = fun _ => 0 := funext fun a => by fin_cases a <;> rfl

/-- The block of gate values and of up values, one behind the other. -/
def both (x0 : Vec Ideal S1024x1024 .bf16) (x1 x2 : Vec Ideal S1024x1408 .bf16) (y : S2x1024x1408.Idx) : EReal :=
  ∑ k : Fin 1024, x0 (ix2 (y 1) k) * (if (y 0).val < 1 then x1 (ix2 k (y 2)) else x2 (ix2 k (y 2)))

theorem pay3_e (x0 : Vec Ideal S1024x1024 .bf16) (x1 x2 : Vec Ideal S1024x1408 .bf16) (i : Fin 1024) (j : Fin 1408) :
    (k0_pay3 x0 x1 (ix3 0 i j) : EReal) = both x0 x1 x2 (ix3 0 i j) := by
  unfold k0_pay3 k0_pay1 both
  pointwise

theorem pay4_e (x0 : Vec Ideal S1024x1024 .bf16) (x1 x2 : Vec Ideal S1024x1408 .bf16) (i : Fin 1024) (j : Fin 1408) :
    (k0_pay4 x0 x2 (ix3 0 i j) : EReal) = both x0 x1 x2 (ix3 1 i j) := by
  unfold k0_pay4 k0_pay2 both
  pointwise

theorem out3_e (x0 : Vec Ideal S1024x1024 .bf16) (x1 x2 : Vec Ideal S1024x1408 .bf16) (y : S2x1024x1408.Idx) :
    (out0_3 x0 x1 x2 y : EReal) = both x0 x1 x2 y := by
  unfold out0_3
  have e2 : ∀ (i : Fin 1024) (j : Fin 1408), r0_2.emb (ix3 0 i j) = (ix3 0 i j : S2x1024x1408.Idx) := fun i j =>
    funext fun a => Fin.ext ((Rect.idx_unit_val _ _ _ _ a).trans (by match a with | ⟨0, _⟩ => rfl | ⟨1, _⟩ => exact Nat.zero_add _ | ⟨2, _⟩ => exact Nat.zero_add _))
  have e3 : ∀ (i : Fin 1024) (j : Fin 1408), r0_3.emb (ix3 0 i j) = (ix3 1 i j : S2x1024x1408.Idx) := fun i j =>
    funext fun a => Fin.ext ((Rect.idx_unit_val _ _ _ _ a).trans (by match a with | ⟨0, _⟩ => rfl | ⟨1, _⟩ => exact Nat.zero_add _ | ⟨2, _⟩ => exact Nat.zero_add _))
  have hx : ∀ x : S1x1024x1408.Idx, ∃ (i : Fin 1024) (j : Fin 1408), x = ix3 0 i j := fun x =>
    ⟨x 1, x 2, funext fun a => by match a with | ⟨0, _⟩ => exact Subsingleton.elim (α := Fin 1) _ _ | ⟨1, _⟩ => rfl | ⟨2, _⟩ => rfl⟩
  simp only [View.ld_unit_zero (S := S1024x1024) hz, View.ld_unit_zero (S := S1024x1408) hz]
  refine View.canon_apply_of_pieces (Val := Elt Ideal) (e := .bf16) (both x0 x1 x2) _ (fun p hp => ?_) y (cover0_3 _ _ y)
  rcases List.mem_cons.mp hp with rfl | hp
  · intro x
    obtain ⟨i, j, rfl⟩ := hx x
    exact (pay4_e x0 x1 x2 i j).trans (congrArg (both x0 x1 x2) (e3 i j)).symm
  · obtain rfl := List.mem_singleton.mp hp
    intro x
    obtain ⟨i, j, rfl⟩ := hx x
    exact (pay3_e x0 x1 x2 i j).trans (congrArg (both x0 x1 x2) (e2 i j)).symm

/-- The gated product of a gate value and an up value. -/
def gated (g u : EReal) : EReal := g * Ideal.logistic g * u

theorem out4_e (x0 : Vec Ideal S1024x1024 .bf16) (x1 x2 : Vec Ideal S1024x1408 .bf16) (i : Fin 1024) (j : Fin 1408) :
    (out0_4 x0 x1 x2 (ix2 i j) : EReal) = gated (both x0 x1 x2 (ix3 0 i j)) (both x0 x1 x2 (ix3 1 i j)) := by
  unfold out0_4
  rw [View.canon_unit_zero hz]
  simp only [View.ld_unit_zero (S := S1024x1024) hz, View.ld_unit_zero (S := S1024x1408) hz]
  unfold k0_pay5 k0_pay1 k0_pay2 both gated
  pointwise

theorem i0 : ∀ t : Fin cfg0.N, win0_0.index t (0 : Fin 2) = t.val / 2 ∧ win0_0.index t (1 : Fin 2) = 0 := (by decide +kernel : ∀ t : Fin grid0.N, _)
theorem i1 : ∀ t : Fin cfg0.N, win0_1.index t (0 : Fin 2) = 0 ∧ win0_1.index t (1 : Fin 2) = t.val % 2 := (by decide +kernel : ∀ t : Fin grid0.N, _)
theorem i2 : ∀ t : Fin cfg0.N, win0_2.index t (0 : Fin 2) = 0 ∧ win0_2.index t (1 : Fin 2) = 2 + t.val % 2 := (by decide +kernel : ∀ t : Fin grid0.N, _)
theorem i3 : ∀ t : Fin cfg0.N, win0_3.index t (0 : Fin 3) = 0 ∧ win0_3.index t (1 : Fin 3) = t.val / 2 ∧ win0_3.index t (2 : Fin 3) = t.val % 2 := (by decide +kernel : ∀ t : Fin grid0.N, _)
theorem i4 : ∀ t : Fin cfg0.N, win0_4.index t (0 : Fin 2) = t.val / 2 ∧ win0_4.index t (1 : Fin 2) = t.val % 2 := (by decide +kernel : ∀ t : Fin grid0.N, _)

variable (m : (ℓ : Loc nD τ sig) → Buf (Elt Ideal) ℓ) (c : Dev nD)

abbrev X0 : S8192x1024.Idx → EReal := m ((c.tc : Thread nD τ).loc main_arg0)
abbrev X1 : S1024x5632.Idx → EReal := m ((c.tc : Thread nD τ).loc main_arg1)

/-- The columns of the weights that a column of the gate values and one of the up values come from. -/
def colA (j : Fin 2816) : Fin 5632 := ⟨j.val, by omega⟩
def colB (j : Fin 2816) : Fin 5632 := ⟨2816 + j.val, by omega⟩

theorem t_lt (t : Fin cfg0.N) : t.val < 16 := Nat.lt_of_lt_of_eq t.isLt N_0

/-- The row and the column of the array that a grid point's block has at `i` and `j`. -/
def row (n : ℕ) (i : Fin 1024) : Fin 8192 := pos 8192 (n / 2 * 1024 + i.val)
def col (n : ℕ) (j : Fin 1408) : Fin 2816 := pos 2816 (n % 2 * 1408 + j.val)

theorem row_val (t : Fin cfg0.N) (i : Fin 1024) : (row t.val i).val = t.val / 2 * 1024 + i.val := pos_val (by have := t_lt t; omega)
theorem col_val (n : ℕ) (j : Fin 1408) : (col n j).val = n % 2 * 1408 + j.val := pos_val (by omega)

theorem b0 (t : Fin cfg0.N) (i k : Fin 1024) : (iblk m c 0 t (ix2 i k) : EReal) = X0 m c (ix2 (row t.val i) k) := by
  have e := i0 t
  blk_simp [iblk]
  refine (congrFun (V_main_arg0 m c) _).trans (congrArg (X0 m c) (funext fun a => Fin.ext ?_))
  match a with
  | ⟨0, _⟩ => blk_simp [e.1]; exact (row_val t i).symm
  | ⟨1, _⟩ => blk_simp [e.2]

theorem b1 (t : Fin cfg0.N) (k : Fin 1024) (j : Fin 1408) : (iblk m c 1 t (ix2 k j) : EReal) = X1 m c (ix2 k (colA (col t.val j))) := by
  have e := i1 t
  blk_simp [iblk]
  refine (congrFun (V_main_arg1 m c) _).trans (congrArg (X1 m c) (funext fun a => Fin.ext ?_))
  match a with
  | ⟨0, _⟩ => blk_simp [e.1]
  | ⟨1, _⟩ => blk_simp [e.2]; exact (col_val t.val j).symm

theorem b2 (t : Fin cfg0.N) (k : Fin 1024) (j : Fin 1408) : (iblk m c 2 t (ix2 k j) : EReal) = X1 m c (ix2 k (colB (col t.val j))) := by
  have e := i2 t
  blk_simp [iblk]
  refine (congrFun (V_main_arg1 m c) _).trans (congrArg (X1 m c) (funext fun a => Fin.ext ?_))
  match a with
  | ⟨0, _⟩ => blk_simp [e.1]
  | ⟨1, _⟩ => blk_simp [e.2]; unfold colB; dsimp only; rw [col_val]; omega

/-- A gate value (`s` 0) or an up value (`s` 1) of the whole arrays. -/
def val (s : Fin 2) (r : Fin 8192) (j : Fin 2816) : EReal :=
  ∑ k : Fin 1024, X0 m c (ix2 r k) * (if s.val < 1 then X1 m c (ix2 k (colA j)) else X1 m c (ix2 k (colB j)))

theorem both_e (t : Fin cfg0.N) (s : Fin 2) (i : Fin 1024) (j : Fin 1408) :
    both (iblk m c 0 t) (iblk m c 1 t) (iblk m c 2 t) (ix3 s i j) = val m c s (row t.val i) (col t.val j) :=
  Finset.sum_congr rfl fun k _ => congrArg₂ (· * ·) (b0 m c t i k) (if_congr Iff.rfl (b1 m c t k j) (b2 m c t k j))

/-- The first result, entry by entry: the gate values, and the up values behind them. -/
theorem arr3 : (dats m 0 c).arrAt 3 cfg0.N = fun y : S2x8192x2816.Idx => val m c (y 0) (y 1) (y 2) := by
  refine (dats m 0 c).arrAt_eq_of_covers 3 _ (by decide +kernel) fun t hf y => ?_
  have e := i3 t
  blk_simp
  obtain ⟨s, i, j, rfl⟩ : ∃ (s : Fin 2) (i : Fin 1024) (j : Fin 1408), y = ix3 s i j := ⟨y 0, y 1, y 2, (ix3_eta y).symm⟩
  have h0 : ((win0_3.blk t).view.emb (ix3 s i j) 0 : Fin 2) = s := Fin.ext (by blk_simp [e.1])
  have h1 : ((win0_3.blk t).view.emb (ix3 s i j) 1 : Fin 8192) = row t.val i := Fin.ext (by blk_simp [e.2.1]; exact (row_val t i).symm)
  have h2 : ((win0_3.blk t).view.emb (ix3 s i j) 2 : Fin 2816) = col t.val j := Fin.ext (by blk_simp [e.2.2]; exact (col_val t.val j).symm)
  rw [after0_3, out3_e, both_e, h0, h1, h2]

/-- The second result: the gated products. -/
theorem arr4 : (dats m 0 c).arrAt 4 cfg0.N = fun y : S8192x2816.Idx => gated (val m c 0 (y 0) (y 1)) (val m c 1 (y 0) (y 1)) := by
  refine (dats m 0 c).arrAt_eq_of_covers 4 _ (by decide +kernel) fun t hf y => ?_
  have e := i4 t
  blk_simp
  obtain ⟨i, j, rfl⟩ : ∃ (i : Fin 1024) (j : Fin 1408), y = ix2 i j := ⟨y 0, y 1, (ix2_eta y).symm⟩
  have h0 : ((win0_4.blk t).view.emb (ix2 i j) 0 : Fin 8192) = row t.val i := Fin.ext (by blk_simp [e.1]; exact (row_val t i).symm)
  have h1 : ((win0_4.blk t).view.emb (ix2 i j) 1 : Fin 2816) = col t.val j := Fin.ext (by blk_simp [e.2]; exact (col_val t.val j).symm)
  rw [after0_4, out4_e, both_e, both_e, h0, h1]

/-- The kernel's two results are the reference's. -/
theorem algebraic : @Cert.algebraic_Kernel11Ideal_Reference11Ideal Cert.Kernel11Ideal.Gen.facts Cert.Reference11Ideal.Gen.facts :=
  fun m g m' g' _ hm => ⟨fun c => (dats m 0 c).arrAt 3 cfg0.N, fun c => (dats m 0 c).arrAt 4 cfg0.N,
    Cert.Kernel11Ideal.Value.run_blocks m g,
    (θ_run _ _ _).mono (fun r h c => by
      refine ⟨(h c).1.trans ?_, (h c).2.1.trans ?_, (h c).2.2⟩
      · rw [(hm c).1, (hm c).2]
        refine Eq.trans ?_ (arr3 m c).symm
        funext y
        pointwise
        by_cases hy : (y 0).val < 1
        · rw [dif_pos hy]
          exact Finset.sum_congr rfl fun k _ => congrArg _ (if_pos hy).symm
        · rw [dif_neg hy]
          exact Finset.sum_congr rfl fun k _ => congrArg _ (if_neg hy).symm
      · rw [(hm c).1, (hm c).2]
        refine Eq.trans ?_ (arr4 m c).symm
        funext y
        pointwise
        rfl) (Cert.Reference11Ideal.Value.run (F := Ideal) m' g')⟩

/-- On the chip's words the two printed kernels have one body table. -/
theorem defs_eq : Cert.Kernel11.defs (F := Bits) = Cert.Kernel11Ideal.defs (F := Bits) := by
  have h : Cert.Kernel11.defs₀ (F := Bits) = Cert.Kernel11Ideal.defs₀ (F := Bits) := by
    unfold Cert.Kernel11.defs₀ Cert.Kernel11Ideal.defs₀
    refine congrArg Defs.onTc ?_
    funext l x
    match l, x with
    | 0, (t, s) => rfl
  show Pipeline.defs (Cert.Kernel11.pcfgs (F := Bits)) (Cert.Kernel11.defs₀ (F := Bits)) = _
  rw [h]
  rfl

/-- The kernel's frame on the chip's words: its text is `Kernel11Ideal`'s, so one run serves both. -/
theorem frame_kernel : @Cert.quiescent_Kernel11 Cert.Kernel11.Gen.facts := fun m g _ => by
  have h := Cert.Kernel11Ideal.Gen.frame (F := Bits) m g
  rw [← defs_eq] at h
  exact h

/-- The same frame over the extended reals. -/
theorem frame_ideal : @Cert.quiescent_Kernel11Ideal Cert.Kernel11Ideal.Gen.facts := fun m g _ =>
  Cert.Kernel11Ideal.Gen.frame m g

/-- The reference's frame. -/
theorem frame_ref : @Cert.quiescent_Reference11Ideal Cert.Reference11Ideal.Gen.facts := fun m g _ =>
  (θ_run _ _ _).mono (fun r h => ⟨fun c => (h c).2.2, sem_eq_zero_of_no_sems (by decide) r.2⟩) (Cert.Reference11Ideal.Value.run m g)

end Cert.Proof.GateUp

end
-- ==== Proof.InProj.lean ====
module

public import proofs.«01_k».proof.Proof.Product
public import proofs.«01_k».proof.Defs
public import proofs.«01_k».proof.Proof.Gen.Kernel12
public import proofs.«01_k».proof.Proof.Gen.Kernel12Ideal.Value
public import proofs.«01_k».proof.Proof.Gen.Reference12Ideal.Run
public import Idealize.ShloMosaic.Lib.Pipeline.ValueKit
public import Idealize.ShloMosaic.Lib.Pointwise
public import Idealize.ShloMosaic.Lib.Quiescent

@[expose] public section

set_option maxRecDepth 16384

noncomputable section

/-! The input projection's first 5120 columns: kernel 12 against reference 12. -/

namespace Cert.Proof.InProj

open Cert.Kernel12Ideal Cert.Kernel12Ideal.Gen Cert.Proof.Product
open Idealize.ShloMosaic Idealize.ShloMosaic.TcCoe Idealize.SL.Sem
open scoped BigOperators

theorem hz : (![0, 0] : Fin 2 → Nat) = fun _ => 0 := funext fun a => by fin_cases a <;> rfl

/-- The product of two blocks. -/
def prod (x0 x1 : Vec Ideal S1024x1024 .bf16) (i j : Fin 1024) : EReal := ∑ k : Fin 1024, x0 (ix2 i k) * x1 (ix2 k j)

theorem out_e (x0 x1 : Vec Ideal S1024x1024 .bf16) (i j : Fin 1024) : (out0_2 x0 x1 (ix2 i j) : EReal) = prod x0 x1 i j := by
  unfold out0_2
  rw [View.canon_unit_zero hz]
  simp only [View.ld_unit_zero (S := S1024x1024) hz]
  unfold k0_pay1 prod
  rw [shapeCast_self]
  pointwise

theorem i0 : ∀ t : Fin cfg0.N, win0_0.index t (0 : Fin 2) = t.val / 5 ∧ win0_0.index t (1 : Fin 2) = 0 := (by decide +kernel : ∀ t : Fin grid0.N, _)
theorem i1 : ∀ t : Fin cfg0.N, win0_1.index t (0 : Fin 2) = 0 ∧ win0_1.index t (1 : Fin 2) = t.val % 5 := (by decide +kernel : ∀ t : Fin grid0.N, _)
theorem i2 : ∀ t : Fin cfg0.N, win0_2.index t (0 : Fin 2) = t.val / 5 ∧ win0_2.index t (1 : Fin 2) = t.val % 5 := (by decide +kernel : ∀ t : Fin grid0.N, _)

variable (m : (ℓ : Loc nD τ sig) → Buf (Elt Ideal) ℓ) (c : Dev nD)

abbrev X0 : S8192x1024.Idx → EReal := m ((c.tc : Thread nD τ).loc main_arg0)
abbrev X1 : S1024x5632.Idx → EReal := m ((c.tc : Thread nD τ).loc main_arg1)

/-- The column of the argument that column `j` of the staged weights is. -/
def wide (j : Fin 5120) : Fin 5632 := ⟨j.val, by omega⟩

theorem t_lt (t : Fin cfg0.N) : t.val < 40 := Nat.lt_of_lt_of_eq t.isLt N_0

theorem b0 (t : Fin cfg0.N) (i k : Fin 1024) : (iblk m c 0 t (ix2 i k) : EReal) = X0 m c (ix2 (pos 8192 (t.val / 5 * 1024 + i.val)) k) := by
  have e := i0 t
  have := t_lt t
  blk_simp [iblk]
  refine (congrFun (V_main_arg0 m c) _).trans (congrArg (X0 m c) (funext fun a => Fin.ext ?_))
  match a with
  | ⟨0, _⟩ => blk_simp [e.1]; exact (pos_val (by omega)).symm
  | ⟨1, _⟩ => blk_simp [e.2]

/-- The staged weights are the first 5120 columns of the argument. -/
theorem cut (y : S1024x5120.Idx) : (V m c main_v0 y : EReal) = X1 m c (ix2 (y 0) (wide (y 1))) := by
  have h : V m c main_v0 = extractStridedSlice S1024x5120 ![0, 0] (m ((c.tc : Thread nD τ).loc main_arg1)) slices_S1024x5632_S1024x5120_0_0 := by
    unfold V Cert.Kernel12Ideal.Gen.hostOps0
    after_results_simp
  rw [h]
  refine congrArg (X1 m c) (funext fun a => Fin.ext ?_)
  match a with
  | ⟨0, _⟩ => exact Nat.zero_add _
  | ⟨1, _⟩ => exact Nat.zero_add _

theorem b1 (t : Fin cfg0.N) (k j : Fin 1024) : (iblk m c 1 t (ix2 k j) : EReal) = X1 m c (ix2 k (wide (pos 5120 (t.val % 5 * 1024 + j.val)))) := by
  have e := i1 t
  blk_simp [iblk]
  refine (cut m c _).trans (congrArg₂ (fun a b => X1 m c (ix2 a (wide b))) (Fin.ext ?_) (Fin.ext ?_))
  · blk_simp [e.1]
  · blk_simp [e.2]
    exact (pos_val (K := 5120) (by omega)).symm

theorem prod_e (t : Fin cfg0.N) (i j : Fin 1024) : prod (iblk m c 0 t) (iblk m c 1 t) i j
    = ∑ k : Fin 1024, X0 m c (ix2 (pos 8192 (t.val / 5 * 1024 + i.val)) k) * X1 m c (ix2 k (wide (pos 5120 (t.val % 5 * 1024 + j.val)))) := by
  unfold prod
  refine Finset.sum_congr rfl fun k _ => ?_
  rw [b0, b1]

/-- The result is the product of the two arrays, its first 5120 columns. -/
theorem arr : (dats m 0 c).arrAt 2 cfg0.N = fun y : S8192x5120.Idx => (∑ k : Fin 1024, X0 m c (ix2 (y 0) k) * X1 m c (ix2 k (wide (y 1))) : EReal) := by
  refine (dats m 0 c).arrAt_eq_of_covers 2 _ (by decide +kernel) fun t hf y => ?_
  have ht := t_lt t
  have e := i2 t
  blk_simp
  obtain ⟨i, j, rfl⟩ : ∃ (i j : Fin 1024), y = ix2 i j := ⟨y 0, y 1, (ix2_eta y).symm⟩
  have h0 : ((win0_2.blk t).view.emb (ix2 i j) 0 : Fin 8192) = pos 8192 (t.val / 5 * 1024 + i.val) := Fin.ext (by
    blk_simp [e.1]; exact (pos_val (K := 8192) (by omega)).symm)
  have h1 : ((win0_2.blk t).view.emb (ix2 i j) 1 : Fin 5120) = pos 5120 (t.val % 5 * 1024 + j.val) := Fin.ext (by
    blk_simp [e.2]; exact (pos_val (K := 5120) (by omega)).symm)
  rw [after0_2, out_e, prod_e, h0, h1]

/-- The kernel's product is the reference's. -/
theorem algebraic : @Cert.algebraic_Kernel12Ideal_Reference12Ideal Cert.Kernel12Ideal.Gen.facts Cert.Reference12Ideal.Gen.facts :=
  fun m g m' g' _ hm => ⟨fun c => (dats m 0 c).arrAt 2 cfg0.N,
    Cert.Kernel12Ideal.Value.run_blocks m g,
    (θ_run _ _ _).mono (fun r h c => by
      refine ⟨(h c).1.trans ?_, (h c).2⟩
      rw [(hm c).1, (hm c).2]
      refine Eq.trans ?_ (arr m c).symm
      funext y
      pointwise
      rfl) (Cert.Reference12Ideal.Value.run (F := Ideal) m' g')⟩

/-- On the chip's words the two printed kernels have one body table. -/
theorem defs_eq : Cert.Kernel12.defs (F := Bits) = Cert.Kernel12Ideal.defs (F := Bits) := by
  have h : Cert.Kernel12.defs₀ (F := Bits) = Cert.Kernel12Ideal.defs₀ (F := Bits) := by
    unfold Cert.Kernel12.defs₀ Cert.Kernel12Ideal.defs₀
    refine congrArg Defs.onTc ?_
    funext l x
    match l, x with
    | 0, (t, s) => rfl
  show Pipeline.defs (Cert.Kernel12.pcfgs (F := Bits)) (Cert.Kernel12.defs₀ (F := Bits)) = _
  rw [h]
  rfl

/-- The kernel's frame on the chip's words: its text is `Kernel12Ideal`'s, so one run serves both. -/
theorem frame_kernel : @Cert.quiescent_Kernel12 Cert.Kernel12.Gen.facts := fun m g _ => by
  have h := Cert.Kernel12Ideal.Gen.frame (F := Bits) m g
  rw [← defs_eq] at h
  exact h

/-- The same frame over the extended reals. -/
theorem frame_ideal : @Cert.quiescent_Kernel12Ideal Cert.Kernel12Ideal.Gen.facts := fun m g _ =>
  Cert.Kernel12Ideal.Gen.frame m g

/-- The reference's frame. -/
theorem frame_ref : @Cert.quiescent_Reference12Ideal Cert.Reference12Ideal.Gen.facts := fun m g _ =>
  (θ_run _ _ _).mono (fun r h => ⟨fun c => (h c).2, sem_eq_zero_of_no_sems (by decide) r.2⟩) (Cert.Reference12Ideal.Value.run m g)

end Cert.Proof.InProj

end
-- ==== Proof.Words.lean ====
module

public import Idealize.ShloMosaic.Lib.Pointwise

@[expose] public section

noncomputable section

/-! The literals of the loss and of the normalisation, as real numbers. -/

namespace Cert.Proof.Words

open Idealize.ShloMosaic
open scoped BigOperators

/-- The word of one 1024th. -/
theorem word_inv : Ideal.ofBits .f32 0x3A800000#32 = ((1 / 1024 : ℝ) : EReal) := by
  simp [Ideal.ofBits, Ideal.ieee, -EReal.coe_mul]; norm_num

/-- The word of 1024. -/
theorem word_1024 : Ideal.ofBits .f32 0x44800000#32 = ((1024 : ℝ) : EReal) := by
  simp [Ideal.ofBits, Ideal.ieee, -EReal.coe_mul]; norm_num

/-- The word of one half. -/
theorem word_half : Ideal.ofBits .f32 0x3F000000#32 = ((1 / 2 : ℝ) : EReal) := by
  simp [Ideal.ofBits, Ideal.ieee, -EReal.coe_mul]; norm_num

/-- The word of two. -/
theorem word_two : Ideal.ofBits .f32 0x40000000#32 = ((2 : ℝ) : EReal) := by
  simp [Ideal.ofBits, Ideal.ieee, -EReal.coe_mul]; norm_num

/-- Dividing by 1024 is multiplying by one 1024th. -/
theorem div_1024 (x : EReal) : Ideal.div x (Ideal.ofBits .f32 0x44800000#32) = x * Ideal.ofBits .f32 0x3A800000#32 := by
  rw [word_1024, word_inv, Ideal.div_coe (by norm_num)]

/-- A real factor that is not negative goes into a sum. -/
theorem mul_sum {a : ℝ} (ha : 0 ≤ a) {ι : Type} (s : Finset ι) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, EReal.left_distrib_of_nonneg_of_ne_top (by exact_mod_cast ha) (EReal.coe_ne_top a), ih]

end Cert.Proof.Words

end
-- ==== Proof.DownLoss.lean ====
module

public import proofs.«01_k».proof.Proof.Product
public import proofs.«01_k».proof.Proof.Words
public import proofs.«01_k».proof.Defs
public import proofs.«01_k».proof.Proof.Gen.Kernel13
public import proofs.«01_k».proof.Proof.Gen.Kernel13Ideal.Value
public import proofs.«01_k».proof.Proof.Gen.Reference13Ideal.Run
public import Idealize.ShloMosaic.Lib.Pipeline.ValueKit
public import Idealize.ShloMosaic.Lib.Pointwise
public import Idealize.ShloMosaic.Lib.Quiescent

@[expose] public section

set_option maxRecDepth 16384

noncomputable section

/-! The down projection's residual, the loss of its columns and the loss's gradient: kernel 13 against reference 13. -/

namespace Cert.Proof.DownLoss

open Cert.Kernel13Ideal Cert.Kernel13Ideal.Gen Cert.Proof.Product Cert.Proof.Words
open Idealize.ShloMosaic Idealize.ShloMosaic.TcCoe Idealize.SL.Sem
open scoped BigOperators

theorem hz : (![0, 0] : Fin 2 → Nat) = fun _ => 0 := funext fun a => by fin_cases a <;> rfl

section
variable {F : FTy → Type} [FloatOps F]
variable (c : Dev nD) (i : grid0.Coords) (a1 : Memref sig .tc .vmem S512x2816 .bf16) (h1 : a1.IsWhole)
  (a2 : Memref sig .tc .vmem S2816x1024 .bf16) (h2 : a2.IsWhole) (a3 : Memref sig .tc .vmem S512x1024 .f32) (h3 : a3.IsWhole)
  (a4 : Memref sig .tc .vmem S512x1024 .f32) (h4 : a4.IsWhole) (a5 : Memref sig .tc .vmem S512x1024 .f32) (h5 : a5.IsWhole)
  (a6 : Memref sig .tc .vmem S512x1024 .bf16) (h6 : a6.IsWhole) (a7 : Memref sig .tc .vmem S1x1024 .f32) (h7 : a7.IsWhole)
  (x0 : Vec F S512x2816 .bf16) (x1 : Vec F S2816x1024 .bf16) (x2 x3 : Vec F S512x1024 .f32) (xo : Vec F S1x1024 .f32)

theorem outA_4 (hc : cond0_0 i) : out0_A_4 c i a1 h1 a2 h2 a3 h3 a4 h4 a5 h5 a6 h6 a7 h7 hc x0 x1 x2 x3 = k0_pay2 x0 x1 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  rw [View.canon_unit_zero hz]
  simp only [View.readAt_eq_ld, h1.read_unread, h2.read_unread, h3.read_unread, h4.read_unread, View.ld_unit_zero (S := S512x2816) hz,
    View.ld_unit_zero (S := S2816x1024) hz, View.ld_unit_zero (S := S512x1024) hz]

theorem outA_5 (hc : cond0_0 i) : out0_A_5 c i a1 h1 a2 h2 a3 h3 a4 h4 a5 h5 a6 h6 a7 h7 hc x0 x1 x2 x3 = k0_pay3 x0 x1 x2 x3 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  rw [View.canon_unit_zero hz]
  simp only [View.readAt_eq_ld, h1.read_unread, h2.read_unread, h3.read_unread, h4.read_unread, View.ld_unit_zero (S := S512x2816) hz,
    View.ld_unit_zero (S := S2816x1024) hz, View.ld_unit_zero (S := S512x1024) hz]

theorem outA_6 (hc : cond0_0 i) : out0_A_6 c i a1 h1 a2 h2 a3 h3 a4 h4 a5 h5 a6 h6 a7 h7 hc x0 x1 x2 x3 = k0_pay5 x0 x1 x2 x3 k0_pay4 := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  rw [View.canon_cons_unit_zero hz]
  simp only [View.readAt_eq_ld, h1.read_unread, h2.read_unread, h3.read_unread, h4.read_unread, View.ld_unit_zero (S := S512x2816) hz,
    View.ld_unit_zero (S := S2816x1024) hz, View.ld_unit_zero (S := S512x1024) hz]
  unfold kernelRun0_A.sl.v22
  exact congrArg _ (View.readCov_unit_zero (S := S1x1024) a7.view hz _ _)

theorem outB_4 (hc : ¬cond0_0 i) : out0_B_4 c i a1 h1 a2 h2 a3 h3 a4 h4 a5 h5 a6 h6 a7 h7 hc x0 x1 x2 x3 xo = k0_pay2 x0 x1 x2 x3 := by
  unfold out0_B_4
  rw [View.read_writes_eq_canon _ _ _ (cover0_B_4 c i a1 h1 a2 h2 a3 h3 a4 h4 a5 h5 a6 h6 a7 h7 hc x0 x1 x2 x3 xo)]
  unfold kernelRun0_B
  dsimp only
  rw [View.canon_unit_zero hz]
  simp only [View.readAt_eq_ld, h1.read_unread, h2.read_unread, h3.read_unread, h4.read_unread, View.ld_unit_zero (S := S512x2816) hz,
    View.ld_unit_zero (S := S2816x1024) hz, View.ld_unit_zero (S := S512x1024) hz]

theorem outB_5 (hc : ¬cond0_0 i) : out0_B_5 c i a1 h1 a2 h2 a3 h3 a4 h4 a5 h5 a6 h6 a7 h7 hc x0 x1 x2 x3 xo = k0_pay3 x0 x1 x2 x3 := by
  unfold out0_B_5
  rw [View.read_writes_eq_canon _ _ _ (cover0_B_5 c i a1 h1 a2 h2 a3 h3 a4 h4 a5 h5 a6 h6 a7 h7 hc x0 x1 x2 x3 xo)]
  unfold kernelRun0_B
  dsimp only
  rw [View.canon_unit_zero hz]
  simp only [View.readAt_eq_ld, h1.read_unread, h2.read_unread, h3.read_unread, h4.read_unread, View.ld_unit_zero (S := S512x2816) hz,
    View.ld_unit_zero (S := S2816x1024) hz, View.ld_unit_zero (S := S512x1024) hz]

theorem outB_6 (hc : ¬cond0_0 i) : out0_B_6 c i a1 h1 a2 h2 a3 h3 a4 h4 a5 h5 a6 h6 a7 h7 hc x0 x1 x2 x3 xo = k0_pay5 x0 x1 x2 x3 xo := by
  unfold out0_B_6
  rw [View.read_writes_eq_canon _ _ _ (cover0_B_6 c i a1 h1 a2 h2 a3 h3 a4 h4 a5 h5 a6 h6 a7 h7 hc x0 x1 x2 x3 xo)]
  unfold kernelRun0_B
  dsimp only
  rw [View.canon_unit_zero hz]
  simp only [View.readAt_eq_ld, h1.read_unread, h2.read_unread, h3.read_unread, h4.read_unread, h7.read_unread, View.ld_unit_zero (S := S512x2816) hz,
    View.ld_unit_zero (S := S2816x1024) hz, View.ld_unit_zero (S := S512x1024) hz, View.ld_unit_zero (S := S1x1024) hz]

end

/-- The loss of a sum of squares `s`: half of its 1024th. -/
def half (s : EReal) : EReal := Ideal.ofBits .f32 0x3F000000#32 * s * Ideal.ofBits .f32 0x3A800000#32

/-- The losses of the blocks of a column add up to the column's loss. -/
theorem half_sum (f : Fin 8192 → EReal) :
    ∑ r ∈ Finset.range 16, half (∑ k : Fin 512, f (pos 8192 (r * 512 + k.val)))
      = Ideal.div (Ideal.ofBits .f32 0x3F000000#32 * ∑ k : Fin 8192, f k) (Ideal.ofBits .f32 0x44800000#32) := by
  have h : ∀ s : EReal, half s = ((1 / 2 * (1 / 1024) : ℝ) : EReal) * s := fun s => by
    unfold half
    rw [word_half, word_inv, mul_right_comm, ← EReal.coe_mul]
  rw [div_1024, ← split_sum (nk := 16) (tk := 512) (by norm_num) f]
  refine Eq.trans ?_ (h _).symm
  rw [mul_sum (by norm_num)]
  exact Finset.sum_congr rfl fun r _ => h _

/-- The gradient of half a squared difference's 1024th, as it is differentiated and as it is computed. -/
theorem grad_e (d : EReal) : Ideal.div (Ideal.ofBits .f32 0x3F000000#32) (Ideal.ofBits .f32 0x44800000#32)
    * (Ideal.ofBits .f32 0x40000000#32 * d) = d * Ideal.ofBits .f32 0x3A800000#32 := by
  rw [div_1024, word_half, word_inv, word_two, ← mul_assoc, mul_comm d, ← EReal.coe_mul, ← EReal.coe_mul]
  norm_num

section
variable (x0 : Vec Ideal S512x2816 .bf16) (x1 : Vec Ideal S2816x1024 .bf16) (x2 x3 : Vec Ideal S512x1024 .f32) (xo : Vec Ideal S1x1024 .f32)

/-- The block's output less its target: the product with the weights, added to the residual. -/
def diff (i : Fin 512) (j : Fin 1024) : EReal := (∑ k : Fin 2816, x0 (ix2 i k) * x1 (ix2 k j)) + x2 (ix2 i j) - x3 (ix2 i j)

theorem pay1_e (i : Fin 512) (j : Fin 1024) : (k0_pay1 x0 x1 x2 x3 (ix2 i j) : EReal) = diff x0 x1 x2 x3 i j := by
  unfold k0_pay1 diff
  pointwise

theorem pay2_e (i : Fin 512) (j : Fin 1024) : (k0_pay2 x0 x1 x2 x3 (ix2 i j) : EReal) = diff x0 x1 x2 x3 i j * Ideal.ofBits .f32 0x3A800000#32 := by
  unfold k0_pay2
  pointwise
  rw [pay1_e]

theorem pay3_e (i : Fin 512) (j : Fin 1024) : (k0_pay3 x0 x1 x2 x3 (ix2 i j) : EReal) = diff x0 x1 x2 x3 i j * Ideal.ofBits .f32 0x3A800000#32 := by
  unfold k0_pay3
  pointwise
  exact pay2_e x0 x1 x2 x3 i j

theorem pay5_e (j : Fin 1024) : (k0_pay5 x0 x1 x2 x3 xo (ix2 0 j) : EReal)
    = xo (ix2 0 j) + half (∑ i : Fin 512, diff x0 x1 x2 x3 i j * diff x0 x1 x2 x3 i j) := by
  unfold k0_pay5 half
  pointwise
  simp only [pay1_e]

theorem pay4_e (j : Fin 1024) : (k0_pay4 (F := Ideal) (ix2 0 j) : EReal) = 0 := by
  unfold k0_pay4
  pointwise

end

theorem i0 : ∀ t : Fin cfg0.N, win0_0.index t (0 : Fin 2) = t.val ∧ win0_0.index t (1 : Fin 2) = 0 := (by decide +kernel : ∀ t : Fin grid0.N, _)
theorem i1 : ∀ t : Fin cfg0.N, win0_1.index t (0 : Fin 2) = 0 ∧ win0_1.index t (1 : Fin 2) = 0 := (by decide +kernel : ∀ t : Fin grid0.N, _)
theorem i2 : ∀ t : Fin cfg0.N, win0_2.index t (0 : Fin 2) = t.val ∧ win0_2.index t (1 : Fin 2) = 0 := (by decide +kernel : ∀ t : Fin grid0.N, _)
theorem i3 : ∀ t : Fin cfg0.N, win0_3.index t (0 : Fin 2) = t.val ∧ win0_3.index t (1 : Fin 2) = 0 := (by decide +kernel : ∀ t : Fin grid0.N, _)
theorem i4 : ∀ t : Fin cfg0.N, win0_4.index t (0 : Fin 2) = t.val ∧ win0_4.index t (1 : Fin 2) = 0 := (by decide +kernel : ∀ t : Fin grid0.N, _)
theorem i5 : ∀ t : Fin cfg0.N, win0_5.index t (0 : Fin 2) = t.val ∧ win0_5.index t (1 : Fin 2) = 0 := (by decide +kernel : ∀ t : Fin grid0.N, _)
theorem i6 : ∀ t : Fin cfg0.N, win0_6.index t (0 : Fin 2) = 0 ∧ win0_6.index t (1 : Fin 2) = 0 := (by decide +kernel : ∀ t : Fin grid0.N, _)

variable (m : (ℓ : Loc nD τ sig) → Buf (Elt Ideal) ℓ) (c : Dev nD)

abbrev X0 : S8192x2816.Idx → EReal := m ((c.tc : Thread nD τ).loc main_arg0)
abbrev X1 : S2816x1024.Idx → EReal := m ((c.tc : Thread nD τ).loc main_arg1)
abbrev X2 : S8192x1024.Idx → EReal := m ((c.tc : Thread nD τ).loc main_arg2)
abbrev X3 : S8192x1024.Idx → EReal := m ((c.tc : Thread nD τ).loc main_arg3)

theorem t_lt (t : Fin cfg0.N) : t.val < 16 := Nat.lt_of_lt_of_eq t.isLt N_0

/-- The row of the array that row `i` of grid point `n`'s block is. -/
def row (n : ℕ) (i : Fin 512) : Fin 8192 := pos 8192 (n * 512 + i.val)

theorem row_val (t : Fin cfg0.N) (i : Fin 512) : (row t.val i).val = t.val * 512 + i.val := pos_val (by have := t_lt t; omega)

theorem b0 (t : Fin cfg0.N) (i : Fin 512) (k : Fin 2816) : (iblk m c 0 t (ix2 i k) : EReal) = X0 m c (ix2 (row t.val i) k) := by
  have e := i0 t
  blk_simp [iblk]
  refine (congrFun (V_main_arg0 m c) _).trans (congrArg (X0 m c) (funext fun a => Fin.ext ?_))
  match a with
  | ⟨0, _⟩ => blk_simp [e.1]; exact (row_val t i).symm
  | ⟨1, _⟩ => blk_simp [e.2]

theorem b1 (t : Fin cfg0.N) (k : Fin 2816) (j : Fin 1024) : (iblk m c 1 t (ix2 k j) : EReal) = X1 m c (ix2 k j) := by
  have e := i1 t
  blk_simp [iblk]
  refine (congrFun (V_main_arg1 m c) _).trans (congrArg (X1 m c) (funext fun a => Fin.ext ?_))
  match a with
  | ⟨0, _⟩ => blk_simp [e.1]
  | ⟨1, _⟩ => blk_simp [e.2]

theorem b2 (t : Fin cfg0.N) (i : Fin 512) (j : Fin 1024) : (iblk m c 2 t (ix2 i j) : EReal) = X2 m c (ix2 (row t.val i) j) := by
  have e := i2 t
  blk_simp [iblk]
  refine (congrFun (V_main_arg2 m c) _).trans (congrArg (X2 m c) (funext fun a => Fin.ext ?_))
  match a with
  | ⟨0, _⟩ => blk_simp [e.1]; exact (row_val t i).symm
  | ⟨1, _⟩ => blk_simp [e.2]

theorem b3 (t : Fin cfg0.N) (i : Fin 512) (j : Fin 1024) : (iblk m c 3 t (ix2 i j) : EReal) = X3 m c (ix2 (row t.val i) j) := by
  have e := i3 t
  blk_simp [iblk]
  refine (congrFun (V_main_arg3 m c) _).trans (congrArg (X3 m c) (funext fun a => Fin.ext ?_))
  match a with
  | ⟨0, _⟩ => blk_simp [e.1]; exact (row_val t i).symm
  | ⟨1, _⟩ => blk_simp [e.2]

/-- The output less its target at a row and a column. -/
def D (r : Fin 8192) (j : Fin 1024) : EReal :=
  X2 m c (ix2 r j) + (∑ k : Fin 2816, X0 m c (ix2 r k) * X1 m c (ix2 k j)) - X3 m c (ix2 r j)

theorem diff_e (t : Fin cfg0.N) (i : Fin 512) (j : Fin 1024) :
    diff (iblk m c 0 t) (iblk m c 1 t) (iblk m c 2 t) (iblk m c 3 t) i j = D m c (row t.val i) j :=
  congrArg₂ (· - ·) ((add_comm _ _).trans (congrArg₂ (· + ·) (b2 m c t i j)
    (Finset.sum_congr rfl fun k _ => congrArg₂ (· * ·) (b0 m c t i k) (b1 m c t k j)))) (b3 m c t i j)

theorem outs4_e (t : Fin cfg0.N) (i : Fin 512) (j : Fin 1024) :
    ((outsAt0 m c t.val t.isLt).1 (ix2 i j) : EReal) = D m c (row t.val i) j * Ideal.ofBits .f32 0x3A800000#32 := by
  by_cases h : t.val % 16 = 0
  · rw [outsAt0_A m c t h]
    dsimp only
    rw [outA_4, pay2_e, diff_e]
  · rw [outsAt0_B m c t h]
    dsimp only
    rw [outB_4, pay2_e, diff_e]

theorem outs5_e (t : Fin cfg0.N) (i : Fin 512) (j : Fin 1024) :
    ((outsAt0 m c t.val t.isLt).2.1 (ix2 i j) : EReal) = D m c (row t.val i) j * Ideal.ofBits .f32 0x3A800000#32 := by
  by_cases h : t.val % 16 = 0
  · rw [outsAt0_A m c t h]
    dsimp only
    rw [outA_5, pay3_e, diff_e]
  · rw [outsAt0_B m c t h]
    dsimp only
    rw [outB_5, pay3_e, diff_e]

/-- The loss of column `j` over the rows of block `r`. -/
def part (j : Fin 1024) (_ r : ℕ) : EReal := half (∑ i : Fin 512, D m c (row r i) j * D m c (row r i) j)

theorem part_e (t : Fin cfg0.N) (j : Fin 1024) :
    half (∑ i : Fin 512, diff (iblk m c 0 t) (iblk m c 1 t) (iblk m c 2 t) (iblk m c 3 t) i j * diff (iblk m c 0 t) (iblk m c 1 t) (iblk m c 2 t) (iblk m c 3 t) i j)
      = part m c j (t.val / 16) (t.val % 16) := by
  rw [Nat.mod_eq_of_lt (t_lt t)]
  exact congrArg half (Finset.sum_congr rfl fun i _ => by rw [diff_e])

theorem outs6_e (t : Fin cfg0.N) (j : Fin 1024) :
    ((outsAt0 m c t.val t.isLt).2.2 (ix2 0 j) : EReal) = ∑ r ∈ Finset.range (t.val % 16 + 1), part m c j (t.val / 16) r := by
  refine run_sum (nk := 16) (by norm_num) (fun t : Fin cfg0.N => ((outsAt0 m c t.val t.isLt).2.2 (ix2 0 j) : EReal)) (part m c j) (fun t h => ?_) (fun t h => ?_) t
  · rw [outsAt0_A m c t h]
    dsimp only
    rw [outA_6, pay5_e, pay4_e, zero_add, part_e, h]
  · rw [outsAt0_B m c t h]
    dsimp only
    rw [outB_6, pay5_e, part_e]

theorem arr4 : (dats m 0 c).arrAt 4 cfg0.N = fun y : S8192x1024.Idx => D m c (y 0) (y 1) * Ideal.ofBits .f32 0x3A800000#32 := by
  refine (dats m 0 c).arrAt_eq_of_covers 4 _ (by decide +kernel) fun t hf y => ?_
  have e := i4 t
  blk_simp
  obtain ⟨i, j, rfl⟩ : ∃ (i : Fin 512) (j : Fin 1024), y = ix2 i j := ⟨y 0, y 1, (ix2_eta y).symm⟩
  have h0 : ((win0_4.blk t).view.emb (ix2 i j) 0 : Fin 8192) = row t.val i := Fin.ext (by blk_simp [e.1]; exact (row_val t i).symm)
  have h1 : ((win0_4.blk t).view.emb (ix2 i j) 1 : Fin 1024) = j := Fin.ext (by blk_simp [e.2])
  rw [after0_4, outs4_e, h0, h1]

theorem arr5 : (dats m 0 c).arrAt 5 cfg0.N = fun y : S8192x1024.Idx => D m c (y 0) (y 1) * Ideal.ofBits .f32 0x3A800000#32 := by
  refine (dats m 0 c).arrAt_eq_of_covers 5 _ (by decide +kernel) fun t hf y => ?_
  have e := i5 t
  blk_simp
  obtain ⟨i, j, rfl⟩ : ∃ (i : Fin 512) (j : Fin 1024), y = ix2 i j := ⟨y 0, y 1, (ix2_eta y).symm⟩
  have h0 : ((win0_5.blk t).view.emb (ix2 i j) 0 : Fin 8192) = row t.val i := Fin.ext (by blk_simp [e.1]; exact (row_val t i).symm)
  have h1 : ((win0_5.blk t).view.emb (ix2 i j) 1 : Fin 1024) = j := Fin.ext (by blk_simp [e.2])
  rw [after0_5, outs5_e, h0, h1]

/-- The third result is the loss, column by column. -/
theorem arr6 : (dats m 0 c).arrAt 6 cfg0.N = fun y : S1x1024.Idx =>
    Ideal.div (Ideal.ofBits .f32 0x3F000000#32 * ∑ r : Fin 8192, D m c r (y 1) * D m c r (y 1)) (Ideal.ofBits .f32 0x44800000#32) := by
  refine (dats m 0 c).arrAt_eq_of_covers 6 _ (by decide +kernel) fun t hf y => ?_
  have hr : t.val % 16 = 15 := (flush0_6 t).mp hf
  have e := i6 t
  blk_simp
  obtain ⟨j, rfl⟩ : ∃ j : Fin 1024, y = ix2 0 j := ⟨y 1, by rw [← ix2_eta y]; exact congrArg (ix2 · _) (Subsingleton.elim (α := Fin 1) _ _)⟩
  have h1 : ((win0_6.blk t).view.emb (ix2 0 j) 1 : Fin 1024) = j := Fin.ext (by blk_simp [e.2])
  rw [after0_6, outs6_e, hr, h1]
  exact half_sum fun r => D m c r j * D m c r j

/-- The kernel's gradient, in both types, and its losses are the reference's. -/
theorem algebraic : @Cert.algebraic_Kernel13Ideal_Reference13Ideal Cert.Kernel13Ideal.Gen.facts Cert.Reference13Ideal.Gen.facts :=
  fun m g m' g' _ hm => ⟨fun c => (dats m 0 c).arrAt 4 cfg0.N, fun c => (dats m 0 c).arrAt 5 cfg0.N, fun c => (dats m 0 c).arrAt 6 cfg0.N,
    Cert.Kernel13Ideal.Value.run_blocks m g,
    (θ_run _ _ _).mono (fun r h c => by
      obtain ⟨h0, h1, h2, h3⟩ := hm c
      refine ⟨(h c).1.trans ?_, (h c).2.1.trans ?_, (h c).2.2.1.trans ?_, (h c).2.2.2⟩
      · rw [h0, h1, h2, h3]
        refine Eq.trans ?_ (arr4 m c).symm
        funext y
        obtain ⟨i, j, rfl⟩ : ∃ (i : Fin 8192) (j : Fin 1024), y = ix2 i j := ⟨y 0, y 1, (ix2_eta y).symm⟩
        pointwise
        exact grad_e _
      · rw [h0, h1, h2, h3]
        refine Eq.trans ?_ (arr5 m c).symm
        funext y
        obtain ⟨i, j, rfl⟩ : ∃ (i : Fin 8192) (j : Fin 1024), y = ix2 i j := ⟨y 0, y 1, (ix2_eta y).symm⟩
        pointwise
        exact grad_e _
      · rw [h0, h1, h2, h3]
        refine Eq.trans ?_ (arr6 m c).symm
        funext y
        pointwise
        rfl) (Cert.Reference13Ideal.Value.run (F := Ideal) m' g')⟩

/-- On the chip's words the two printed kernels have one body table. -/
theorem defs_eq : Cert.Kernel13.defs (F := Bits) = Cert.Kernel13Ideal.defs (F := Bits) := by
  have h : Cert.Kernel13.defs₀ (F := Bits) = Cert.Kernel13Ideal.defs₀ (F := Bits) := by
    unfold Cert.Kernel13.defs₀ Cert.Kernel13Ideal.defs₀
    refine congrArg Defs.onTc ?_
    funext l x
    match l, x with
    | 0, (t, s) => rfl
  show Pipeline.defs (Cert.Kernel13.pcfgs (F := Bits)) (Cert.Kernel13.defs₀ (F := Bits)) = _
  rw [h]
  rfl

/-- The kernel's frame on the chip's words: its text is `Kernel13Ideal`'s, so one run serves both. -/
theorem frame_kernel : @Cert.quiescent_Kernel13 Cert.Kernel13.Gen.facts := fun m g _ => by
  have h := Cert.Kernel13Ideal.Gen.frame (F := Bits) m g
  rw [← defs_eq] at h
  exact h

/-- The same frame over the extended reals. -/
theorem frame_ideal : @Cert.quiescent_Kernel13Ideal Cert.Kernel13Ideal.Gen.facts := fun m g _ =>
  Cert.Kernel13Ideal.Gen.frame m g

/-- The reference's frame. -/
theorem frame_ref : @Cert.quiescent_Reference13Ideal Cert.Reference13Ideal.Gen.facts := fun m g _ =>
  (θ_run _ _ _).mono (fun r h => ⟨fun c => (h c).2.2.2, sem_eq_zero_of_no_sems (by decide) r.2⟩) (Cert.Reference13Ideal.Value.run m g)

end Cert.Proof.DownLoss

end
-- ==== Proof.MlaOut.lean ====
module

public import proofs.«01_k».proof.Proof.Product
public import proofs.«01_k».proof.Defs
public import proofs.«01_k».proof.Proof.Gen.Kernel14
public import proofs.«01_k».proof.Proof.Gen.Kernel14Ideal.Value
public import proofs.«01_k».proof.Proof.Gen.Reference14Ideal.Run
public import Idealize.ShloMosaic.Lib.Pipeline.ValueKit
public import Idealize.ShloMosaic.Lib.Pointwise
public import Idealize.ShloMosaic.Lib.Quiescent

@[expose] public section

set_option maxRecDepth 16384

noncomputable section

/-! The attention branch's projection: kernel 14 against reference 14. -/

namespace Cert.Proof.MlaOut

open Cert.Kernel14Ideal Cert.Kernel14Ideal.Gen Cert.Proof.Product
open Idealize.ShloMosaic Idealize.ShloMosaic.TcCoe Idealize.SL.Sem
open scoped BigOperators

theorem hz : (![0, 0] : Fin 2 → Nat) = fun _ => 0 := funext fun a => by fin_cases a <;> rfl

/-- The product of two blocks. -/
def prod (x0 x1 : Vec Ideal S1024x1024 .bf16) (i j : Fin 1024) : EReal := ∑ k : Fin 1024, x0 (ix2 i k) * x1 (ix2 k j)

theorem out_e (x0 x1 : Vec Ideal S1024x1024 .bf16) (i j : Fin 1024) : (out0_2 x0 x1 (ix2 i j) : EReal) = prod x0 x1 i j := by
  unfold out0_2
  rw [View.canon_unit_zero hz]
  simp only [View.ld_unit_zero (S := S1024x1024) hz]
  unfold k0_pay1 prod
  pointwise

theorem i0 : ∀ t : Fin cfg0.N, win0_0.index t (0 : Fin 2) = t.val ∧ win0_0.index t (1 : Fin 2) = 0 := (by decide +kernel : ∀ t : Fin grid0.N, _)
theorem i1 : ∀ t : Fin cfg0.N, win0_1.index t (0 : Fin 2) = 0 ∧ win0_1.index t (1 : Fin 2) = 0 := (by decide +kernel : ∀ t : Fin grid0.N, _)
theorem i2 : ∀ t : Fin cfg0.N, win0_2.index t (0 : Fin 2) = t.val ∧ win0_2.index t (1 : Fin 2) = 0 := (by decide +kernel : ∀ t : Fin grid0.N, _)

variable (m : (ℓ : Loc nD τ sig) → Buf (Elt Ideal) ℓ) (c : Dev nD)

abbrev X0 : S8192x1024.Idx → EReal := m ((c.tc : Thread nD τ).loc main_arg0)
abbrev X1 : S1024x1024.Idx → EReal := m ((c.tc : Thread nD τ).loc main_arg1)

theorem t_lt (t : Fin cfg0.N) : t.val < 8 := Nat.lt_of_lt_of_eq t.isLt N_0

theorem b0 (t : Fin cfg0.N) (i k : Fin 1024) : (iblk m c 0 t (ix2 i k) : EReal) = X0 m c (ix2 (pos 8192 (t.val * 1024 + i.val)) k) := by
  have e := i0 t
  have := t_lt t
  blk_simp [iblk]
  refine (congrFun (V_main_arg0 m c) _).trans (congrArg (X0 m c) (funext fun a => Fin.ext ?_))
  match a with
  | ⟨0, _⟩ => blk_simp [e.1]; exact (pos_val (by omega)).symm
  | ⟨1, _⟩ => blk_simp [e.2]

theorem b1 (t : Fin cfg0.N) (k j : Fin 1024) : (iblk m c 1 t (ix2 k j) : EReal) = X1 m c (ix2 k j) := by
  have e := i1 t
  blk_simp [iblk]
  refine (congrFun (V_main_arg1 m c) _).trans (congrArg (X1 m c) (funext fun a => Fin.ext ?_))
  match a with
  | ⟨0, _⟩ => blk_simp [e.1]
  | ⟨1, _⟩ => blk_simp [e.2]

theorem prod_e (t : Fin cfg0.N) (i j : Fin 1024) : prod (iblk m c 0 t) (iblk m c 1 t) i j
    = ∑ k : Fin 1024, X0 m c (ix2 (pos 8192 (t.val * 1024 + i.val)) k) * X1 m c (ix2 k j) :=
  Finset.sum_congr rfl fun k _ => congrArg₂ (· * ·) (b0 m c t i k) (b1 m c t k j)

/-- The result is the product of the two arrays. -/
theorem arr : (dats m 0 c).arrAt 2 cfg0.N = fun y : S8192x1024.Idx => (∑ k : Fin 1024, X0 m c (ix2 (y 0) k) * X1 m c (ix2 k (y 1)) : EReal) := by
  refine (dats m 0 c).arrAt_eq_of_covers 2 _ (by decide +kernel) fun t hf y => ?_
  have ht := t_lt t
  have e := i2 t
  blk_simp
  obtain ⟨i, j, rfl⟩ : ∃ (i j : Fin 1024), y = ix2 i j := ⟨y 0, y 1, (ix2_eta y).symm⟩
  have h0 : ((win0_2.blk t).view.emb (ix2 i j) 0 : Fin 8192) = pos 8192 (t.val * 1024 + i.val) := Fin.ext (by
    blk_simp [e.1]; exact (pos_val (K := 8192) (by omega)).symm)
  have h1 : ((win0_2.blk t).view.emb (ix2 i j) 1 : Fin 1024) = j := Fin.ext (by blk_simp [e.2])
  rw [after0_2, out_e, prod_e, h0, h1]

/-- The kernel's product is the reference's. -/
theorem algebraic : @Cert.algebraic_Kernel14Ideal_Reference14Ideal Cert.Kernel14Ideal.Gen.facts Cert.Reference14Ideal.Gen.facts :=
  fun m g m' g' _ hm => ⟨fun c => (dats m 0 c).arrAt 2 cfg0.N,
    Cert.Kernel14Ideal.Value.run_blocks m g,
    (θ_run _ _ _).mono (fun r h c => by
      refine ⟨(h c).1.trans ?_, (h c).2⟩
      rw [(hm c).1, (hm c).2]
      refine Eq.trans ?_ (arr m c).symm
      funext y
      pointwise) (Cert.Reference14Ideal.Value.run (F := Ideal) m' g')⟩

/-- On the chip's words the two printed kernels have one body table. -/
theorem defs_eq : Cert.Kernel14.defs (F := Bits) = Cert.Kernel14Ideal.defs (F := Bits) := by
  have h : Cert.Kernel14.defs₀ (F := Bits) = Cert.Kernel14Ideal.defs₀ (F := Bits) := by
    unfold Cert.Kernel14.defs₀ Cert.Kernel14Ideal.defs₀
    refine congrArg Defs.onTc ?_
    funext l x
    match l, x with
    | 0, (t, s) => rfl
  show Pipeline.defs (Cert.Kernel14.pcfgs (F := Bits)) (Cert.Kernel14.defs₀ (F := Bits)) = _
  rw [h]
  rfl

/-- The kernel's frame on the chip's words: its text is `Kernel14Ideal`'s, so one run serves both. -/
theorem frame_kernel : @Cert.quiescent_Kernel14 Cert.Kernel14.Gen.facts := fun m g _ => by
  have h := Cert.Kernel14Ideal.Gen.frame (F := Bits) m g
  rw [← defs_eq] at h
  exact h

/-- The same frame over the extended reals. -/
theorem frame_ideal : @Cert.quiescent_Kernel14Ideal Cert.Kernel14Ideal.Gen.facts := fun m g _ =>
  Cert.Kernel14Ideal.Gen.frame m g

/-- The reference's frame. -/
theorem frame_ref : @Cert.quiescent_Reference14Ideal Cert.Reference14Ideal.Gen.facts := fun m g _ =>
  (θ_run _ _ _).mono (fun r h => ⟨fun c => (h c).2, sem_eq_zero_of_no_sems (by decide) r.2⟩) (Cert.Reference14Ideal.Value.run m g)

end Cert.Proof.MlaOut

end
-- ==== Proof.RetOut.lean ====
module

public import proofs.«01_k».proof.Proof.Product
public import proofs.«01_k».proof.Defs
public import proofs.«01_k».proof.Proof.Gen.Kernel15
public import proofs.«01_k».proof.Proof.Gen.Kernel15Ideal.Value
public import proofs.«01_k».proof.Proof.Gen.Reference15Ideal.Run
public import Idealize.ShloMosaic.Lib.Pipeline.ValueKit
public import Idealize.ShloMosaic.Lib.Pointwise
public import Idealize.ShloMosaic.Lib.Quiescent

@[expose] public section

set_option maxRecDepth 16384

noncomputable section

/-! The retention's output, merged with the attention's by two gates: kernel 15 against reference 15. -/

namespace Cert.Proof.RetOut

open Cert.Kernel15Ideal Cert.Kernel15Ideal.Gen Cert.Proof.Product
open Idealize.ShloMosaic Idealize.ShloMosaic.TcCoe Idealize.SL.Sem
open scoped BigOperators

theorem hz : (![0, 0] : Fin 2 → Nat) = fun _ => 0 := funext fun a => by fin_cases a <;> rfl

/-- Two branches `u` and `v` merged by the gates whose logits are `a` and `b`. -/
def merge (a u b v : EReal) : EReal := Ideal.logistic a * u + Ideal.logistic b * v

section
variable (x0 : Vec Ideal S512x1024 .bf16) (x1 : Vec Ideal S1024x1024 .bf16) (x2 x3 x4 : Vec Ideal S512x1024 .f32) (y : S512x1024.Idx)

/-- The second branch in a block: the product with the weights. -/
def prod : EReal := ∑ k : Fin 1024, x0 (ix2 (y 0) k) * x1 (ix2 k (y 1))

theorem out5_e : (out0_5 x0 x1 x2 x3 x4 y : EReal) = prod x0 x1 y := by
  unfold out0_5
  rw [View.canon_unit_zero hz]
  simp only [View.ld_unit_zero (S := S512x1024) hz, View.ld_unit_zero (S := S1024x1024) hz]
  unfold k0_pay1 prod
  pointwise

theorem out6_e : (out0_6 x0 x1 x2 x3 x4 y : EReal) = merge (x2 y) (x4 y) (x3 y) (prod x0 x1 y) := by
  unfold out0_6
  rw [View.canon_unit_zero hz]
  simp only [View.ld_unit_zero (S := S512x1024) hz, View.ld_unit_zero (S := S1024x1024) hz]
  unfold k0_pay2 k0_pay1 merge prod
  pointwise

end

theorem i0 : ∀ t : Fin cfg0.N, win0_0.index t (0 : Fin 2) = t.val ∧ win0_0.index t (1 : Fin 2) = 0 := (by decide +kernel : ∀ t : Fin grid0.N, _)
theorem i1 : ∀ t : Fin cfg0.N, win0_1.index t (0 : Fin 2) = 0 ∧ win0_1.index t (1 : Fin 2) = 0 := (by decide +kernel : ∀ t : Fin grid0.N, _)
theorem i2 : ∀ t : Fin cfg0.N, win0_2.index t (0 : Fin 2) = t.val ∧ win0_2.index t (1 : Fin 2) = 0 := (by decide +kernel : ∀ t : Fin grid0.N, _)
theorem i3 : ∀ t : Fin cfg0.N, win0_3.index t (0 : Fin 2) = t.val ∧ win0_3.index t (1 : Fin 2) = 1 := (by decide +kernel : ∀ t : Fin grid0.N, _)
theorem i4 : ∀ t : Fin cfg0.N, win0_4.index t (0 : Fin 2) = t.val ∧ win0_4.index t (1 : Fin 2) = 0 := (by decide +kernel : ∀ t : Fin grid0.N, _)
theorem i5 : ∀ t : Fin cfg0.N, win0_5.index t (0 : Fin 2) = t.val ∧ win0_5.index t (1 : Fin 2) = 0 := (by decide +kernel : ∀ t : Fin grid0.N, _)
theorem i6 : ∀ t : Fin cfg0.N, win0_6.index t (0 : Fin 2) = t.val ∧ win0_6.index t (1 : Fin 2) = 0 := (by decide +kernel : ∀ t : Fin grid0.N, _)

variable (m : (ℓ : Loc nD τ sig) → Buf (Elt Ideal) ℓ) (c : Dev nD)

abbrev X0 : S8192x1024.Idx → EReal := m ((c.tc : Thread nD τ).loc main_arg0)
abbrev X1 : S1024x1024.Idx → EReal := m ((c.tc : Thread nD τ).loc main_arg1)
abbrev X2 : S8192x5120.Idx → EReal := m ((c.tc : Thread nD τ).loc main_arg2)
abbrev X3 : S8192x1024.Idx → EReal := m ((c.tc : Thread nD τ).loc main_arg3)

/-- The columns of the two gates' logits. -/
def colA (j : Fin 1024) : Fin 5120 := ⟨j.val, by omega⟩
def colB (j : Fin 1024) : Fin 5120 := ⟨1024 + j.val, by omega⟩

theorem t_lt (t : Fin cfg0.N) : t.val < 16 := Nat.lt_of_lt_of_eq t.isLt N_0

/-- The row of the array that row `i` of grid point `n`'s block is. -/
def row (n : ℕ) (i : Fin 512) : Fin 8192 := pos 8192 (n * 512 + i.val)

theorem row_val (t : Fin cfg0.N) (i : Fin 512) : (row t.val i).val = t.val * 512 + i.val := pos_val (by have := t_lt t; omega)

theorem b0 (t : Fin cfg0.N) (i : Fin 512) (k : Fin 1024) : (iblk m c 0 t (ix2 i k) : EReal) = X0 m c (ix2 (row t.val i) k) := by
  have e := i0 t
  blk_simp [iblk]
  refine (congrFun (V_main_arg0 m c) _).trans (congrArg (X0 m c) (funext fun a => Fin.ext ?_))
  match a with
  | ⟨0, _⟩ => blk_simp [e.1]; exact (row_val t i).symm
  | ⟨1, _⟩ => blk_simp [e.2]

theorem b1 (t : Fin cfg0.N) (k j : Fin 1024) : (iblk m c 1 t (ix2 k j) : EReal) = X1 m c (ix2 k j) := by
  have e := i1 t
  blk_simp [iblk]
  refine (congrFun (V_main_arg1 m c) _).trans (congrArg (X1 m c) (funext fun a => Fin.ext ?_))
  match a with
  | ⟨0, _⟩ => blk_simp [e.1]
  | ⟨1, _⟩ => blk_simp [e.2]

theorem b2 (t : Fin cfg0.N) (i : Fin 512) (j : Fin 1024) : (iblk m c 2 t (ix2 i j) : EReal) = X2 m c (ix2 (row t.val i) (colA j)) := by
  have e := i2 t
  blk_simp [iblk]
  refine (congrFun (V_main_arg2 m c) _).trans (congrArg (X2 m c) (funext fun a => Fin.ext ?_))
  match a with
  | ⟨0, _⟩ => blk_simp [e.1]; exact (row_val t i).symm
  | ⟨1, _⟩ => blk_simp [e.2]; rfl

theorem b3 (t : Fin cfg0.N) (i : Fin 512) (j : Fin 1024) : (iblk m c 3 t (ix2 i j) : EReal) = X2 m c (ix2 (row t.val i) (colB j)) := by
  have e := i3 t
  blk_simp [iblk]
  refine (congrFun (V_main_arg2 m c) _).trans (congrArg (X2 m c) (funext fun a => Fin.ext ?_))
  match a with
  | ⟨0, _⟩ => blk_simp [e.1]; exact (row_val t i).symm
  | ⟨1, _⟩ => blk_simp [e.2]; rfl

theorem b4 (t : Fin cfg0.N) (i : Fin 512) (j : Fin 1024) : (iblk m c 4 t (ix2 i j) : EReal) = X3 m c (ix2 (row t.val i) j) := by
  have e := i4 t
  blk_simp [iblk]
  refine (congrFun (V_main_arg3 m c) _).trans (congrArg (X3 m c) (funext fun a => Fin.ext ?_))
  match a with
  | ⟨0, _⟩ => blk_simp [e.1]; exact (row_val t i).symm
  | ⟨1, _⟩ => blk_simp [e.2]

/-- The second branch, and the two gates' logits, at a row and a column. -/
def P (r : Fin 8192) (j : Fin 1024) : EReal := ∑ k : Fin 1024, X0 m c (ix2 r k) * X1 m c (ix2 k j)
def ga (r : Fin 8192) (j : Fin 1024) : EReal := X2 m c (ix2 r (colA j))
def gb (r : Fin 8192) (j : Fin 1024) : EReal := X2 m c (ix2 r (colB j))

theorem prod_e (t : Fin cfg0.N) (i : Fin 512) (j : Fin 1024) : prod (iblk m c 0 t) (iblk m c 1 t) (ix2 i j) = P m c (row t.val i) j :=
  Finset.sum_congr rfl fun k _ => congrArg₂ (· * ·) (b0 m c t i k) (b1 m c t k j)

theorem arr5 : (dats m 0 c).arrAt 5 cfg0.N = fun y : S8192x1024.Idx => P m c (y 0) (y 1) := by
  refine (dats m 0 c).arrAt_eq_of_covers 5 _ (by decide +kernel) fun t hf y => ?_
  have e := i5 t
  blk_simp
  obtain ⟨i, j, rfl⟩ : ∃ (i : Fin 512) (j : Fin 1024), y = ix2 i j := ⟨y 0, y 1, (ix2_eta y).symm⟩
  have h0 : ((win0_5.blk t).view.emb (ix2 i j) 0 : Fin 8192) = row t.val i := Fin.ext (by blk_simp [e.1]; exact (row_val t i).symm)
  have h1 : ((win0_5.blk t).view.emb (ix2 i j) 1 : Fin 1024) = j := Fin.ext (by blk_simp [e.2])
  rw [after0_5, out5_e, prod_e, h0, h1]

theorem arr6 : (dats m 0 c).arrAt 6 cfg0.N = fun y : S8192x1024.Idx =>
    merge (ga m c (y 0) (y 1)) (X3 m c (ix2 (y 0) (y 1))) (gb m c (y 0) (y 1)) (P m c (y 0) (y 1)) := by
  refine (dats m 0 c).arrAt_eq_of_covers 6 _ (by decide +kernel) fun t hf y => ?_
  have e := i6 t
  blk_simp
  obtain ⟨i, j, rfl⟩ : ∃ (i : Fin 512) (j : Fin 1024), y = ix2 i j := ⟨y 0, y 1, (ix2_eta y).symm⟩
  have h0 : ((win0_6.blk t).view.emb (ix2 i j) 0 : Fin 8192) = row t.val i := Fin.ext (by blk_simp [e.1]; exact (row_val t i).symm)
  have h1 : ((win0_6.blk t).view.emb (ix2 i j) 1 : Fin 1024) = j := Fin.ext (by blk_simp [e.2])
  rw [after0_6, out6_e, prod_e, b2, b3, b4, h0, h1]
  rfl

/-- The kernel's second branch and merged value are the reference's. -/
theorem algebraic : @Cert.algebraic_Kernel15Ideal_Reference15Ideal Cert.Kernel15Ideal.Gen.facts Cert.Reference15Ideal.Gen.facts :=
  fun m g m' g' _ hm => ⟨fun c => (dats m 0 c).arrAt 5 cfg0.N, fun c => (dats m 0 c).arrAt 6 cfg0.N,
    Cert.Kernel15Ideal.Value.run_blocks m g,
    (θ_run _ _ _).mono (fun r h c => by
      obtain ⟨h0, h1, h2, h3⟩ := hm c
      refine ⟨(h c).1.trans ?_, (h c).2.1.trans ?_, (h c).2.2⟩
      · rw [h0, h1]
        refine Eq.trans ?_ (arr5 m c).symm
        funext y
        pointwise
        rfl
      · rw [h0, h1, h2, h3]
        refine Eq.trans ?_ (arr6 m c).symm
        funext y
        pointwise
        rfl) (Cert.Reference15Ideal.Value.run (F := Ideal) m' g')⟩

/-- On the chip's words the two printed kernels have one body table. -/
theorem defs_eq : Cert.Kernel15.defs (F := Bits) = Cert.Kernel15Ideal.defs (F := Bits) := by
  have h : Cert.Kernel15.defs₀ (F := Bits) = Cert.Kernel15Ideal.defs₀ (F := Bits) := by
    unfold Cert.Kernel15.defs₀ Cert.Kernel15Ideal.defs₀
    refine congrArg Defs.onTc ?_
    funext l x
    match l, x with
    | 0, (t, s) => rfl
  show Pipeline.defs (Cert.Kernel15.pcfgs (F := Bits)) (Cert.Kernel15.defs₀ (F := Bits)) = _
  rw [h]
  rfl

/-- The kernel's frame on the chip's words: its text is `Kernel15Ideal`'s, so one run serves both. -/
theorem frame_kernel : @Cert.quiescent_Kernel15 Cert.Kernel15.Gen.facts := fun m g _ => by
  have h := Cert.Kernel15Ideal.Gen.frame (F := Bits) m g
  rw [← defs_eq] at h
  exact h

/-- The same frame over the extended reals. -/
theorem frame_ideal : @Cert.quiescent_Kernel15Ideal Cert.Kernel15Ideal.Gen.facts := fun m g _ =>
  Cert.Kernel15Ideal.Gen.frame m g

/-- The reference's frame. -/
theorem frame_ref : @Cert.quiescent_Reference15Ideal Cert.Reference15Ideal.Gen.facts := fun m g _ =>
  (θ_run _ _ _).mono (fun r h => ⟨fun c => (h c).2.2, sem_eq_zero_of_no_sems (by decide) r.2⟩) (Cert.Reference15Ideal.Value.run m g)

end Cert.Proof.RetOut

end
-- ==== Proof.OutProj.lean ====
module

public import proofs.«01_k».proof.Proof.Product
public import proofs.«01_k».proof.Proof.Words
public import proofs.«01_k».proof.Defs
public import proofs.«01_k».proof.Proof.Gen.Kernel16
public import proofs.«01_k».proof.Proof.Gen.Kernel16Ideal.Value
public import proofs.«01_k».proof.Proof.Gen.Reference16Ideal.Run
public import Idealize.ShloMosaic.Lib.Pipeline.ValueKit
public import Idealize.ShloMosaic.Lib.Pointwise
public import Idealize.ShloMosaic.Lib.Quiescent

@[expose] public section

set_option maxRecDepth 16384

noncomputable section

/-! The output projection added to the residual, and its normalisation: kernel 16 against reference 16. -/

namespace Cert.Proof.OutProj

open Cert.Kernel16Ideal Cert.Kernel16Ideal.Gen Cert.Proof.Product Cert.Proof.Words
open Idealize.ShloMosaic Idealize.ShloMosaic.TcCoe Idealize.SL.Sem
open scoped BigOperators

theorem hz : (![0, 0] : Fin 2 → Nat) = fun _ => 0 := funext fun a => by fin_cases a <;> rfl

/-- Entry `j` of a row `r`, divided by the row's root mean square and scaled by `g`. -/
def rms (r : Fin 1024 → EReal) (g : EReal) (j : Fin 1024) : EReal :=
  r j * Ideal.rsqrt ((∑ k : Fin 1024, r k * r k) * Ideal.ofBits .f32 0x3A800000#32 + Ideal.ofBits .f32 0x358637BD#32) * g

section
variable (x0 : Vec Ideal S512x1024 .bf16) (x1 : Vec Ideal S1024x1024 .bf16) (x2 : Vec Ideal S512x1024 .f32) (x3 : Vec Ideal S1x1024 .f32)

/-- The residual in a block: the product with the weights, added to the input. -/
def res (i : Fin 512) (j : Fin 1024) : EReal := (∑ k : Fin 1024, x0 (ix2 i k) * x1 (ix2 k j)) + x2 (ix2 i j)

theorem pay1_e (i : Fin 512) (j : Fin 1024) : (k0_pay1 x0 x1 x2 (ix2 i j) : EReal) = res x0 x1 x2 i j := by
  unfold k0_pay1 res
  pointwise

theorem out4_e (i : Fin 512) (j : Fin 1024) : (out0_4 x0 x1 x2 x3 (ix2 i j) : EReal) = res x0 x1 x2 i j := by
  unfold out0_4
  rw [View.canon_unit_zero hz]
  simp only [View.ld_unit_zero (S := S512x1024) hz, View.ld_unit_zero (S := S1024x1024) hz]
  exact pay1_e x0 x1 x2 i j

theorem out5_e (i : Fin 512) (j : Fin 1024) :
    (out0_5 x0 x1 x2 x3 (ix2 i j) : EReal) = rms (res x0 x1 x2 i) (x3 (ix2 0 j)) j := by
  unfold out0_5
  rw [View.canon_unit_zero hz]
  simp only [View.ld_unit_zero (S := S512x1024) hz, View.ld_unit_zero (S := S1024x1024) hz, View.ld_unit_zero (S := S1x1024) hz]
  unfold k0_pay2 rms
  pointwise
  simp only [pay1_e]

end

theorem i0 : ∀ t : Fin cfg0.N, win0_0.index t (0 : Fin 2) = t.val ∧ win0_0.index t (1 : Fin 2) = 0 := (by decide +kernel : ∀ t : Fin grid0.N, _)
theorem i1 : ∀ t : Fin cfg0.N, win0_1.index t (0 : Fin 2) = 0 ∧ win0_1.index t (1 : Fin 2) = 0 := (by decide +kernel : ∀ t : Fin grid0.N, _)
theorem i2 : ∀ t : Fin cfg0.N, win0_2.index t (0 : Fin 2) = t.val ∧ win0_2.index t (1 : Fin 2) = 0 := (by decide +kernel : ∀ t : Fin grid0.N, _)
theorem i3 : ∀ t : Fin cfg0.N, win0_3.index t (0 : Fin 2) = 0 ∧ win0_3.index t (1 : Fin 2) = 0 := (by decide +kernel : ∀ t : Fin grid0.N, _)
theorem i4 : ∀ t : Fin cfg0.N, win0_4.index t (0 : Fin 2) = t.val ∧ win0_4.index t (1 : Fin 2) = 0 := (by decide +kernel : ∀ t : Fin grid0.N, _)
theorem i5 : ∀ t : Fin cfg0.N, win0_5.index t (0 : Fin 2) = t.val ∧ win0_5.index t (1 : Fin 2) = 0 := (by decide +kernel : ∀ t : Fin grid0.N, _)

variable (m : (ℓ : Loc nD τ sig) → Buf (Elt Ideal) ℓ) (c : Dev nD)

abbrev X0 : S8192x1024.Idx → EReal := m ((c.tc : Thread nD τ).loc main_arg0)
abbrev X1 : S1024x1024.Idx → EReal := m ((c.tc : Thread nD τ).loc main_arg1)
abbrev X2 : S8192x1024.Idx → EReal := m ((c.tc : Thread nD τ).loc main_arg2)
abbrev X3 : S1x1024.Idx → EReal := m ((c.tc : Thread nD τ).loc main_arg3)

theorem t_lt (t : Fin cfg0.N) : t.val < 16 := Nat.lt_of_lt_of_eq t.isLt N_0

/-- The row of the array that row `i` of grid point `n`'s block is. -/
def row (n : ℕ) (i : Fin 512) : Fin 8192 := pos 8192 (n * 512 + i.val)

theorem row_val (t : Fin cfg0.N) (i : Fin 512) : (row t.val i).val = t.val * 512 + i.val := pos_val (by have := t_lt t; omega)

theorem b0 (t : Fin cfg0.N) (i : Fin 512) (k : Fin 1024) : (iblk m c 0 t (ix2 i k) : EReal) = X0 m c (ix2 (row t.val i) k) := by
  have e := i0 t
  blk_simp [iblk]
  refine (congrFun (V_main_arg0 m c) _).trans (congrArg (X0 m c) (funext fun a => Fin.ext ?_))
  match a with
  | ⟨0, _⟩ => blk_simp [e.1]; exact (row_val t i).symm
  | ⟨1, _⟩ => blk_simp [e.2]

theorem b1 (t : Fin cfg0.N) (k j : Fin 1024) : (iblk m c 1 t (ix2 k j) : EReal) = X1 m c (ix2 k j) := by
  have e := i1 t
  blk_simp [iblk]
  refine (congrFun (V_main_arg1 m c) _).trans (congrArg (X1 m c) (funext fun a => Fin.ext ?_))
  match a with
  | ⟨0, _⟩ => blk_simp [e.1]
  | ⟨1, _⟩ => blk_simp [e.2]

theorem b2 (t : Fin cfg0.N) (i : Fin 512) (j : Fin 1024) : (iblk m c 2 t (ix2 i j) : EReal) = X2 m c (ix2 (row t.val i) j) := by
  have e := i2 t
  blk_simp [iblk]
  refine (congrFun (V_main_arg2 m c) _).trans (congrArg (X2 m c) (funext fun a => Fin.ext ?_))
  match a with
  | ⟨0, _⟩ => blk_simp [e.1]; exact (row_val t i).symm
  | ⟨1, _⟩ => blk_simp [e.2]

theorem b3 (t : Fin cfg0.N) (j : Fin 1024) : (iblk m c 3 t (ix2 0 j) : EReal) = X3 m c (ix2 0 j) := by
  have e := i3 t
  blk_simp [iblk]
  refine (congrFun (V_main_arg3 m c) _).trans (congrArg (X3 m c) (funext fun a => Fin.ext ?_))
  match a with
  | ⟨0, _⟩ => blk_simp [e.1]
  | ⟨1, _⟩ => blk_simp [e.2]

/-- The residual at a row and a column: the input and the product with the weights. -/
def R (r : Fin 8192) (j : Fin 1024) : EReal := X2 m c (ix2 r j) + ∑ k : Fin 1024, X0 m c (ix2 r k) * X1 m c (ix2 k j)

theorem res_e (t : Fin cfg0.N) (i : Fin 512) : res (iblk m c 0 t) (iblk m c 1 t) (iblk m c 2 t) i = R m c (row t.val i) := by
  funext j
  refine (add_comm _ _).trans (congrArg₂ (· + ·) (b2 m c t i j) ?_)
  exact Finset.sum_congr rfl fun k _ => congrArg₂ (· * ·) (b0 m c t i k) (b1 m c t k j)

theorem arr4 : (dats m 0 c).arrAt 4 cfg0.N = fun y : S8192x1024.Idx => R m c (y 0) (y 1) := by
  refine (dats m 0 c).arrAt_eq_of_covers 4 _ (by decide +kernel) fun t hf y => ?_
  have e := i4 t
  blk_simp
  obtain ⟨i, j, rfl⟩ : ∃ (i : Fin 512) (j : Fin 1024), y = ix2 i j := ⟨y 0, y 1, (ix2_eta y).symm⟩
  have h0 : ((win0_4.blk t).view.emb (ix2 i j) 0 : Fin 8192) = row t.val i := Fin.ext (by blk_simp [e.1]; exact (row_val t i).symm)
  have h1 : ((win0_4.blk t).view.emb (ix2 i j) 1 : Fin 1024) = j := Fin.ext (by blk_simp [e.2])
  rw [after0_4, out4_e, res_e, h0, h1]

theorem arr5 : (dats m 0 c).arrAt 5 cfg0.N = fun y : S8192x1024.Idx => rms (R m c (y 0)) (X3 m c (ix2 0 (y 1))) (y 1) := by
  refine (dats m 0 c).arrAt_eq_of_covers 5 _ (by decide +kernel) fun t hf y => ?_
  have e := i5 t
  blk_simp
  obtain ⟨i, j, rfl⟩ : ∃ (i : Fin 512) (j : Fin 1024), y = ix2 i j := ⟨y 0, y 1, (ix2_eta y).symm⟩
  have h0 : ((win0_5.blk t).view.emb (ix2 i j) 0 : Fin 8192) = row t.val i := Fin.ext (by blk_simp [e.1]; exact (row_val t i).symm)
  have h1 : ((win0_5.blk t).view.emb (ix2 i j) 1 : Fin 1024) = j := Fin.ext (by blk_simp [e.2])
  rw [after0_5, out5_e, res_e, b3, h0, h1]

/-- The kernel's residual and normalised residual are the reference's. -/
theorem algebraic : @Cert.algebraic_Kernel16Ideal_Reference16Ideal Cert.Kernel16Ideal.Gen.facts Cert.Reference16Ideal.Gen.facts :=
  fun m g m' g' _ hm => ⟨fun c => (dats m 0 c).arrAt 4 cfg0.N, fun c => (dats m 0 c).arrAt 5 cfg0.N,
    Cert.Kernel16Ideal.Value.run_blocks m g,
    (θ_run _ _ _).mono (fun r h c => by
      obtain ⟨h0, h1, h2, h3⟩ := hm c
      refine ⟨(h c).1.trans ?_, (h c).2.1.trans ?_, (h c).2.2⟩
      · rw [h0, h1, h2]
        refine Eq.trans ?_ (arr4 m c).symm
        funext y
        obtain ⟨i, j, rfl⟩ : ∃ (i : Fin 8192) (j : Fin 1024), y = ix2 i j := ⟨y 0, y 1, (ix2_eta y).symm⟩
        pointwise
        rfl
      · rw [h0, h1, h2, h3]
        refine Eq.trans ?_ (arr5 m c).symm
        funext y
        obtain ⟨i, j, rfl⟩ : ∃ (i : Fin 8192) (j : Fin 1024), y = ix2 i j := ⟨y 0, y 1, (ix2_eta y).symm⟩
        pointwise
        rw [div_1024]
        rfl) (Cert.Reference16Ideal.Value.run (F := Ideal) m' g')⟩

/-- On the chip's words the two printed kernels have one body table. -/
theorem defs_eq : Cert.Kernel16.defs (F := Bits) = Cert.Kernel16Ideal.defs (F := Bits) := by
  have h : Cert.Kernel16.defs₀ (F := Bits) = Cert.Kernel16Ideal.defs₀ (F := Bits) := by
    unfold Cert.Kernel16.defs₀ Cert.Kernel16Ideal.defs₀
    refine congrArg Defs.onTc ?_
    funext l x
    match l, x with
    | 0, (t, s) => rfl
  show Pipeline.defs (Cert.Kernel16.pcfgs (F := Bits)) (Cert.Kernel16.defs₀ (F := Bits)) = _
  rw [h]
  rfl

/-- The kernel's frame on the chip's words: its text is `Kernel16Ideal`'s, so one run serves both. -/
theorem frame_kernel : @Cert.quiescent_Kernel16 Cert.Kernel16.Gen.facts := fun m g _ => by
  have h := Cert.Kernel16Ideal.Gen.frame (F := Bits) m g
  rw [← defs_eq] at h
  exact h

/-- The same frame over the extended reals. -/
theorem frame_ideal : @Cert.quiescent_Kernel16Ideal Cert.Kernel16Ideal.Gen.facts := fun m g _ =>
  Cert.Kernel16Ideal.Gen.frame m g

/-- The reference's frame. -/
theorem frame_ref : @Cert.quiescent_Reference16Ideal Cert.Reference16Ideal.Gen.facts := fun m g _ =>
  (θ_run _ _ _).mono (fun r h => ⟨fun c => (h c).2.2, sem_eq_zero_of_no_sems (by decide) r.2⟩) (Cert.Reference16Ideal.Value.run m g)

end Cert.Proof.OutProj

end
-- ==== Proof.SameCalls.lean ====
module

public import proofs.«01_k».proof.Proof.DWOut
public import proofs.«01_k».proof.Proof.Gen.Kernel17
public import proofs.«01_k».proof.Proof.Gen.Kernel17Ideal
public import proofs.«01_k».proof.Proof.Gen.Reference17Ideal
public import proofs.«01_k».proof.Proof.Gen.Kernel18
public import proofs.«01_k».proof.Proof.Gen.Kernel18Ideal
public import proofs.«01_k».proof.Proof.Gen.Reference18Ideal

/-! The gradients of w_ret_out and of w_mla_out: the calls' text is that of the gradient of w_out under other names, so what is
proved of the one holds of the others. -/

@[expose] public section

noncomputable section

namespace Cert.Proof.SameCalls

open Idealize.ShloMosaic Idealize.ShloMosaic.TcCoe Idealize.SL.Sem

/-- The printed gradient of w_ret_out has the body table of the gradient of w_out, on the chip's words. -/
theorem defs_ret : Cert.Kernel17.defs (F := Bits) = Cert.Kernel8.defs (F := Bits) := by
  have h : Cert.Kernel17.defs₀ (F := Bits) = Cert.Kernel8.defs₀ (F := Bits) := by
    unfold Cert.Kernel17.defs₀ Cert.Kernel8.defs₀
    refine congrArg Defs.onTc ?_
    funext l x
    match l, x with
    | 0, (t, s) => rfl
  show Pipeline.defs (Cert.Kernel17.pcfgs (F := Bits)) (Cert.Kernel17.defs₀ (F := Bits)) = _
  rw [h]
  rfl

/-- The same over the extended reals. -/
theorem defs_ideal_ret : Cert.Kernel17Ideal.defs (F := Ideal) = Cert.Kernel8Ideal.defs (F := Ideal) := by
  have h : Cert.Kernel17Ideal.defs₀ (F := Ideal) = Cert.Kernel8Ideal.defs₀ (F := Ideal) := by
    unfold Cert.Kernel17Ideal.defs₀ Cert.Kernel8Ideal.defs₀
    refine congrArg Defs.onTc ?_
    funext l x
    match l, x with
    | 0, (t, s) => rfl
  show Pipeline.defs (Cert.Kernel17Ideal.pcfgs (F := Ideal)) (Cert.Kernel17Ideal.defs₀ (F := Ideal)) = _
  rw [h]
  rfl

/-- The frame of the gradient of w_ret_out on the chip's words. -/
theorem frame_kernel_ret : @Cert.quiescent_Kernel17 Cert.Kernel17.Gen.facts := fun m g h => by
  have e := DWOut.frame_kernel m g h
  rw [← defs_ret] at e
  exact e

/-- The same frame over the extended reals. -/
theorem frame_ideal_ret : @Cert.quiescent_Kernel17Ideal Cert.Kernel17Ideal.Gen.facts := fun m g h => by
  have e := DWOut.frame_ideal m g h
  rw [← defs_ideal_ret] at e
  exact e

/-- The frame of its reference. -/
theorem frame_ref_ret : @Cert.quiescent_Reference17Ideal Cert.Reference17Ideal.Gen.facts := DWOut.frame_ref

/-- The kernel's gradient of w_ret_out is the reference's. -/
theorem algebraic_ret :
    @Cert.algebraic_Kernel17Ideal_Reference17Ideal Cert.Kernel17Ideal.Gen.facts Cert.Reference17Ideal.Gen.facts :=
  fun m g m' g' h hm => by
    have e := DWOut.algebraic m g m' g' h hm
    rw [← defs_ideal_ret] at e
    exact e

/-- The printed gradient of w_mla_out has the body table of the gradient of w_out, on the chip's words. -/
theorem defs_mla : Cert.Kernel18.defs (F := Bits) = Cert.Kernel8.defs (F := Bits) := by
  have h : Cert.Kernel18.defs₀ (F := Bits) = Cert.Kernel8.defs₀ (F := Bits) := by
    unfold Cert.Kernel18.defs₀ Cert.Kernel8.defs₀
    refine congrArg Defs.onTc ?_
    funext l x
    match l, x with
    | 0, (t, s) => rfl
  show Pipeline.defs (Cert.Kernel18.pcfgs (F := Bits)) (Cert.Kernel18.defs₀ (F := Bits)) = _
  rw [h]
  rfl

/-- The same over the extended reals. -/
theorem defs_ideal_mla : Cert.Kernel18Ideal.defs (F := Ideal) = Cert.Kernel8Ideal.defs (F := Ideal) := by
  have h : Cert.Kernel18Ideal.defs₀ (F := Ideal) = Cert.Kernel8Ideal.defs₀ (F := Ideal) := by
    unfold Cert.Kernel18Ideal.defs₀ Cert.Kernel8Ideal.defs₀
    refine congrArg Defs.onTc ?_
    funext l x
    match l, x with
    | 0, (t, s) => rfl
  show Pipeline.defs (Cert.Kernel18Ideal.pcfgs (F := Ideal)) (Cert.Kernel18Ideal.defs₀ (F := Ideal)) = _
  rw [h]
  rfl

/-- The frame of the gradient of w_mla_out on the chip's words. -/
theorem frame_kernel_mla : @Cert.quiescent_Kernel18 Cert.Kernel18.Gen.facts := fun m g h => by
  have e := DWOut.frame_kernel m g h
  rw [← defs_mla] at e
  exact e

/-- The same frame over the extended reals. -/
theorem frame_ideal_mla : @Cert.quiescent_Kernel18Ideal Cert.Kernel18Ideal.Gen.facts := fun m g h => by
  have e := DWOut.frame_ideal m g h
  rw [← defs_ideal_mla] at e
  exact e

/-- The frame of its reference. -/
theorem frame_ref_mla : @Cert.quiescent_Reference18Ideal Cert.Reference18Ideal.Gen.facts := DWOut.frame_ref

/-- The kernel's gradient of w_mla_out is the reference's. -/
theorem algebraic_mla :
    @Cert.algebraic_Kernel18Ideal_Reference18Ideal Cert.Kernel18Ideal.Gen.facts Cert.Reference18Ideal.Gen.facts :=
  fun m g m' g' h hm => by
    have e := DWOut.algebraic m g m' g' h hm
    rw [← defs_ideal_mla] at e
    exact e

end Cert.Proof.SameCalls

end
-- ==== Proof.InMla.lean ====
module

public import proofs.«01_k».proof.Proof.Product
public import proofs.«01_k».proof.Defs
public import proofs.«01_k».proof.Proof.Gen.Kernel19
public import proofs.«01_k».proof.Proof.Gen.Kernel19Ideal.Value
public import proofs.«01_k».proof.Proof.Gen.Reference19Ideal.Run
public import Idealize.ShloMosaic.Lib.Pipeline.ValueKit
public import Idealize.ShloMosaic.Lib.Pointwise
public import Idealize.ShloMosaic.Lib.Quiescent

@[expose] public section

set_option maxRecDepth 16384

noncomputable section

/-! The latents' and the rotary key's part of the input projection: kernel 19 against reference 19. -/

namespace Cert.Proof.InMla

open Cert.Kernel19Ideal Cert.Kernel19Ideal.Gen Cert.Proof.Product
open Idealize.ShloMosaic Idealize.ShloMosaic.TcCoe Idealize.SL.Sem
open scoped BigOperators

theorem hz : (![0, 0] : Fin 2 → Nat) = fun _ => 0 := funext fun a => by fin_cases a <;> rfl

/-- The product of two blocks. -/
def prod (x0 : Vec Ideal S1024x1024 .bf16) (x1 : Vec Ideal S1024x512 .bf16) (i : Fin 1024) (j : Fin 512) : EReal := ∑ k : Fin 1024, x0 (ix2 i k) * x1 (ix2 k j)

theorem out_e (x0 : Vec Ideal S1024x1024 .bf16) (x1 : Vec Ideal S1024x512 .bf16) (i : Fin 1024) (j : Fin 512) : (out0_2 x0 x1 (ix2 i j) : EReal) = prod x0 x1 i j := by
  unfold out0_2
  rw [View.canon_unit_zero hz]
  simp only [View.ld_unit_zero (S := S1024x1024) hz, View.ld_unit_zero (S := S1024x512) hz]
  unfold k0_pay1 prod
  pointwise

theorem i0 : ∀ t : Fin cfg0.N, win0_0.index t (0 : Fin 2) = t.val ∧ win0_0.index t (1 : Fin 2) = 0 := (by decide +kernel : ∀ t : Fin grid0.N, _)
theorem i1 : ∀ t : Fin cfg0.N, win0_1.index t (0 : Fin 2) = 0 ∧ win0_1.index t (1 : Fin 2) = 0 := (by decide +kernel : ∀ t : Fin grid0.N, _)
theorem i2 : ∀ t : Fin cfg0.N, win0_2.index t (0 : Fin 2) = t.val ∧ win0_2.index t (1 : Fin 2) = 0 := (by decide +kernel : ∀ t : Fin grid0.N, _)

variable (m : (ℓ : Loc nD τ sig) → Buf (Elt Ideal) ℓ) (c : Dev nD)

abbrev X0 : S8192x1024.Idx → EReal := m ((c.tc : Thread nD τ).loc main_arg0)
abbrev X1 : S1024x512.Idx → EReal := m ((c.tc : Thread nD τ).loc main_arg1)

theorem t_lt (t : Fin cfg0.N) : t.val < 8 := Nat.lt_of_lt_of_eq t.isLt N_0

theorem b0 (t : Fin cfg0.N) (i k : Fin 1024) : (iblk m c 0 t (ix2 i k) : EReal) = X0 m c (ix2 (pos 8192 (t.val * 1024 + i.val)) k) := by
  have e := i0 t
  have := t_lt t
  blk_simp [iblk]
  refine (congrFun (V_main_arg0 m c) _).trans (congrArg (X0 m c) (funext fun a => Fin.ext ?_))
  match a with
  | ⟨0, _⟩ => blk_simp [e.1]; exact (pos_val (by omega)).symm
  | ⟨1, _⟩ => blk_simp [e.2]

theorem b1 (t : Fin cfg0.N) (k : Fin 1024) (j : Fin 512) : (iblk m c 1 t (ix2 k j) : EReal) = X1 m c (ix2 k j) := by
  have e := i1 t
  blk_simp [iblk]
  refine (congrFun (V_main_arg1 m c) _).trans (congrArg (X1 m c) (funext fun a => Fin.ext ?_))
  match a with
  | ⟨0, _⟩ => blk_simp [e.1]
  | ⟨1, _⟩ => blk_simp [e.2]

theorem prod_e (t : Fin cfg0.N) (i : Fin 1024) (j : Fin 512) : prod (iblk m c 0 t) (iblk m c 1 t) i j
    = ∑ k : Fin 1024, X0 m c (ix2 (pos 8192 (t.val * 1024 + i.val)) k) * X1 m c (ix2 k j) :=
  Finset.sum_congr rfl fun k _ => congrArg₂ (· * ·) (b0 m c t i k) (b1 m c t k j)

/-- The result is the product of the two arrays. -/
theorem arr : (dats m 0 c).arrAt 2 cfg0.N = fun y : S8192x512.Idx => (∑ k : Fin 1024, X0 m c (ix2 (y 0) k) * X1 m c (ix2 k (y 1)) : EReal) := by
  refine (dats m 0 c).arrAt_eq_of_covers 2 _ (by decide +kernel) fun t hf y => ?_
  have ht := t_lt t
  have e := i2 t
  blk_simp
  obtain ⟨i, j, rfl⟩ : ∃ (i : Fin 1024) (j : Fin 512), y = ix2 i j := ⟨y 0, y 1, (ix2_eta y).symm⟩
  have h0 : ((win0_2.blk t).view.emb (ix2 i j) 0 : Fin 8192) = pos 8192 (t.val * 1024 + i.val) := Fin.ext (by
    blk_simp [e.1]; exact (pos_val (K := 8192) (by omega)).symm)
  have h1 : ((win0_2.blk t).view.emb (ix2 i j) 1 : Fin 512) = j := Fin.ext (by blk_simp [e.2])
  rw [after0_2, out_e, prod_e, h0, h1]

/-- The kernel's product is the reference's. -/
theorem algebraic : @Cert.algebraic_Kernel19Ideal_Reference19Ideal Cert.Kernel19Ideal.Gen.facts Cert.Reference19Ideal.Gen.facts :=
  fun m g m' g' _ hm => ⟨fun c => (dats m 0 c).arrAt 2 cfg0.N,
    Cert.Kernel19Ideal.Value.run_blocks m g,
    (θ_run _ _ _).mono (fun r h c => by
      refine ⟨(h c).1.trans ?_, (h c).2⟩
      rw [(hm c).1, (hm c).2]
      refine Eq.trans ?_ (arr m c).symm
      funext y
      pointwise) (Cert.Reference19Ideal.Value.run (F := Ideal) m' g')⟩

/-- On the chip's words the two printed kernels have one body table. -/
theorem defs_eq : Cert.Kernel19.defs (F := Bits) = Cert.Kernel19Ideal.defs (F := Bits) := by
  have h : Cert.Kernel19.defs₀ (F := Bits) = Cert.Kernel19Ideal.defs₀ (F := Bits) := by
    unfold Cert.Kernel19.defs₀ Cert.Kernel19Ideal.defs₀
    refine congrArg Defs.onTc ?_
    funext l x
    match l, x with
    | 0, (t, s) => rfl
  show Pipeline.defs (Cert.Kernel19.pcfgs (F := Bits)) (Cert.Kernel19.defs₀ (F := Bits)) = _
  rw [h]
  rfl

/-- The kernel's frame on the chip's words: its text is `Kernel19Ideal`'s, so one run serves both. -/
theorem frame_kernel : @Cert.quiescent_Kernel19 Cert.Kernel19.Gen.facts := fun m g _ => by
  have h := Cert.Kernel19Ideal.Gen.frame (F := Bits) m g
  rw [← defs_eq] at h
  exact h

/-- The same frame over the extended reals. -/
theorem frame_ideal : @Cert.quiescent_Kernel19Ideal Cert.Kernel19Ideal.Gen.facts := fun m g _ =>
  Cert.Kernel19Ideal.Gen.frame m g

/-- The reference's frame. -/
theorem frame_ref : @Cert.quiescent_Reference19Ideal Cert.Reference19Ideal.Gen.facts := fun m g _ =>
  (θ_run _ _ _).mono (fun r h => ⟨fun c => (h c).2, sem_eq_zero_of_no_sems (by decide) r.2⟩) (Cert.Reference19Ideal.Value.run m g)

end Cert.Proof.InMla

end
-- ==== Proof.RmsMix.lean ====
module

public import proofs.«01_k».proof.Proof.Product
public import proofs.«01_k».proof.Proof.Words
public import proofs.«01_k».proof.Defs
public import proofs.«01_k».proof.Proof.Gen.Kernel20
public import proofs.«01_k».proof.Proof.Gen.Kernel20Ideal.Value
public import proofs.«01_k».proof.Proof.Gen.Reference20Ideal.Run
public import Idealize.ShloMosaic.Lib.Pipeline.ValueKit
public import Idealize.ShloMosaic.Lib.Pointwise
public import Idealize.ShloMosaic.Lib.Quiescent

@[expose] public section

set_option maxRecDepth 16384

noncomputable section

/-! The norm in front of the token mixer: kernel 20 against reference 20. -/

namespace Cert.Proof.RmsMix

open Cert.Kernel20Ideal Cert.Kernel20Ideal.Gen Cert.Proof.Product Cert.Proof.Words
open Idealize.ShloMosaic Idealize.ShloMosaic.TcCoe Idealize.SL.Sem
open scoped BigOperators

theorem hz : (![0, 0] : Fin 2 → Nat) = fun _ => 0 := funext fun a => by fin_cases a <;> rfl

/-- Entry `j` of a row `r`, divided by the row's root mean square and scaled by `g`. -/
def rms (r : Fin 1024 → EReal) (g : EReal) (j : Fin 1024) : EReal :=
  r j * Ideal.rsqrt ((∑ k : Fin 1024, r k * r k) * Ideal.ofBits .f32 0x3A800000#32 + Ideal.ofBits .f32 0x358637BD#32) * g

theorem out_e (x0 : Vec Ideal S512x1024 .f32) (x1 : Vec Ideal S1x1024 .f32) (i : Fin 512) (j : Fin 1024) :
    (out0_2 x0 x1 (ix2 i j) : EReal) = rms (fun k => x0 (ix2 i k)) (x1 (ix2 0 j)) j := by
  unfold out0_2
  rw [View.canon_unit_zero hz]
  simp only [View.ld_unit_zero (S := S512x1024) hz, View.ld_unit_zero (S := S1x1024) hz]
  unfold k0_pay1 rms
  pointwise

theorem i0 : ∀ t : Fin cfg0.N, win0_0.index t (0 : Fin 2) = t.val ∧ win0_0.index t (1 : Fin 2) = 0 := (by decide +kernel : ∀ t : Fin grid0.N, _)
theorem i1 : ∀ t : Fin cfg0.N, win0_1.index t (0 : Fin 2) = 0 ∧ win0_1.index t (1 : Fin 2) = 0 := (by decide +kernel : ∀ t : Fin grid0.N, _)
theorem i2 : ∀ t : Fin cfg0.N, win0_2.index t (0 : Fin 2) = t.val ∧ win0_2.index t (1 : Fin 2) = 0 := (by decide +kernel : ∀ t : Fin grid0.N, _)

variable (m : (ℓ : Loc nD τ sig) → Buf (Elt Ideal) ℓ) (c : Dev nD)

abbrev X0 : S8192x1024.Idx → EReal := m ((c.tc : Thread nD τ).loc main_arg0)
abbrev X1 : S1x1024.Idx → EReal := m ((c.tc : Thread nD τ).loc main_arg1)

theorem t_lt (t : Fin cfg0.N) : t.val < 16 := Nat.lt_of_lt_of_eq t.isLt N_0

/-- The row of the array that row `i` of grid point `n`'s block is. -/
def row (n : ℕ) (i : Fin 512) : Fin 8192 := pos 8192 (n * 512 + i.val)

theorem row_val (t : Fin cfg0.N) (i : Fin 512) : (row t.val i).val = t.val * 512 + i.val := pos_val (by have := t_lt t; omega)

theorem b0 (t : Fin cfg0.N) (i : Fin 512) (k : Fin 1024) : (iblk m c 0 t (ix2 i k) : EReal) = X0 m c (ix2 (row t.val i) k) := by
  have e := i0 t
  blk_simp [iblk]
  refine (congrFun (V_main_arg0 m c) _).trans (congrArg (X0 m c) (funext fun a => Fin.ext ?_))
  match a with
  | ⟨0, _⟩ => blk_simp [e.1]; exact (row_val t i).symm
  | ⟨1, _⟩ => blk_simp [e.2]

theorem b1 (t : Fin cfg0.N) (j : Fin 1024) : (iblk m c 1 t (ix2 0 j) : EReal) = X1 m c (ix2 0 j) := by
  have e := i1 t
  blk_simp [iblk]
  refine (congrFun (V_main_arg1 m c) _).trans (congrArg (X1 m c) (funext fun a => Fin.ext ?_))
  match a with
  | ⟨0, _⟩ => blk_simp [e.1]
  | ⟨1, _⟩ => blk_simp [e.2]

/-- The result is each row of the input, normalised. -/
theorem arr : (dats m 0 c).arrAt 2 cfg0.N = fun y : S8192x1024.Idx => rms (fun k => X0 m c (ix2 (y 0) k)) (X1 m c (ix2 0 (y 1))) (y 1) := by
  refine (dats m 0 c).arrAt_eq_of_covers 2 _ (by decide +kernel) fun t hf y => ?_
  have e := i2 t
  blk_simp
  obtain ⟨i, j, rfl⟩ : ∃ (i : Fin 512) (j : Fin 1024), y = ix2 i j := ⟨y 0, y 1, (ix2_eta y).symm⟩
  have h0 : ((win0_2.blk t).view.emb (ix2 i j) 0 : Fin 8192) = row t.val i := Fin.ext (by blk_simp [e.1]; exact (row_val t i).symm)
  have h1 : ((win0_2.blk t).view.emb (ix2 i j) 1 : Fin 1024) = j := Fin.ext (by blk_simp [e.2])
  have hr : (fun k : Fin 1024 => (iblk m c 0 t (ix2 i k) : EReal)) = fun k => X0 m c (ix2 (row t.val i) k) := funext fun k => b0 m c t i k
  rw [after0_2, out_e, hr, b1, h0, h1]

/-- The kernel's normalised input is the reference's. -/
theorem algebraic : @Cert.algebraic_Kernel20Ideal_Reference20Ideal Cert.Kernel20Ideal.Gen.facts Cert.Reference20Ideal.Gen.facts :=
  fun m g m' g' _ hm => ⟨fun c => (dats m 0 c).arrAt 2 cfg0.N,
    Cert.Kernel20Ideal.Value.run_blocks m g,
    (θ_run _ _ _).mono (fun r h c => by
      obtain ⟨h0, h1⟩ := hm c
      refine ⟨(h c).1.trans ?_, (h c).2⟩
      rw [h0, h1]
      refine Eq.trans ?_ (arr m c).symm
      funext y
      obtain ⟨i, j, rfl⟩ : ∃ (i : Fin 8192) (j : Fin 1024), y = ix2 i j := ⟨y 0, y 1, (ix2_eta y).symm⟩
      pointwise
      rw [div_1024]
      rfl) (Cert.Reference20Ideal.Value.run (F := Ideal) m' g')⟩

/-- On the chip's words the two printed kernels have one body table. -/
theorem defs_eq : Cert.Kernel20.defs (F := Bits) = Cert.Kernel20Ideal.defs (F := Bits) := by
  have h : Cert.Kernel20.defs₀ (F := Bits) = Cert.Kernel20Ideal.defs₀ (F := Bits) := by
    unfold Cert.Kernel20.defs₀ Cert.Kernel20Ideal.defs₀
    refine congrArg Defs.onTc ?_
    funext l x
    match l, x with
    | 0, (t, s) => rfl
  show Pipeline.defs (Cert.Kernel20.pcfgs (F := Bits)) (Cert.Kernel20.defs₀ (F := Bits)) = _
  rw [h]
  rfl

/-- The kernel's frame on the chip's words: its text is `Kernel20Ideal`'s, so one run serves both. -/
theorem frame_kernel : @Cert.quiescent_Kernel20 Cert.Kernel20.Gen.facts := fun m g _ => by
  have h := Cert.Kernel20Ideal.Gen.frame (F := Bits) m g
  rw [← defs_eq] at h
  exact h

/-- The same frame over the extended reals. -/
theorem frame_ideal : @Cert.quiescent_Kernel20Ideal Cert.Kernel20Ideal.Gen.facts := fun m g _ =>
  Cert.Kernel20Ideal.Gen.frame m g

/-- The reference's frame. -/
theorem frame_ref : @Cert.quiescent_Reference20Ideal Cert.Reference20Ideal.Gen.facts := fun m g _ =>
  (θ_run _ _ _).mono (fun r h => ⟨fun c => (h c).2, sem_eq_zero_of_no_sems (by decide) r.2⟩) (Cert.Reference20Ideal.Value.run m g)

end Cert.Proof.RmsMix

end
-- ==== Proof.RetPost.lean ====
module

public import proofs.«01_k».proof.Proof.Product
public import proofs.«01_k».proof.Proof.Words
public import proofs.«01_k».proof.Defs
public import proofs.«01_k».proof.Proof.Gen.Kernel21
public import proofs.«01_k».proof.Proof.Gen.Kernel21Ideal.Value
public import proofs.«01_k».proof.Proof.Gen.Reference21Ideal.Run
public import Idealize.ShloMosaic.Lib.Pipeline.ValueKit
public import Idealize.ShloMosaic.Lib.Pointwise
public import Idealize.ShloMosaic.Lib.Quiescent

@[expose] public section

set_option maxRecDepth 16384

noncomputable section

/-! The retention's output, normalised within each head and gated: kernel 21 against reference 21. -/

namespace Cert.Proof.RetPost

open Cert.Kernel21Ideal Cert.Kernel21Ideal.Gen Cert.Proof.Product Cert.Proof.Words
open Idealize.ShloMosaic Idealize.ShloMosaic.TcCoe Idealize.SL.Sem
open scoped BigOperators

theorem hz : (![0, 0] : Fin 2 → Nat) = fun _ => 0 := funext fun a => by fin_cases a <;> rfl

/-- The word of one 128th. -/
theorem word_inv_128 : Ideal.ofBits .f32 0x3C000000#32 = ((1 / 128 : ℝ) : EReal) := by
  simp [Ideal.ofBits, Ideal.ieee, -EReal.coe_mul]; norm_num

/-- The word of 128. -/
theorem word_128 : Ideal.ofBits .f32 0x43000000#32 = ((128 : ℝ) : EReal) := by
  simp [Ideal.ofBits, Ideal.ieee, -EReal.coe_mul]; norm_num

/-- Dividing by 128 is multiplying by one 128th. -/
theorem div_128 (x : EReal) : Ideal.div x (Ideal.ofBits .f32 0x43000000#32) = x * Ideal.ofBits .f32 0x3C000000#32 := by
  rw [word_128, word_inv_128, Ideal.div_coe (by norm_num)]

/-- The sum of the squares of `r` over the 128 columns of the head column `j` belongs to. -/
def square (r : Fin 1024 → EReal) (j : Fin 1024) : EReal :=
  ∑ k : Fin 128, r ⟨j.val / 128 * 128 + k.val, by omega⟩ * r ⟨j.val / 128 * 128 + k.val, by omega⟩

/-- Entry `j` of a row `r` gated by `g`, the row divided by its head's root mean square. -/
def post (r : Fin 1024 → EReal) (g : EReal) (j : Fin 1024) : EReal :=
  g * Ideal.logistic g * (r j * Ideal.rsqrt (square r j * Ideal.ofBits .f32 0x3C000000#32 + Ideal.ofBits .f32 0x358637BD#32))

theorem pay2_e (x0 x1 : Vec Ideal S512x1024 .f32) (i : Fin 512) (j : Fin 1024) :
    (k0_pay2 x0 x1 (ix2 i j) : EReal) = x0 (ix2 i j) + x1 (ix2 i j) := by
  unfold k0_pay2
  pointwise

/-- The sum of two blocks along a row. -/
def both (x0 x1 : Vec Ideal S512x1024 .f32) (i : Fin 512) (k : Fin 1024) : EReal := x0 (ix2 i k) + x1 (ix2 i k)

/-- The gated entry from its column `p` and its head's columns `q`. -/
theorem post_e (x0 x1 x2 : Vec Ideal S512x1024 .f32) (i : Fin 512) (j p : Fin 1024) (q : Fin 128 → Fin 1024) (hp : p = j)
    (hq : ∀ k, q k = ⟨j.val / 128 * 128 + k.val, by omega⟩) :
    (x2 (ix2 i p) : EReal) * Ideal.logistic (x2 (ix2 i p) : EReal) * (k0_pay2 x0 x1 (ix2 i p) * Ideal.rsqrt
      ((∑ k, (k0_pay2 x0 x1 (ix2 i (q k)) : EReal) * k0_pay2 x0 x1 (ix2 i (q k))) * Ideal.ofBits .f32 0x3C000000#32
        + Ideal.ofBits .f32 0x358637BD#32)) = post (both x0 x1 i) (x2 (ix2 i j)) j := by
  subst hp
  unfold post square both
  simp only [pay2_e, hq]

theorem out_e (x0 x1 x2 : Vec Ideal S512x1024 .f32) (i : Fin 512) (j : Fin 1024) :
    (out0_3 x0 x1 x2 (ix2 i j) : EReal) = post (both x0 x1 i) (x2 (ix2 i j)) j := by
  unfold out0_3
  rw [View.canon_unit_zero hz]
  simp only [View.ld_unit_zero (S := S512x1024) hz]
  unfold k0_pay23
  simp only [View.ld_unit_zero (S := S512x1024) hz]
  unfold k0_pay1 k0_pay3 k0_pay4 k0_pay5 k0_pay7 k0_pay8 k0_pay9 k0_pay10 k0_pay11 k0_pay12 k0_pay13 k0_pay14 k0_pay15 k0_pay16 k0_pay17 k0_pay18 k0_pay19 k0_pay20 k0_pay21 k0_pay22 k0_pay6
  pointwise
  split_ifs <;> exact post_e x0 x1 x2 i j _ _ (Fin.ext (by dsimp only <;> omega)) fun k => Fin.ext (by dsimp only <;> omega)

theorem i0 : ∀ t : Fin cfg0.N, win0_0.index t (0 : Fin 2) = t.val ∧ win0_0.index t (1 : Fin 2) = 0 := (by decide +kernel : ∀ t : Fin grid0.N, _)
theorem i1 : ∀ t : Fin cfg0.N, win0_1.index t (0 : Fin 2) = t.val ∧ win0_1.index t (1 : Fin 2) = 0 := (by decide +kernel : ∀ t : Fin grid0.N, _)
theorem i2 : ∀ t : Fin cfg0.N, win0_2.index t (0 : Fin 2) = t.val ∧ win0_2.index t (1 : Fin 2) = 3 := (by decide +kernel : ∀ t : Fin grid0.N, _)
theorem i3 : ∀ t : Fin cfg0.N, win0_3.index t (0 : Fin 2) = t.val ∧ win0_3.index t (1 : Fin 2) = 0 := (by decide +kernel : ∀ t : Fin grid0.N, _)

variable (m : (ℓ : Loc nD τ sig) → Buf (Elt Ideal) ℓ) (c : Dev nD)

abbrev X0 : S8192x1024.Idx → EReal := m ((c.tc : Thread nD τ).loc main_arg0)
abbrev X1 : S8192x1024.Idx → EReal := m ((c.tc : Thread nD τ).loc main_arg1)
abbrev X2 : S8192x5120.Idx → EReal := m ((c.tc : Thread nD τ).loc main_arg2)

/-- The column of the projection where the gate of column `j` stands. -/
def colG (j : Fin 1024) : Fin 5120 := ⟨3072 + j.val, by omega⟩

theorem t_lt (t : Fin cfg0.N) : t.val < 16 := Nat.lt_of_lt_of_eq t.isLt N_0

/-- The row of the array that row `i` of grid point `n`'s block is. -/
def row (n : ℕ) (i : Fin 512) : Fin 8192 := pos 8192 (n * 512 + i.val)

theorem row_val (t : Fin cfg0.N) (i : Fin 512) : (row t.val i).val = t.val * 512 + i.val := pos_val (by have := t_lt t; omega)

theorem b0 (t : Fin cfg0.N) (i : Fin 512) (k : Fin 1024) : (iblk m c 0 t (ix2 i k) : EReal) = X0 m c (ix2 (row t.val i) k) := by
  have e := i0 t
  blk_simp [iblk]
  refine (congrFun (V_main_arg0 m c) _).trans (congrArg (X0 m c) (funext fun a => Fin.ext ?_))
  match a with
  | ⟨0, _⟩ => blk_simp [e.1]; exact (row_val t i).symm
  | ⟨1, _⟩ => blk_simp [e.2]

theorem b1 (t : Fin cfg0.N) (i : Fin 512) (k : Fin 1024) : (iblk m c 1 t (ix2 i k) : EReal) = X1 m c (ix2 (row t.val i) k) := by
  have e := i1 t
  blk_simp [iblk]
  refine (congrFun (V_main_arg1 m c) _).trans (congrArg (X1 m c) (funext fun a => Fin.ext ?_))
  match a with
  | ⟨0, _⟩ => blk_simp [e.1]; exact (row_val t i).symm
  | ⟨1, _⟩ => blk_simp [e.2]

theorem b2 (t : Fin cfg0.N) (i : Fin 512) (j : Fin 1024) : (iblk m c 2 t (ix2 i j) : EReal) = X2 m c (ix2 (row t.val i) (colG j)) := by
  have e := i2 t
  blk_simp [iblk]
  refine (congrFun (V_main_arg2 m c) _).trans (congrArg (X2 m c) (funext fun a => Fin.ext ?_))
  match a with
  | ⟨0, _⟩ => blk_simp [e.1]; exact (row_val t i).symm
  | ⟨1, _⟩ => blk_simp [e.2]; rfl

/-- The two directions' sum along a row. -/
def R (r : Fin 8192) (k : Fin 1024) : EReal := X0 m c (ix2 r k) + X1 m c (ix2 r k)

/-- The result is each row's sum of the two directions, normalised within its heads and gated. -/
theorem arr : (dats m 0 c).arrAt 3 cfg0.N = fun y : S8192x1024.Idx => post (R m c (y 0)) (X2 m c (ix2 (y 0) (colG (y 1)))) (y 1) := by
  refine (dats m 0 c).arrAt_eq_of_covers 3 _ (by decide +kernel) fun t hf y => ?_
  have e := i3 t
  blk_simp
  obtain ⟨i, j, rfl⟩ : ∃ (i : Fin 512) (j : Fin 1024), y = ix2 i j := ⟨y 0, y 1, (ix2_eta y).symm⟩
  have h0 : ((win0_3.blk t).view.emb (ix2 i j) 0 : Fin 8192) = row t.val i := Fin.ext (by blk_simp [e.1]; exact (row_val t i).symm)
  have h1 : ((win0_3.blk t).view.emb (ix2 i j) 1 : Fin 1024) = j := Fin.ext (by blk_simp [e.2])
  have hr : both (iblk m c 0 t) (iblk m c 1 t) i = R m c (row t.val i) :=
    funext fun k => congrArg₂ (· + ·) (b0 m c t i k) (b1 m c t i k)
  rw [after0_3, out_e, hr, b2, h0, h1]

/-- The kernel's gated retention is the reference's. -/
theorem algebraic : @Cert.algebraic_Kernel21Ideal_Reference21Ideal Cert.Kernel21Ideal.Gen.facts Cert.Reference21Ideal.Gen.facts :=
  fun m g m' g' _ hm => ⟨fun c => (dats m 0 c).arrAt 3 cfg0.N,
    Cert.Kernel21Ideal.Value.run_blocks m g,
    (θ_run _ _ _).mono (fun r h c => by
      obtain ⟨h0, h1, h2⟩ := hm c
      refine ⟨(h c).1.trans ?_, (h c).2⟩
      rw [h0, h1, h2]
      refine Eq.trans ?_ (arr m c).symm
      funext y
      obtain ⟨i, j, rfl⟩ : ∃ (i : Fin 8192) (j : Fin 1024), y = ix2 i j := ⟨y 0, y 1, (ix2_eta y).symm⟩
      pointwise
      simp only [div_128]
      rfl) (Cert.Reference21Ideal.Value.run (F := Ideal) m' g')⟩

/-- On the chip's words the two printed kernels have one body table. -/
theorem defs_eq : Cert.Kernel21.defs (F := Bits) = Cert.Kernel21Ideal.defs (F := Bits) := by
  have h : Cert.Kernel21.defs₀ (F := Bits) = Cert.Kernel21Ideal.defs₀ (F := Bits) := by
    unfold Cert.Kernel21.defs₀ Cert.Kernel21Ideal.defs₀
    refine congrArg Defs.onTc ?_
    funext l x
    match l, x with
    | 0, (t, s) => rfl
  show Pipeline.defs (Cert.Kernel21.pcfgs (F := Bits)) (Cert.Kernel21.defs₀ (F := Bits)) = _
  rw [h]
  rfl

/-- The kernel's frame on the chip's words: its text is `Kernel21Ideal`'s, so one run serves both. -/
theorem frame_kernel : @Cert.quiescent_Kernel21 Cert.Kernel21.Gen.facts := fun m g _ => by
  have h := Cert.Kernel21Ideal.Gen.frame (F := Bits) m g
  rw [← defs_eq] at h
  exact h

/-- The same frame over the extended reals. -/
theorem frame_ideal : @Cert.quiescent_Kernel21Ideal Cert.Kernel21Ideal.Gen.facts := fun m g _ =>
  Cert.Kernel21Ideal.Gen.frame m g

/-- The reference's frame. -/
theorem frame_ref : @Cert.quiescent_Reference21Ideal Cert.Reference21Ideal.Gen.facts := fun m g _ =>
  (θ_run _ _ _).mono (fun r h => ⟨fun c => (h c).2, sem_eq_zero_of_no_sems (by decide) r.2⟩) (Cert.Reference21Ideal.Value.run m g)

end Cert.Proof.RetPost

end
-- ==== Proof.DRetPost.lean ====
module

public import proofs.«01_k».proof.Proof.RetPost
public import proofs.«01_k».proof.Proof.Algebraic
public import proofs.«01_k».proof.Proof.Gen.Kernel22
public import proofs.«01_k».proof.Proof.Gen.Kernel22Ideal.Value
public import proofs.«01_k».proof.Proof.Gen.Reference22Ideal.Run
public import proofs.«01_k».proof.Proof.Gen.Pre_finite22
public import Idealize.ShloMosaic.Lib.ReduceAll

@[expose] public section

set_option maxRecDepth 16384

noncomputable section

/-! The gradients of the retention's output and of its gate: kernel 22 against reference 22. -/

namespace Cert.Proof.DRetPost

open Cert.Kernel22Ideal Cert.Kernel22Ideal.Gen Cert.Proof.Product Cert.Proof.Words Cert.Proof.RetPost
open Idealize.ShloMosaic Idealize.ShloMosaic.TcCoe Idealize.SL.Sem
open scoped BigOperators

/-- Column `k` of the head column `j` belongs to. -/
def col (j : Fin 1024) (k : Fin 128) : Fin 1024 := ⟨j.val / 128 * 128 + k.val, by omega⟩

/-- The sum over the columns of the head column `j` belongs to. -/
def head (f : Fin 1024 → EReal) (j : Fin 1024) : EReal := ∑ k : Fin 128, f (col j k)

/-- The reciprocal of the root mean square of the head of a row `r` that column `j` belongs to. -/
def rho (r : Fin 1024 → EReal) (j : Fin 1024) : EReal :=
  Ideal.rsqrt (head (fun k => r k * r k) j * Ideal.ofBits .f32 0x3C000000#32 + Ideal.ofBits .f32 0x358637BD#32)

/-- The gradient of the normalised value: the gate's value times the cotangent `d`. -/
def cot (g d : Fin 1024 → EReal) (k : Fin 1024) : EReal := g k * Ideal.logistic (g k) * d k

/-- The gradient of the row `r` at column `j`, as the kernel takes it. -/
def dRow (r g d : Fin 1024 → EReal) (j : Fin 1024) : EReal :=
  rho r j * (cot g d j - r j * rho r j * (head (fun k => cot g d k * (r k * rho r j)) j * Ideal.ofBits .f32 0x3C000000#32))

/-- The gradient of the gate at column `j`. -/
def dGate (r g d : Fin 1024 → EReal) (j : Fin 1024) : EReal :=
  d j * (r j * rho r j) * Ideal.logistic (g j) + g j * (d j * (r j * rho r j)) * (Ideal.logistic (g j) * (1 - Ideal.logistic (g j)))

/-- The gradient of the reciprocal root mean square, spread over the head's columns, as the reference takes it. -/
def spread (r g d : Fin 1024 → EReal) (j : Fin 1024) : EReal :=
  head (fun k => r k * cot g d k) j * (Ideal.ofBits .f32 0xBF000000#32 * Ideal.div (rho r j)
    (head (fun k => r k * r k) j * Ideal.ofBits .f32 0x3C000000#32 + Ideal.ofBits .f32 0x358637BD#32)) * Ideal.ofBits .f32 0x3C000000#32

/-- The gradient of the row `r` at column `j`, as the reference takes it. -/
def dRef (r g d : Fin 1024 → EReal) (j : Fin 1024) : EReal :=
  cot g d j * rho r j + r j * spread r g d j + spread r g d j * r j

/-- Every entry of the row is a real number. -/
def RealRow (r : Fin 1024 → EReal) : Prop := ∃ f : Fin 1024 → ℝ, r = fun k => (f k : EReal)

theorem realRow {r : Fin 1024 → EReal} (h : ∀ k, r k ≠ ⊤ ∧ r k ≠ ⊥) : RealRow r :=
  ⟨fun k => (r k).toReal, funext fun k => (EReal.coe_toReal (h k).1 (h k).2).symm⟩

theorem head_coe (f : Fin 1024 → ℝ) (j : Fin 1024) : head (fun k => (f k : EReal)) j = ((∑ k : Fin 128, f (col j k) : ℝ) : EReal) :=
  (Soft.coe_sum _ _).symm

theorem cot_coe (g d : Fin 1024 → ℝ) (k : Fin 1024) :
    cot (fun k => (g k : EReal)) (fun k => (d k : EReal)) k = ((g k * (1 + Real.exp (-g k))⁻¹ * d k : ℝ) : EReal) := by
  unfold cot
  rw [Ideal.logistic_coe, EReal.coe_mul, EReal.coe_mul]

/-- The word of the number the mean square is kept from zero by. -/
theorem word_eps : Ideal.ofBits .f32 0x358637BD#32 = ((8796093 / 8796093022208 : ℝ) : EReal) := by
  simp [Ideal.ofBits, Ideal.ieee, -EReal.coe_mul]; norm_num

/-- The word of minus one half. -/
theorem word_neg_half : Ideal.ofBits .f32 0xBF000000#32 = ((-(1 / 2) : ℝ) : EReal) := by
  simp [Ideal.ofBits, Ideal.ieee, -EReal.coe_mul]; norm_num

/-- The mean square of a head of real numbers, kept from zero. -/
def mean (r : Fin 1024 → ℝ) (j : Fin 1024) : ℝ := (∑ k : Fin 128, r (col j k) * r (col j k)) * (1 / 128) + 8796093 / 8796093022208

theorem mean_pos (r : Fin 1024 → ℝ) (j : Fin 1024) : 0 < mean r j := by
  have h : 0 ≤ ∑ k : Fin 128, r (col j k) * r (col j k) := Finset.sum_nonneg fun k _ => mul_self_nonneg _
  unfold mean
  positivity

theorem mean_coe (r : Fin 1024 → ℝ) (j : Fin 1024) : head (fun k => (r k : EReal) * (r k : EReal)) j * Ideal.ofBits .f32 0x3C000000#32
    + Ideal.ofBits .f32 0x358637BD#32 = ((mean r j : ℝ) : EReal) := by
  have h : head (fun k => (r k : EReal) * (r k : EReal)) j = head (fun k => ((r k * r k : ℝ) : EReal)) j := by simp only [EReal.coe_mul]
  rw [h, head_coe (fun k => r k * r k), word_inv_128, word_eps, ← EReal.coe_mul, ← EReal.coe_add]
  rfl

theorem rho_coe (r : Fin 1024 → ℝ) (j : Fin 1024) : rho (fun k => (r k : EReal)) j = (((Real.sqrt (mean r j))⁻¹ : ℝ) : EReal) := by
  unfold rho
  rw [mean_coe, Ideal.rsqrt_coe, if_neg (mean_pos r j).not_gt, if_neg (mean_pos r j).ne']

/-- Of real numbers the two ways to take the row's gradient agree: the square of the reciprocal root is the reciprocal. -/
theorem dRef_eq {r g d : Fin 1024 → EReal} (hr : RealRow r) (hg : RealRow g) (hd : RealRow d) (j : Fin 1024) : dRef r g d j = dRow r g d j := by
  obtain ⟨r, rfl⟩ := hr
  obtain ⟨g, rfl⟩ := hg
  obtain ⟨d, rfl⟩ := hd
  have hv := mean_pos r j
  unfold dRef dRow spread
  simp only [mean_coe, rho_coe, cot_coe]
  simp only [Ideal.div_coe hv.ne', word_inv_128, word_neg_half, ← EReal.coe_mul, head_coe, ← EReal.coe_add, ← EReal.coe_sub]
  refine congrArg _ ?_
  generalize hx : (fun k => g k * (1 + Real.exp (-g k))⁻¹ * d k) = x
  have hx' : ∀ k, g k * (1 + Real.exp (-g k))⁻¹ * d k = x k := fun k => congrFun hx k
  simp only [hx']
  have hs : ∑ k : Fin 128, x (col j k) * (r (col j k) * (Real.sqrt (mean r j))⁻¹) = (∑ k : Fin 128, r (col j k) * x (col j k)) * (Real.sqrt (mean r j))⁻¹ := by
    rw [Finset.sum_mul]
    exact Finset.sum_congr rfl fun k _ => by ring
  have hp : 1 / mean r j = (Real.sqrt (mean r j))⁻¹ * (Real.sqrt (mean r j))⁻¹ := by
    rw [← mul_inv, Real.mul_self_sqrt hv.le, one_div]
  rw [hs, hp]
  ring

/-- The gate's gradient from the entry's column `p` and its head's columns `q`. -/
theorem dGate_e (r g d : Fin 1024 → EReal) (j p : Fin 1024) (q : Fin 128 → Fin 1024) (hp : p = j) (hq : ∀ k, q k = col j k) :
    d p * (r p * Ideal.rsqrt ((∑ k, r (q k) * r (q k)) * Ideal.ofBits .f32 0x3C000000#32 + Ideal.ofBits .f32 0x358637BD#32)) * Ideal.logistic (g p)
      + g p * (d p * (r p * Ideal.rsqrt ((∑ k, r (q k) * r (q k)) * Ideal.ofBits .f32 0x3C000000#32 + Ideal.ofBits .f32 0x358637BD#32)))
        * (Ideal.logistic (g p) * (1 - Ideal.logistic (g p))) = dGate r g d j := by
  subst hp
  simp only [hq]
  rfl

/-- The row's gradient from the entry's column `p` and its head's columns `q`. -/
theorem dRow_e (r g d : Fin 1024 → EReal) (j p : Fin 1024) (q : Fin 128 → Fin 1024) (hp : p = j) (hq : ∀ k, q k = col j k) :
    Ideal.rsqrt ((∑ k, r (q k) * r (q k)) * Ideal.ofBits .f32 0x3C000000#32 + Ideal.ofBits .f32 0x358637BD#32)
      * (g p * Ideal.logistic (g p) * d p
        - r p * Ideal.rsqrt ((∑ k, r (q k) * r (q k)) * Ideal.ofBits .f32 0x3C000000#32 + Ideal.ofBits .f32 0x358637BD#32)
          * ((∑ k, g (q k) * Ideal.logistic (g (q k)) * d (q k)
              * (r (q k) * Ideal.rsqrt ((∑ k, r (q k) * r (q k)) * Ideal.ofBits .f32 0x3C000000#32 + Ideal.ofBits .f32 0x358637BD#32)))
            * Ideal.ofBits .f32 0x3C000000#32)) = dRow r g d j := by
  subst hp
  simp only [hq]
  rfl

section
variable (x0 : Vec Ideal S512x1024 .bf16) (x1 : Vec Ideal S1024x1024 .bf16) (x2 x3 x4 : Vec Ideal S512x1024 .f32)

/-- The cotangent in a block: the product with the transposed weights. -/
def prod (i : Fin 512) (j : Fin 1024) : EReal := ∑ k : Fin 1024, x0 (ix2 i k) * x1 (ix2 j k)

theorem pay2_e (i : Fin 512) (j : Fin 1024) : (k0_pay2 x0 x1 (ix2 i j) : EReal) = prod x0 x1 i j := by
  unfold k0_pay2 prod
  pointwise

theorem pay3_e (i : Fin 512) (j : Fin 1024) : (k0_pay3 x2 x3 (ix2 i j) : EReal) = both x2 x3 i j := by
  unfold k0_pay3
  pointwise
  rfl

set_option maxHeartbeats 4000000 in
theorem out6_e (i : Fin 512) (j : Fin 1024) :
    (out0_6 x0 x1 x2 x3 x4 (ix2 i j) : EReal) = dGate (both x2 x3 i) (fun k => x4 (ix2 i k)) (prod x0 x1 i) j := by
  unfold_out out0_6
  rw [View.canon_unit_zero hz]
  simp only [View.ld_unit_zero (S := S512x1024) hz, View.ld_unit_zero (S := S1024x1024) hz]
  simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96]
  pointwise
  simp only [pay2_e, pay3_e]
  have hj := j.isLt
  rcases (by omega : j.val / 128 = 0 ∨ j.val / 128 = 1 ∨ j.val / 128 = 2 ∨ j.val / 128 = 3 ∨ j.val / 128 = 4 ∨ j.val / 128 = 5 ∨ j.val / 128 = 6 ∨ j.val / 128 = 7) with h | h | h | h | h | h | h | h <;>
    simp (disch := omega) only [if_pos, if_neg, dif_pos, dif_neg]
  all_goals
    simp only [zero_add, add_zero]
    exact dGate_e (both x2 x3 i) (fun k => x4 (ix2 i k)) (prod x0 x1 i) j _ _ (Fin.ext (by dsimp only <;> omega)) fun k => Fin.ext (by dsimp only [col] <;> omega)

set_option maxHeartbeats 4000000 in
theorem out5_e (i : Fin 512) (j : Fin 1024) :
    (out0_5 x0 x1 x2 x3 x4 (ix2 i j) : EReal) = dRow (both x2 x3 i) (fun k => x4 (ix2 i k)) (prod x0 x1 i) j := by
  unfold_out out0_5
  rw [View.canon_unit_zero hz]
  simp only [View.ld_unit_zero (S := S512x1024) hz, View.ld_unit_zero (S := S1024x1024) hz]
  simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96]
  pointwise
  simp only [pay2_e, pay3_e]
  have hj := j.isLt
  rcases (by omega : j.val / 128 = 0 ∨ j.val / 128 = 1 ∨ j.val / 128 = 2 ∨ j.val / 128 = 3 ∨ j.val / 128 = 4 ∨ j.val / 128 = 5 ∨ j.val / 128 = 6 ∨ j.val / 128 = 7) with h | h | h | h | h | h | h | h <;>
    simp (disch := omega) only [if_pos, if_neg, dif_pos, dif_neg]
  all_goals
    simp only [zero_add, add_zero]
    exact dRow_e (both x2 x3 i) (fun k => x4 (ix2 i k)) (prod x0 x1 i) j _ _ (Fin.ext (by dsimp only <;> omega)) fun k => Fin.ext (by dsimp only [col] <;> omega)

end

theorem i0 : ∀ t : Fin cfg0.N, win0_0.index t (0 : Fin 2) = t.val ∧ win0_0.index t (1 : Fin 2) = 0 := (by decide +kernel : ∀ t : Fin grid0.N, _)
theorem i1 : ∀ t : Fin cfg0.N, win0_1.index t (0 : Fin 2) = 0 ∧ win0_1.index t (1 : Fin 2) = 0 := (by decide +kernel : ∀ t : Fin grid0.N, _)
theorem i2 : ∀ t : Fin cfg0.N, win0_2.index t (0 : Fin 2) = t.val ∧ win0_2.index t (1 : Fin 2) = 0 := (by decide +kernel : ∀ t : Fin grid0.N, _)
theorem i3 : ∀ t : Fin cfg0.N, win0_3.index t (0 : Fin 2) = t.val ∧ win0_3.index t (1 : Fin 2) = 0 := (by decide +kernel : ∀ t : Fin grid0.N, _)
theorem i4 : ∀ t : Fin cfg0.N, win0_4.index t (0 : Fin 2) = t.val ∧ win0_4.index t (1 : Fin 2) = 3 := (by decide +kernel : ∀ t : Fin grid0.N, _)
theorem i5 : ∀ t : Fin cfg0.N, win0_5.index t (0 : Fin 2) = t.val ∧ win0_5.index t (1 : Fin 2) = 0 := (by decide +kernel : ∀ t : Fin grid0.N, _)
theorem i6 : ∀ t : Fin cfg0.N, win0_6.index t (0 : Fin 2) = t.val ∧ win0_6.index t (1 : Fin 2) = 0 := (by decide +kernel : ∀ t : Fin grid0.N, _)

variable (m : (ℓ : Loc nD τ sig) → Buf (Elt Ideal) ℓ) (c : Dev nD)

abbrev X0 : S8192x1024.Idx → EReal := m ((c.tc : Thread nD τ).loc main_arg0)
abbrev X1 : S1024x1024.Idx → EReal := m ((c.tc : Thread nD τ).loc main_arg1)
abbrev X2 : S8192x1024.Idx → EReal := m ((c.tc : Thread nD τ).loc main_arg2)
abbrev X3 : S8192x1024.Idx → EReal := m ((c.tc : Thread nD τ).loc main_arg3)
abbrev X4 : S8192x5120.Idx → EReal := m ((c.tc : Thread nD τ).loc main_arg4)

theorem t_lt (t : Fin cfg0.N) : t.val < 16 := Nat.lt_of_lt_of_eq t.isLt N_0

theorem row_val (t : Fin cfg0.N) (i : Fin 512) : (row t.val i).val = t.val * 512 + i.val := pos_val (by have := t_lt t; omega)

theorem b0 (t : Fin cfg0.N) (i : Fin 512) (k : Fin 1024) : (iblk m c 0 t (ix2 i k) : EReal) = X0 m c (ix2 (row t.val i) k) := by
  have e := i0 t
  blk_simp [iblk]
  refine (congrFun (V_main_arg0 m c) _).trans (congrArg (X0 m c) (funext fun a => Fin.ext ?_))
  match a with
  | ⟨0, _⟩ => blk_simp [e.1]; exact (row_val t i).symm
  | ⟨1, _⟩ => blk_simp [e.2]

theorem b1 (t : Fin cfg0.N) (j k : Fin 1024) : (iblk m c 1 t (ix2 j k) : EReal) = X1 m c (ix2 j k) := by
  have e := i1 t
  blk_simp [iblk]
  refine (congrFun (V_main_arg1 m c) _).trans (congrArg (X1 m c) (funext fun a => Fin.ext ?_))
  match a with
  | ⟨0, _⟩ => blk_simp [e.1]
  | ⟨1, _⟩ => blk_simp [e.2]

theorem b2 (t : Fin cfg0.N) (i : Fin 512) (k : Fin 1024) : (iblk m c 2 t (ix2 i k) : EReal) = X2 m c (ix2 (row t.val i) k) := by
  have e := i2 t
  blk_simp [iblk]
  refine (congrFun (V_main_arg2 m c) _).trans (congrArg (X2 m c) (funext fun a => Fin.ext ?_))
  match a with
  | ⟨0, _⟩ => blk_simp [e.1]; exact (row_val t i).symm
  | ⟨1, _⟩ => blk_simp [e.2]

theorem b3 (t : Fin cfg0.N) (i : Fin 512) (k : Fin 1024) : (iblk m c 3 t (ix2 i k) : EReal) = X3 m c (ix2 (row t.val i) k) := by
  have e := i3 t
  blk_simp [iblk]
  refine (congrFun (V_main_arg3 m c) _).trans (congrArg (X3 m c) (funext fun a => Fin.ext ?_))
  match a with
  | ⟨0, _⟩ => blk_simp [e.1]; exact (row_val t i).symm
  | ⟨1, _⟩ => blk_simp [e.2]

theorem b4 (t : Fin cfg0.N) (i : Fin 512) (k : Fin 1024) : (iblk m c 4 t (ix2 i k) : EReal) = X4 m c (ix2 (row t.val i) (colG k)) := by
  have e := i4 t
  blk_simp [iblk]
  refine (congrFun (V_main_arg4 m c) _).trans (congrArg (X4 m c) (funext fun a => Fin.ext ?_))
  match a with
  | ⟨0, _⟩ => blk_simp [e.1]; exact (row_val t i).symm
  | ⟨1, _⟩ => blk_simp [e.2]; rfl

/-- The two directions' sum along a row, the gate, and the cotangent. -/
def R (r : Fin 8192) (k : Fin 1024) : EReal := X2 m c (ix2 r k) + X3 m c (ix2 r k)
def G (r : Fin 8192) (k : Fin 1024) : EReal := X4 m c (ix2 r (colG k))
def D (r : Fin 8192) (j : Fin 1024) : EReal := ∑ k : Fin 1024, X0 m c (ix2 r k) * X1 m c (ix2 j k)

theorem r_e (t : Fin cfg0.N) (i : Fin 512) : both (iblk m c 2 t) (iblk m c 3 t) i = R m c (row t.val i) :=
  funext fun k => congrArg₂ (· + ·) (b2 m c t i k) (b3 m c t i k)

theorem g_e (t : Fin cfg0.N) (i : Fin 512) : (fun k => (iblk m c 4 t (ix2 i k) : EReal)) = G m c (row t.val i) :=
  funext fun k => b4 m c t i k

theorem d_e (t : Fin cfg0.N) (i : Fin 512) : prod (iblk m c 0 t) (iblk m c 1 t) i = D m c (row t.val i) :=
  funext fun j => Finset.sum_congr rfl fun k _ => congrArg₂ (· * ·) (b0 m c t i k) (b1 m c t j k)

theorem arr5 : (dats m 0 c).arrAt 5 cfg0.N = fun y : S8192x1024.Idx => dRow (R m c (y 0)) (G m c (y 0)) (D m c (y 0)) (y 1) := by
  refine (dats m 0 c).arrAt_eq_of_covers 5 _ (by decide +kernel) fun t hf y => ?_
  have e := i5 t
  blk_simp
  obtain ⟨i, j, rfl⟩ : ∃ (i : Fin 512) (j : Fin 1024), y = ix2 i j := ⟨y 0, y 1, (ix2_eta y).symm⟩
  have h0 : ((win0_5.blk t).view.emb (ix2 i j) 0 : Fin 8192) = row t.val i := Fin.ext (by blk_simp [e.1]; exact (row_val t i).symm)
  have h1 : ((win0_5.blk t).view.emb (ix2 i j) 1 : Fin 1024) = j := Fin.ext (by blk_simp [e.2])
  rw [after0_5, out5_e, r_e, g_e, d_e, h0, h1]

theorem arr6 : (dats m 0 c).arrAt 6 cfg0.N = fun y : S8192x1024.Idx => dGate (R m c (y 0)) (G m c (y 0)) (D m c (y 0)) (y 1) := by
  refine (dats m 0 c).arrAt_eq_of_covers 6 _ (by decide +kernel) fun t hf y => ?_
  have e := i6 t
  blk_simp
  obtain ⟨i, j, rfl⟩ : ∃ (i : Fin 512) (j : Fin 1024), y = ix2 i j := ⟨y 0, y 1, (ix2_eta y).symm⟩
  have h0 : ((win0_6.blk t).view.emb (ix2 i j) 0 : Fin 8192) = row t.val i := Fin.ext (by blk_simp [e.1]; exact (row_val t i).symm)
  have h1 : ((win0_6.blk t).view.emb (ix2 i j) 1 : Fin 1024) = j := Fin.ext (by blk_simp [e.2])
  rw [after0_6, out6_e, r_e, g_e, d_e, h0, h1]

theorem ne_of_coe {x : EReal} (h : ∃ a : ℝ, x = (a : EReal)) : x ≠ ⊤ ∧ x ≠ ⊥ := by
  obtain ⟨a, rfl⟩ := h
  exact ⟨EReal.coe_ne_top a, EReal.coe_ne_bot a⟩

theorem coe_of_ne {x : EReal} (h : x ≠ ⊤ ∧ x ≠ ⊥) : ∃ a : ℝ, x = (a : EReal) := ⟨x.toReal, (EReal.coe_toReal h.1 h.2).symm⟩

instance : Subsingleton Cert.Pre_finite22.S_.Idx := ⟨fun _ _ => funext fun d => d.elim0⟩

/-- What the precondition says of the five arguments: every entry is a real number. -/
theorem reals (h : @Cert.Pre_finite22.fn Cert.Pre_finite22.Gen.facts Ideal _ (X0 m c) (X1 m c) (X2 m c) (X3 m c) (X4 m c) = fun _ => 1#1) :
    (∀ y, X0 m c y ≠ ⊤ ∧ X0 m c y ≠ ⊥) ∧ (∀ y, X1 m c y ≠ ⊤ ∧ X1 m c y ≠ ⊥) ∧ (∀ y, X2 m c y ≠ ⊤ ∧ X2 m c y ≠ ⊥)
      ∧ (∀ y, X3 m c y ≠ ⊤ ∧ X3 m c y ≠ ⊥) ∧ (∀ y, X4 m c y ≠ ⊤ ∧ X4 m c y ≠ ⊥) := by
  have e := congrFun h (fun d => d.elim0)
  unfold Cert.Pre_finite22.fn Cert.Pre_finite22.fn_part1 at e
  obtain ⟨h0123, h4⟩ := Algebraic.and_one e
  obtain ⟨h012, h3⟩ := Algebraic.and_one h0123
  obtain ⟨h01, h2⟩ := Algebraic.and_one h012
  obtain ⟨h0, h1⟩ := Algebraic.and_one h01
  exact ⟨fun y => Algebraic.real_of_lt _ (Host.reduce_andi_all _ _ _ _ _ h0 y), fun y => Algebraic.real_of_lt _ (Host.reduce_andi_all _ _ _ _ _ h1 y),
    fun y => Algebraic.real_of_lt _ (Host.reduce_andi_all _ _ _ _ _ h2 y), fun y => Algebraic.real_of_lt _ (Host.reduce_andi_all _ _ _ _ _ h3 y),
    fun y => Algebraic.real_of_lt _ (Host.reduce_andi_all _ _ _ _ _ h4 y)⟩

theorem r_real (h2 : ∀ y, X2 m c y ≠ ⊤ ∧ X2 m c y ≠ ⊥) (h3 : ∀ y, X3 m c y ≠ ⊤ ∧ X3 m c y ≠ ⊥) (i : Fin 8192) : RealRow (R m c i) :=
  realRow fun k => ne_of_coe (by
    obtain ⟨a, ha⟩ := coe_of_ne (h2 (ix2 i k))
    obtain ⟨b, hb⟩ := coe_of_ne (h3 (ix2 i k))
    exact ⟨a + b, by rw [R, ha, hb, EReal.coe_add]⟩)

theorem d_real (h0 : ∀ y, X0 m c y ≠ ⊤ ∧ X0 m c y ≠ ⊥) (h1 : ∀ y, X1 m c y ≠ ⊤ ∧ X1 m c y ≠ ⊥) (i : Fin 8192) : RealRow (D m c i) :=
  realRow fun j => ne_of_coe (by
    choose a ha using fun k : Fin 1024 => coe_of_ne (h0 (ix2 i k))
    choose b hb using fun k : Fin 1024 => coe_of_ne (h1 (ix2 j k))
    exact ⟨∑ k, a k * b k, by rw [D, Soft.coe_sum]; exact Finset.sum_congr rfl fun k _ => by rw [ha, hb, EReal.coe_mul]⟩)

/-- The logistic function as the reference spells it. -/
theorem logistic_e (x : EReal) : Ideal.div 1 (1 + Ideal.exp (-x)) = Ideal.logistic x := rfl

set_option maxHeartbeats 4000000 in
/-- The kernel's gradients are the reference's. -/
theorem algebraic : @Cert.algebraic_Kernel22Ideal_Reference22Ideal_pre_finite22 Cert.Kernel22Ideal.Gen.facts Cert.Reference22Ideal.Gen.facts Cert.Pre_finite22.Gen.facts :=
  fun m g m' g' hp hm => ⟨fun c => (dats m 0 c).arrAt 5 cfg0.N, fun c => (dats m 0 c).arrAt 6 cfg0.N,
    Cert.Kernel22Ideal.Value.run_blocks m g,
    (θ_run _ _ _).mono (fun r h c => by
      obtain ⟨h0, h1, h2, h3, h4⟩ := hm c
      refine ⟨(h c).1.trans ?_, (h c).2.1.trans ?_, (h c).2.2⟩
      · unfold Cert.Reference22Ideal.Value.res_main_v42
        rw [h0, h1, h2, h3, h4]
        refine Eq.trans ?_ (arr5 m c).symm
        funext y
        obtain ⟨i, j, rfl⟩ : ∃ (i : Fin 8192) (j : Fin 1024), y = ix2 i j := ⟨y 0, y 1, (ix2_eta y).symm⟩
        pointwise
        simp only [div_128, Fin.sum_univ_one, logistic_e]
        obtain ⟨r0, r1, r2, r3, r4⟩ := reals m c (hp c)
        refine Eq.trans ?_ (dRef_eq (r_real m c r2 r3 i) (realRow fun k => r4 _) (d_real m c r0 r1 i) j)
        simp only [dRef, spread, rho, head, cot, R, G, D, col, colG]
      · rw [h0, h1, h2, h3, h4]
        refine Eq.trans ?_ (arr6 m c).symm
        funext y
        obtain ⟨i, j, rfl⟩ : ∃ (i : Fin 8192) (j : Fin 1024), y = ix2 i j := ⟨y 0, y 1, (ix2_eta y).symm⟩
        pointwise
        simp only [div_128, logistic_e]
        simp only [dGate, rho, head, R, G, D, col, colG]) (Cert.Reference22Ideal.Value.run (F := Ideal) m' g')⟩

/-- On the chip's words the two printed kernels have one body table. -/
theorem defs_eq : Cert.Kernel22.defs (F := Bits) = Cert.Kernel22Ideal.defs (F := Bits) := by
  have h : Cert.Kernel22.defs₀ (F := Bits) = Cert.Kernel22Ideal.defs₀ (F := Bits) := by
    unfold Cert.Kernel22.defs₀ Cert.Kernel22Ideal.defs₀
    refine congrArg Defs.onTc ?_
    funext l x
    match l, x with
    | 0, (t, s) => rfl
  show Pipeline.defs (Cert.Kernel22.pcfgs (F := Bits)) (Cert.Kernel22.defs₀ (F := Bits)) = _
  rw [h]
  rfl

/-- The kernel's frame on the chip's words: its text is `Kernel22Ideal`'s, so one run serves both. -/
theorem frame_kernel : @Cert.quiescent_Kernel22 Cert.Kernel22.Gen.facts := fun m g _ => by
  have h := Cert.Kernel22Ideal.Gen.frame (F := Bits) m g
  rw [← defs_eq] at h
  exact h

/-- The same frame over the extended reals. -/
theorem frame_ideal : @Cert.quiescent_Kernel22Ideal Cert.Kernel22Ideal.Gen.facts := fun m g _ =>
  Cert.Kernel22Ideal.Gen.frame m g

/-- The reference's frame. -/
theorem frame_ref : @Cert.quiescent_Reference22Ideal Cert.Reference22Ideal.Gen.facts := fun m g _ =>
  (θ_run _ _ _).mono (fun r h => ⟨fun c => (h c).2.2, sem_eq_zero_of_no_sems (by decide) r.2⟩) (Cert.Reference22Ideal.Value.run m g)

/-- The kernel's frame, restated of arguments the precondition holds of. -/
theorem frame_ideal_finite : @Cert.quiescent_Kernel22Ideal_pre_finite22 Cert.Kernel22Ideal.Gen.facts Cert.Pre_finite22.Gen.facts :=
  fun m g _ => frame_ideal m g trivial

/-- The reference's frame, restated of arguments the precondition holds of. -/
theorem frame_ref_finite : @Cert.quiescent_Reference22Ideal_pre_finite22 Cert.Reference22Ideal.Gen.facts Cert.Pre_finite22.Gen.facts :=
  fun m g _ => frame_ref m g trivial

end Cert.Proof.DRetPost

end
-- ==== Proof.lean ====
module

public import proofs.«01_k».proof.Defs
public import proofs.«01_k».proof.Proof.Frames
public import proofs.«01_k».proof.Proof.Algebraic
public import proofs.«01_k».proof.Proof.DAct
public import proofs.«01_k».proof.Proof.DWGateUp
public import proofs.«01_k».proof.Proof.DHTwo
public import proofs.«01_k».proof.Proof.DWDown
public import proofs.«01_k».proof.Proof.DWIn
public import proofs.«01_k».proof.Proof.DH
public import proofs.«01_k».proof.Proof.DWOut
public import proofs.«01_k».proof.Proof.DMerge
public import proofs.«01_k».proof.Proof.DOAttn
public import proofs.«01_k».proof.Proof.GateUp
public import proofs.«01_k».proof.Proof.InProj
public import proofs.«01_k».proof.Proof.DownLoss
public import proofs.«01_k».proof.Proof.MlaOut
public import proofs.«01_k».proof.Proof.RetOut
public import proofs.«01_k».proof.Proof.OutProj
public import proofs.«01_k».proof.Proof.SameCalls
public import proofs.«01_k».proof.Proof.InMla
public import proofs.«01_k».proof.Proof.RmsMix
public import proofs.«01_k».proof.Proof.RetPost
public import proofs.«01_k».proof.Proof.DRetPost

@[expose] public section

noncomputable section

namespace Cert.Proof

/-- The frames of every printed kernel and reference; that each kernel at the extended reals is the printed one, its constant
named where it has one; that of real arguments the attention gradient's results are the reference's; and that of any
arguments the other twenty calls' results are theirs. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Pre_finite.Gen.facts, Cert.Pre_finite22.Gen.facts,
    Frames.frame_kernel, Frames.frame_ideal, Algebraic.frame_ideal_finite, Frames.frame_ref, Algebraic.frame_ref_finite,
    DAct.frame_kernel, DAct.frame_ideal, DAct.frame_ref,
    DWGateUp.frame_kernel, DWGateUp.frame_ideal, DWGateUp.frame_ref,
    DHTwo.frame_kernel, DHTwo.frame_ideal, DHTwo.frame_ref,
    DWDown.frame_kernel, DWDown.frame_ideal, DWDown.frame_ref,
    DWIn.frame_kernel, DWIn.frame_ideal, DWIn.frame_ref,
    DH.frame_kernel, DH.frame_ideal, DH.frame_ref,
    DWOut.frame_kernel, DWOut.frame_ideal, DWOut.frame_ref,
    DMerge.frame_kernel, DMerge.frame_ideal, DMerge.frame_ref,
    DOAttn.frame_kernel, DOAttn.frame_ideal, DOAttn.frame_ref,
    GateUp.frame_kernel, GateUp.frame_ideal, GateUp.frame_ref,
    InProj.frame_kernel, InProj.frame_ideal, InProj.frame_ref,
    DownLoss.frame_kernel, DownLoss.frame_ideal, DownLoss.frame_ref,
    MlaOut.frame_kernel, MlaOut.frame_ideal, MlaOut.frame_ref,
    RetOut.frame_kernel, RetOut.frame_ideal, RetOut.frame_ref,
    OutProj.frame_kernel, OutProj.frame_ideal, OutProj.frame_ref,
    SameCalls.frame_kernel_ret, SameCalls.frame_ideal_ret, SameCalls.frame_ref_ret,
    SameCalls.frame_kernel_mla, SameCalls.frame_ideal_mla, SameCalls.frame_ref_mla,
    InMla.frame_kernel, InMla.frame_ideal, InMla.frame_ref,
    RmsMix.frame_kernel, RmsMix.frame_ideal, RmsMix.frame_ref,
    RetPost.frame_kernel, RetPost.frame_ideal, RetPost.frame_ref,
    DRetPost.frame_kernel, DRetPost.frame_ideal, DRetPost.frame_ideal_finite, DRetPost.frame_ref, DRetPost.frame_ref_finite,
    Frames.preserves, Algebraic.algebraic,
    trivial, DAct.algebraic, trivial, DWGateUp.algebraic, trivial, DHTwo.algebraic, trivial, DWDown.algebraic, trivial, DWIn.algebraic, trivial, DH.algebraic,
    trivial, DWOut.algebraic, trivial, DMerge.algebraic, trivial, DOAttn.algebraic, trivial, GateUp.algebraic, trivial, InProj.algebraic,
    trivial, DownLoss.algebraic, trivial, MlaOut.algebraic, trivial, RetOut.algebraic, trivial, OutProj.algebraic,
    trivial, SameCalls.algebraic_ret, trivial, SameCalls.algebraic_mla,
    trivial, InMla.algebraic, trivial, RmsMix.algebraic, trivial, RetPost.algebraic,
    trivial, DRetPost.algebraic⟩

end Cert.Proof

end
